-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_forward [hPre_finite_forward : Cert.Pre_finite_forward.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_forward.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_forward [hPre_finite_forward : Cert.Pre_finite_forward.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_forward.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite_forward [hKernel11Ideal : Cert.Kernel11Ideal.Facts] [hPre_finite_forward : Cert.Pre_finite_forward.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_forward m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite_forward [hReference11Ideal : Cert.Reference11Ideal.Facts] [hPre_finite_forward : Cert.Pre_finite_forward.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_forward m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def preserves_Kernel_KernelIdeal : Prop :=
  IdealRules.named_const.Statement Cert.KernelIdeal.κ "q_factor" .f32 0x3E16C740#32 (((3424635 / 33554432) * (Real.log 2)⁻¹ : ℝ) : EReal)
  ∧ IdealRules.named_const.Statement Cert.KernelIdeal.κ "ln2" .f32 0x3F317218#32 ((Real.log 2 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_v53) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "q_factor" .f32 0x3E16C740#32 (((3424635 / 33554432) * (Real.log 2)⁻¹ : ℝ) : EReal)
  ∧ IdealRules.named_const.Statement Cert.Kernel11Ideal.κ "inv_ln2" .f32 0x3FB8AA3B#32 (((Real.log 2)⁻¹ : ℝ) : EReal)

def algebraic_Kernel11Ideal_Reference11Ideal_pre_finite_forward [hKernel11Ideal : Cert.Kernel11Ideal.Facts] [hReference11Ideal : Cert.Reference11Ideal.Facts] [hPre_finite_forward : Cert.Pre_finite_forward.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_forward m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)) (v3 : (c : Dev Cert.Kernel27Ideal.nD) → Buf (Elt Ideal) ((c.tc : Thread Cert.Kernel27Ideal.nD Cert.Kernel27Ideal.τ).loc Cert.Kernel27Ideal.main_v1_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_v1_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v20) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v52) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_forward (hKernel11Ideal := hKernel11Ideal) (hPre_finite_forward := hPre_finite_forward)
    ∧ quiescent_Reference11Ideal (hReference11Ideal := hReference11Ideal)
    ∧ quiescent_Reference11Ideal_pre_finite_forward (hReference11Ideal := hReference11Ideal) (hPre_finite_forward := hPre_finite_forward)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_forward (hKernel11Ideal := hKernel11Ideal) (hReference11Ideal := hReference11Ideal) (hPre_finite_forward := hPre_finite_forward)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8x8192x96 : Shape := ⟨3, ![8, 8192, 96]⟩
abbrev S8x8192x64 : Shape := ⟨3, ![8, 8192, 64]⟩
abbrev S8x256x96 : Shape := ⟨3, ![8, 256, 96]⟩
abbrev S8x256x64 : Shape := ⟨3, ![8, 256, 64]⟩
abbrev S_ : Shape := ⟨0, ![]⟩

class Facts : Prop where
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_
  bcast_S_S8x256x96 : S_.BroadcastsInDim S8x256x96 (![] : Fin 0 → Fin S8x256x96.rank)
  reducesTo_S8x256x96_S_d0_1_2 : S8x256x96.ReducesTo [0, 1, 2] S_
  bcast_S_S8x256x64 : S_.BroadcastsInDim S8x256x64 (![] : Fin 0 → Fin S8x256x64.rank)
  reducesTo_S8x256x64_S_d0_1_2 : S8x256x64.ReducesTo [0, 1, 2] S_

variable [Facts]

def fn_part1 {F : FTy → Type} [FloatOps F] (main_arg4 : FVec F S8x256x64 .f32) (main_arg5 : FVec F S8x8192x64 .f32) (main_v13 : IVec S_ 1) (main_v16 : IVec S8x256x96 1) : IVec S_ 1 :=
  let main_c_5 : IVec S_ 1 := constantI S_ 1 1#1
  let main_v17 : IVec S_ 1 := (fun x v => Host.reduce IntOp.andi x v reducesTo_S8x256x96_S_d0_1_2 h_S_) main_v16 main_c_5
  let main_v18 : IVec S_ 1 := andi main_v13 main_v17
  let main_v19 : FVec F S8x256x64 .f32 := Host.absf main_arg4
  let main_cst_6 : FVec F S_ .f32 := constant S_ .f32 0x7F800000#32
  let main_v20 : FVec F S8x256x64 .f32 := broadcastInDim S8x256x64 ![] bcast_S_S8x256x64 main_cst_6
  let main_v21 : IVec S8x256x64 1 := cmpf .olt main_v19 main_v20
  let main_c_7 : IVec S_ 1 := constantI S_ 1 1#1
  let main_v22 : IVec S_ 1 := (fun x v => Host.reduce IntOp.andi x v reducesTo_S8x256x64_S_d0_1_2 h_S_) main_v21 main_c_7
  let main_v23 : IVec S_ 1 := andi main_v18 main_v22
  let main_v24 : FVec F S8x8192x64 .f32 := Host.absf main_arg5
  let main_cst_8 : FVec F S_ .f32 := constant S_ .f32 0x7F800000#32
  let main_v25 : FVec F S8x8192x64 .f32 := broadcastInDim S8x8192x64 ![] bcast_S_S8x8192x64 main_cst_8
  let main_v26 : IVec S8x8192x64 1 := cmpf .olt main_v24 main_v25
  let main_c_9 : IVec S_ 1 := constantI S_ 1 1#1
  let main_v27 : IVec S_ 1 := (fun x v => Host.reduce IntOp.andi x v reducesTo_S8x8192x64_S_d0_1_2 h_S_) main_v26 main_c_9
  let main_v28 : IVec S_ 1 := andi main_v23 main_v27
  main_v28

def fn {F : FTy → Type} [FloatOps F] (main_arg0 : FVec F S8x8192x96 .f32) (main_arg1 : FVec F S8x8192x96 .f32) (main_arg2 : FVec F S8x8192x64 .f32) (main_arg3 : FVec F S8x256x96 .f32) (main_arg4 : FVec F S8x256x64 .f32) (main_arg5 : FVec F S8x8192x64 .f32) : IVec S_ 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_c : IVec S_ 1 := constantI S_ 1 1#1
  let main_v3 : IVec S_ 1 := (fun x v => Host.reduce IntOp.andi x v reducesTo_S8x8192x96_S_d0_1_2 h_S_) main_v2 main_c
  let main_v4 : FVec F S8x8192x96 .f32 := Host.absf main_arg1
  let main_cst_0 : FVec F S_ .f32 := constant S_ .f32 0x7F800000#32
  let main_v5 : FVec F S8x8192x96 .f32 := broadcastInDim S8x8192x96 ![] bcast_S_S8x8192x96 main_cst_0
  let main_v6 : IVec S8x8192x96 1 := cmpf .olt main_v4 main_v5
  let main_c_1 : IVec S_ 1 := constantI S_ 1 1#1
  let main_v7 : IVec S_ 1 := (fun x v => Host.reduce IntOp.andi x v reducesTo_S8x8192x96_S_d0_1_2 h_S_) main_v6 main_c_1
  let main_v8 : IVec S_ 1 := andi main_v3 main_v7
  let main_v9 : FVec F S8x8192x64 .f32 := Host.absf main_arg2
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  let main_c_3 : IVec S_ 1 := constantI S_ 1 1#1
  let main_v12 : IVec S_ 1 := (fun x v => Host.reduce IntOp.andi x v reducesTo_S8x8192x64_S_d0_1_2 h_S_) main_v11 main_c_3
  let main_v13 : IVec S_ 1 := andi main_v8 main_v12
  let main_v14 : FVec F S8x256x96 .f32 := Host.absf main_arg3
  let main_cst_4 : FVec F S_ .f32 := constant S_ .f32 0x7F800000#32
  let main_v15 : FVec F S8x256x96 .f32 := broadcastInDim S8x256x96 ![] bcast_S_S8x256x96 main_cst_4
  let main_v16 : IVec S8x256x96 1 := cmpf .olt main_v14 main_v15
  fn_part1 (F := F) main_arg4 main_arg5 main_v13 main_v16
-- ==== Pre_finite_forward.lean ====
abbrev S8x8192x96 : Shape := ⟨3, ![8, 8192, 96]⟩
abbrev S8x8192x64 : Shape := ⟨3, ![8, 8192, 64]⟩
abbrev S8x256x96 : Shape := ⟨3, ![8, 256, 96]⟩
abbrev S8x256x64 : Shape := ⟨3, ![8, 256, 64]⟩
abbrev S_ : Shape := ⟨0, ![]⟩

class Facts : Prop where
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel
  bcast_S_S8x256x96 : S_.BroadcastsInDim S8x256x96 (![] : Fin 0 → Fin S8x256x96.rank)
  reducesTo_S8x256x96_S_d0_1_2 : S8x256x96.ReducesTo [0, 1, 2] S_

variable [Facts]

def fn {F : FTy → Type} [FloatOps F] (main_arg0 : FVec F S8x8192x96 .f32) (main_arg1 : FVec F S8x8192x96 .f32) (main_arg2 : FVec F S8x8192x64 .f32) (main_arg3 : FVec F S8x256x96 .f32) (main_arg4 : FVec F S8x256x64 .f32) : IVec S_ 1 :=
  let main_v0 : FVec F S8x8192x96 .f32 := Host.absf main_arg0
  let main_cst : FVec F S_ .f32 := constant S_ .f32 0x7F800000#32
  let main_v1 : FVec F S8x8192x96 .f32 := broadcastInDim S8x8192x96 ![] bcast_S_S8x8192x96 main_cst
  let main_v2 : IVec S8x8192x96 1 := cmpf .olt main_v0 main_v1
  let main_c : IVec S_ 1 := constantI S_ 1 1#1
  let main_v3 : IVec S_ 1 := (fun x v => Host.reduce IntOp.andi x v reducesTo_S8x8192x96_S_d0_1_2 h_S_) main_v2 main_c
  let main_v4 : FVec F S8x8192x96 .f32 := Host.absf main_arg1
  let main_cst_0 : FVec F S_ .f32 := constant S_ .f32 0x7F800000#32
  let main_v5 : FVec F S8x8192x96 .f32 := broadcastInDim S8x8192x96 ![] bcast_S_S8x8192x96 main_cst_0
  let main_v6 : IVec S8x8192x96 1 := cmpf .olt main_v4 main_v5
  let main_c_1 : IVec S_ 1 := constantI S_ 1 1#1
  let main_v7 : IVec S_ 1 := (fun x v => Host.reduce IntOp.andi x v reducesTo_S8x8192x96_S_d0_1_2 h_S_) main_v6 main_c_1
  let main_v8 : IVec S_ 1 := andi main_v3 main_v7
  let main_v9 : FVec F S8x256x96 .f32 := Host.absf main_arg3
  let main_cst_2 : FVec F S_ .f32 := constant S_ .f32 0x7F800000#32
  let main_v10 : FVec F S8x256x96 .f32 := broadcastInDim S8x256x96 ![] bcast_S_S8x256x96 main_cst_2
  let main_v11 : IVec S8x256x96 1 := cmpf .olt main_v9 main_v10
  let main_c_3 : IVec S_ 1 := constantI S_ 1 1#1
  let main_v12 : IVec S_ 1 := (fun x v => Host.reduce IntOp.andi x v reducesTo_S8x256x96_S_d0_1_2 h_S_) main_v11 main_c_3
  let main_v13 : IVec S_ 1 := andi main_v8 main_v12
  main_v13
-- ==== Kernel.lean ====
abbrev S8x8192x96 : Shape := ⟨3, ![8, 8192, 96]⟩
abbrev S8x8192x64 : Shape := ⟨3, ![8, 8192, 64]⟩
abbrev S8x256x96 : Shape := ⟨3, ![8, 256, 96]⟩
abbrev S8x256x64 : Shape := ⟨3, ![8, 256, 64]⟩
abbrev S8x8448x96 : Shape := ⟨3, ![8, 8448, 96]⟩
abbrev S8x8448x64 : Shape := ⟨3, ![8, 8448, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S1x1024x96 : Shape := ⟨3, ![1, 1024, 96]⟩
abbrev S1x1024x64 : Shape := ⟨3, ![1, 1024, 64]⟩
abbrev S1x256x96 : Shape := ⟨3, ![1, 256, 96]⟩
abbrev S1x256x64 : Shape := ⟨3, ![1, 256, 64]⟩
abbrev S1x1024x1 : Shape := ⟨3, ![1, 1024, 1]⟩
abbrev S1x8192x96 : Shape := ⟨3, ![1, 8192, 96]⟩
abbrev S1024x96 : Shape := ⟨2, ![1024, 96]⟩
abbrev S1024x64 : Shape := ⟨2, ![1024, 64]⟩
abbrev S256x96 : Shape := ⟨2, ![256, 96]⟩
abbrev S256x64 : Shape := ⟨2, ![256, 64]⟩
abbrev S1024x256 : Shape := ⟨2, ![1024, 256]⟩
abbrev S1024x1 : Shape := ⟨2, ![1024, 1]⟩
abbrev S1024 : Shape := ⟨1, ![1024]⟩
abbrev S1024x1024 : Shape := ⟨2, ![1024, 1024]⟩

abbrev nBuf : Space → Nat
  | .hbm => 35
  | .vmem => 28
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x256x96, .f32⟩
  | .hbm, ⟨4, _⟩ => ⟨S8x256x64, .f32⟩
  | .hbm, ⟨5, _⟩ => ⟨S8x8192x64, .f32⟩
  | .hbm, ⟨6, _⟩ => ⟨S8x8448x96, .f32⟩
  | .hbm, ⟨7, _⟩ => ⟨S8x8448x64, .f32⟩
  | .hbm, ⟨8, _⟩ => ⟨S8x8192x8448, .f32⟩
  | .hbm, ⟨9, _⟩ => ⟨S_, .f32⟩
  | .hbm, ⟨10, _⟩ => ⟨S8x8192x8448, .f32⟩
  | .hbm, ⟨11, _⟩ => ⟨S8x8192x8448, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S8x8192x8448, .f32⟩
  | .hbm, ⟨16, _⟩ => ⟨S8x8192x8448, .f32⟩
  | .hbm, ⟨17, _⟩ => ⟨S8x8192x8448, .f32⟩
  | .hbm, ⟨18, _⟩ => ⟨S_, .f32⟩
  | .hbm, ⟨19, _⟩ => ⟨S8x8192, .f32⟩
  | .hbm, ⟨20, _⟩ => ⟨S8x8192x1, .f32⟩
  | .hbm, ⟨21, _⟩ => ⟨S8x8192x8448, .f32⟩
  | .hbm, ⟨22, _⟩ => ⟨S8x8192x8448, .f32⟩
  | .hbm, ⟨23, _⟩ => ⟨S8x8192x64, .f32⟩
  | .hbm, ⟨24, _⟩ => ⟨S8x8192x1, .f32⟩
  | .hbm, ⟨25, _⟩ => ⟨S8x8192x1, .f32⟩
  | .hbm, ⟨26, _⟩ => ⟨S_, .f32⟩
  | .hbm, ⟨27, _⟩ => ⟨S_, .f32⟩
  | .hbm, ⟨28, _⟩ => ⟨S8x8192x1, .f32⟩
  | .hbm, ⟨29, _⟩ => ⟨S8x8192x1, .f32⟩
  | .hbm, ⟨30, _⟩ => ⟨S8x8192x96, .f32⟩
  | .hbm, ⟨31, _⟩ => ⟨S8x8192x96, .f32⟩
  | .hbm, ⟨32, _⟩ => ⟨S8x8192x64, .f32⟩
  | .hbm, ⟨33, _⟩ => ⟨S8x256x96, .f32⟩
  | .hbm, ⟨34, _⟩ => ⟨S8x256x64, .f32⟩
  | .local _ .vmem, ⟨0, _⟩ => ⟨S1x1024x96, .f32⟩
  | .local _ .vmem, ⟨1, _⟩ => ⟨S1x1024x96, .f32⟩
  | .local _ .vmem, ⟨2, _⟩ => ⟨S1x1024x96, .f32⟩
  | .local _ .vmem, ⟨3, _⟩ => ⟨S1x1024x96, .f32⟩
  | .local _ .vmem, ⟨4, _⟩ => ⟨S1x1024x64, .f32⟩
  | .local _ .vmem, ⟨5, _⟩ => ⟨S1x1024x64, .f32⟩
  | .local _ .vmem, ⟨6, _⟩ => ⟨S1x256x96, .f32⟩
  | .local _ .vmem, ⟨7, _⟩ => ⟨S1x256x96, .f32⟩
  | .local _ .vmem, ⟨8, _⟩ => ⟨S1x256x64, .f32⟩
  | .local _ .vmem, ⟨9, _⟩ => ⟨S1x256x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x64, .f32⟩
  | .local _ .vmem, ⟨15, _⟩ => ⟨S1x1024x64, .f32⟩
  | .local _ .vmem, ⟨16, _⟩ => ⟨S1x8192x96, .f32⟩
  | .local _ .vmem, ⟨17, _⟩ => ⟨S1x8192x96, .f32⟩
  | .local _ .vmem, ⟨18, _⟩ => ⟨S1x1024x96, .f32⟩
  | .local _ .vmem, ⟨19, _⟩ => ⟨S1x1024x96, .f32⟩
  | .local _ .vmem, ⟨20, _⟩ => ⟨S1x1024x64, .f32⟩
  | .local _ .vmem, ⟨21, _⟩ => ⟨S1x1024x64, .f32⟩
  | .local _ .vmem, ⟨22, _⟩ => ⟨S1x256x96, .f32⟩
  | .local _ .vmem, ⟨23, _⟩ => ⟨S1x256x96, .f32⟩
  | .local _ .vmem, ⟨24, _⟩ => ⟨S1x256x64, .f32⟩
  | .local _ .vmem, ⟨25, _⟩ => ⟨S1x256x64, .f32⟩
  | .local _ .vmem, ⟨26, _⟩ => ⟨S1024x96, .f32⟩
  | .local _ .vmem, ⟨27, _⟩ => ⟨S1024x64, .f32⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 9, 8], ![false, false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def k0_mult1 (i : grid0.Coords) : BitVec 32 :=
  let arg2 : BitVec 32 := BitVec.ofNat 32 (i 2).val
  let c1024_i32 : BitVec 32 := 1024#32
  let v71 : BitVec 32 := Scalar.muli arg2 c1024_i32
  v71
def k0_off1 (i : grid0.Coords) : Fin 3 → Nat :=
  let c0_44 : Index := 0#32
  let arg2 : BitVec 32 := BitVec.ofNat 32 (i 2).val
  let c1024_i32 : BitVec 32 := 1024#32
  let v71 : BitVec 32 := Scalar.muli arg2 c1024_i32
  let v72 : BitVec 32 := v71
  let v73 : Index := Scalar.indexCast v72
  let c0_45 : Index := 0#32
  ![0, v73.toNat, 0]
def k0_cond4 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .ne v12 c0_i32_7
  v13

def k0_mult2 (i : grid0.Coords) : BitVec 32 :=
  let arg2 : BitVec 32 := BitVec.ofNat 32 (i 2).val
  let c1024_i32 : BitVec 32 := 1024#32
  let v71 : BitVec 32 := Scalar.muli arg2 c1024_i32
  v71
def k0_off2 (i : grid0.Coords) : Fin 3 → Nat :=
  let c0_44 : Index := 0#32
  let arg2 : BitVec 32 := BitVec.ofNat 32 (i 2).val
  let c1024_i32 : BitVec 32 := 1024#32
  let v71 : BitVec 32 := Scalar.muli arg2 c1024_i32
  let v72 : BitVec 32 := v71
  let v73 : Index := Scalar.indexCast v72
  let c0_45 : Index := 0#32
  ![0, v73.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg2 : BitVec 32 := BitVec.ofNat 32 (i 2).val
  let c7_i32_10 : BitVec 32 := 7#32
  let v19 : BitVec 1 := Scalar.cmpi .eq arg2 c7_i32_10
  let arg1 : BitVec 32 := BitVec.ofNat 32 (i 1).val
  let c0_i32_11 : BitVec 32 := 0#32
  let v20 : BitVec 1 := Scalar.cmpi .sgt arg1 c0_i32_11
  let v21 : BitVec 1 := Scalar.andi v19 v20
  let v22 : BitVec 32 := Scalar.extui v21
  let c0_i32_12 : BitVec 32 := 0#32
  let v23 : BitVec 1 := Scalar.cmpi .ne v22 c0_i32_12
  v23

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let arg1 : BitVec 32 := BitVec.ofNat 32 (i 1).val
  let c0_i32_8 : BitVec 32 := 0#32
  let v15 : BitVec 1 := Scalar.cmpi .eq arg1 c0_i32_8
  let v16 : BitVec 1 := Scalar.andi v14 v15
  let v17 : BitVec 32 := Scalar.extui v16
  let c0_i32_9 : BitVec 32 := 0#32
  let v18 : BitVec 1 := Scalar.cmpi .ne v17 c0_i32_9
  v18

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x8192x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1024x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x256x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== KernelIdeal.lean ====
variable {F : FTy → Type} [FloatOps F] [Named F]
def κ : String → Option EReal := fun
  | "ln2" => some ((Real.log 2 : ℝ) : EReal)
  | "q_factor" => some (((3424635 / 33554432) * (Real.log 2)⁻¹ : ℝ) : EReal)
  | _ => none
-- ==== Reference.lean ====
abbrev S8x8192x96 : Shape := ⟨3, ![8, 8192, 96]⟩
abbrev S8x8192x64 : Shape := ⟨3, ![8, 8192, 64]⟩
abbrev S8x256x96 : Shape := ⟨3, ![8, 256, 96]⟩
abbrev S8x256x64 : Shape := ⟨3, ![8, 256, 64]⟩
abbrev S8x8448x96 : Shape := ⟨3, ![8, 8448, 96]⟩
abbrev S8x8448x64 : Shape := ⟨3, ![8, 8448, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩
abbrev S8x64x8448 : Shape := ⟨3, ![8, 64, 8448]⟩

abbrev nBuf : Space → Nat
  | .hbm => 77
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x256x96, .f32⟩
  | .hbm, ⟨4, _⟩ => ⟨S8x256x64, .f32⟩
  | .hbm, ⟨5, _⟩ => ⟨S8x8192x64, .f32⟩
  | .hbm, ⟨6, _⟩ => ⟨S8x8448x96, .f32⟩
  | .hbm, ⟨7, _⟩ => ⟨S8x8448x64, .f32⟩
  | .hbm, ⟨8, _⟩ => ⟨S8x8192x8448, .f32⟩
  | .hbm, ⟨9, _⟩ => ⟨S_, .f32⟩
  | .hbm, ⟨10, _⟩ => ⟨S8x8192x8448, .f32⟩
  | .hbm, ⟨11, _⟩ => ⟨S8x8192x8448, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S8x8192x8448, .f32⟩
  | .hbm, ⟨16, _⟩ => ⟨S8x8192x8448, .i1⟩
  | .hbm, ⟨17, _⟩ => ⟨S8x8192x8448, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S8x8192, .i1⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192, .f32⟩
  | .hbm, ⟨37, _⟩ => ⟨S8x8192x1, .f32⟩
  | .hbm, ⟨38, _⟩ => ⟨S8x8192x8448, .f32⟩
  | .hbm, ⟨39, _⟩ => ⟨S8x8192x8448, .f32⟩
  | .hbm, ⟨40, _⟩ => ⟨S8x8192x8448, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x8448, .f32⟩
  | .hbm, ⟨45, _⟩ => ⟨S8x8192x8448, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x64, .f32⟩
  | .hbm, ⟨51, _⟩ => ⟨S8x64x8448, .f32⟩
  | .hbm, ⟨52, _⟩ => ⟨S8x8448x64, .f32⟩
  | .hbm, ⟨53, _⟩ => ⟨S8x8192x8448, .f32⟩
  | .hbm, ⟨54, _⟩ => ⟨S8x8192x8448, .f32⟩
  | .hbm, ⟨55, _⟩ => ⟨S8x8192x8448, .f32⟩
  | .hbm, ⟨56, _⟩ => ⟨S8x8192x8448, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x1, .f32⟩
  | .hbm, ⟨61, _⟩ => ⟨S8x8192x8448, .f32⟩
  | .hbm, ⟨62, _⟩ => ⟨S8x8192x8448, .f32⟩
  | .hbm, ⟨63, _⟩ => ⟨S_, .f32⟩
  | .hbm, ⟨64, _⟩ => ⟨S8x8192, .f32⟩
  | .hbm, ⟨65, _⟩ => ⟨S8x8192x8448, .f32⟩
  | .hbm, ⟨66, _⟩ => ⟨S8x8192x8448, .f32⟩
  | .hbm, ⟨67, _⟩ => ⟨S8x8192x8448, .f32⟩
  | .hbm, ⟨68, _⟩ => ⟨S_, .f32⟩
  | .hbm, ⟨69, _⟩ => ⟨S8x8192x8448, .f32⟩
  | .hbm, ⟨70, _⟩ => ⟨S8x8192x8448, .f32⟩
  | .hbm, ⟨71, _⟩ => ⟨S8x8448x96, .f32⟩
  | .hbm, ⟨72, _⟩ => ⟨S8x8192x96, .f32⟩
  | .hbm, ⟨73, _⟩ => ⟨S8x256x64, .f32⟩
  | .hbm, ⟨74, _⟩ => ⟨S8x8192x64, .f32⟩
  | .hbm, ⟨75, _⟩ => ⟨S8x256x96, .f32⟩
  | .hbm, ⟨76, _⟩ => ⟨S8x8192x96, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel2.lean ====
abbrev S8448x1024 : Shape := ⟨2, ![8448, 1024]⟩
abbrev S1024x5632 : Shape := ⟨2, ![1024, 5632]⟩
abbrev S8448x5632 : Shape := ⟨2, ![8448, 5632]⟩
abbrev S768x1408 : Shape := ⟨2, ![768, 1408]⟩
abbrev S1024x1408 : Shape := ⟨2, ![1024, 1408]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x1024, .f32⟩
  | .local _ .vmem, ⟨0, _⟩ => ⟨S768x1408, .f32⟩
  | .local _ .vmem, ⟨1, _⟩ => ⟨S768x1408, .f32⟩
  | .local _ .vmem, ⟨2, _⟩ => ⟨S1024x1408, .f32⟩
  | .local _ .vmem, ⟨3, _⟩ => ⟨S1024x1408, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S1024x5632 : Shape := ⟨2, ![1024, 5632]⟩
abbrev S8448x5632 : Shape := ⟨2, ![8448, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .f32⟩
  | .hbm, ⟨4, _⟩ => ⟨S5632x1024, .f32⟩
  | .hbm, ⟨5, _⟩ => ⟨S1024x5632, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S1024x5632, .f32⟩
  | .local _ .vmem, ⟨0, _⟩ => ⟨S768x1024, .f32⟩
  | .local _ .vmem, ⟨1, _⟩ => ⟨S768x1024, .f32⟩
  | .local _ .vmem, ⟨2, _⟩ => ⟨S768x1408, .f32⟩
  | .local _ .vmem, ⟨3, _⟩ => ⟨S768x1408, .f32⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x1024 : Shape := ⟨2, ![8448, 1024]⟩
abbrev S1024x5632 : Shape := ⟨2, ![1024, 5632]⟩
abbrev S8448x5632 : Shape := ⟨2, ![8448, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .hbm, ⟨3, _⟩ => ⟨S8448x5632, .f32⟩
  | .hbm, ⟨4, _⟩ => ⟨S5632x1024, .f32⟩
  | .hbm, ⟨5, _⟩ => ⟨S1024x5632, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8448x2816 : Shape := ⟨2, ![8448, 2816]⟩
abbrev S2816x1024 : Shape := ⟨2, ![2816, 1024]⟩
abbrev S8448x1024 : Shape := ⟨2, ![8448, 1024]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x2816, .f32⟩
  | .local _ .vmem, ⟨0, _⟩ => ⟨S768x1024, .f32⟩
  | .local _ .vmem, ⟨1, _⟩ => ⟨S768x1024, .f32⟩
  | .local _ .vmem, ⟨2, _⟩ => ⟨S1408x1024, .f32⟩
  | .local _ .vmem, ⟨3, _⟩ => ⟨S1408x1024, .f32⟩
  | .local _ .vmem, ⟨4, _⟩ => ⟨S768x1408, .f32⟩
  | .local _ .vmem, ⟨5, _⟩ => ⟨S768x1408, .f32⟩
  | .local _ .vmem, ⟨6, _⟩ => ⟨S768x1408, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8448x2816 : Shape := ⟨2, ![8448, 2816]⟩
abbrev S2816x1024 : Shape := ⟨2, ![2816, 1024]⟩
abbrev S8448x1024 : Shape := ⟨2, ![8448, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S2816x1024, .f32⟩
  | .local _ .vmem, ⟨0, _⟩ => ⟨S768x1408, .f32⟩
  | .local _ .vmem, ⟨1, _⟩ => ⟨S768x1408, .f32⟩
  | .local _ .vmem, ⟨2, _⟩ => ⟨S768x1024, .f32⟩
  | .local _ .vmem, ⟨3, _⟩ => ⟨S768x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2816 : Shape := ⟨2, ![8448, 2816]⟩
abbrev S2816x1024 : Shape := ⟨2, ![2816, 1024]⟩
abbrev S8448x1024 : Shape := ⟨2, ![8448, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S8448x2816, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8448x1024 : Shape := ⟨2, ![8448, 1024]⟩
abbrev S1024x5120 : Shape := ⟨2, ![1024, 5120]⟩
abbrev S8448x5120 : Shape := ⟨2, ![8448, 5120]⟩
abbrev S768x1024 : Shape := ⟨2, ![768, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5120, .f32⟩
  | .hbm, ⟨2, _⟩ => ⟨S8448x5120, .f32⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .f32⟩
  | .local _ .vmem, ⟨3, _⟩ => ⟨S1024x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x1024 : Shape := ⟨2, ![8448, 1024]⟩
abbrev S1024x5120 : Shape := ⟨2, ![1024, 5120]⟩
abbrev S8448x5120 : Shape := ⟨2, ![8448, 5120]⟩
abbrev S5120x1024 : Shape := ⟨2, ![5120, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5120, .f32⟩
  | .hbm, ⟨2, _⟩ => ⟨S8448x5120, .f32⟩
  | .hbm, ⟨3, _⟩ => ⟨S8448x5120, .f32⟩
  | .hbm, ⟨4, _⟩ => ⟨S5120x1024, .f32⟩
  | .hbm, ⟨5, _⟩ => ⟨S1024x5120, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8448x1024 : Shape := ⟨2, ![8448, 1024]⟩
abbrev S1024x5120 : Shape := ⟨2, ![1024, 5120]⟩
abbrev S8448x5120 : Shape := ⟨2, ![8448, 5120]⟩
abbrev S768x1024 : Shape := ⟨2, ![768, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5120, .f32⟩
  | .hbm, ⟨2, _⟩ => ⟨S8448x5120, .f32⟩
  | .hbm, ⟨3, _⟩ => ⟨S1024x5120, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S1024x5120 : Shape := ⟨2, ![1024, 5120]⟩
abbrev S8448x5120 : Shape := ⟨2, ![8448, 5120]⟩
abbrev S5120x1024 : Shape := ⟨2, ![5120, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5120, .f32⟩
  | .hbm, ⟨2, _⟩ => ⟨S8448x5120, .f32⟩
  | .hbm, ⟨3, _⟩ => ⟨S8448x5120, .f32⟩
  | .hbm, ⟨4, _⟩ => ⟨S5120x1024, .f32⟩
  | .hbm, ⟨5, _⟩ => ⟨S1024x5120, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8448x1024 : Shape := ⟨2, ![8448, 1024]⟩
abbrev S1024x5632 : Shape := ⟨2, ![1024, 5632]⟩
abbrev S8448x5632 : Shape := ⟨2, ![8448, 5632]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | .local _ .vmem, ⟨0, _⟩ => ⟨S768x1024, .f32⟩
  | .local _ .vmem, ⟨1, _⟩ => ⟨S768x1024, .f32⟩
  | .local _ .vmem, ⟨2, _⟩ => ⟨S1024x512, .f32⟩
  | .local _ .vmem, ⟨3, _⟩ => ⟨S1024x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5632, .f32⟩
  | .hbm, ⟨2, _⟩ => ⟨S8448x5632, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S2816x512 : Shape := ⟨2, ![2816, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | .local _ .vmem, ⟨0, _⟩ => ⟨S768x2816, .f32⟩
  | .local _ .vmem, ⟨1, _⟩ => ⟨S768x2816, .f32⟩
  | .local _ .vmem, ⟨2, _⟩ => ⟨S2816x512, .f32⟩
  | .local _ .vmem, ⟨3, _⟩ => ⟨S2816x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S2816x1024, .f32⟩
  | .hbm, ⟨2, _⟩ => ⟨S8448x1024, .f32⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S8448x1024 : Shape := ⟨2, ![8448, 1024]⟩
abbrev S1024x5120 : Shape := ⟨2, ![1024, 5120]⟩
abbrev S8448x5120 : Shape := ⟨2, ![8448, 5120]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x5120, .f32⟩
  | .hbm, ⟨2, _⟩ => ⟨S8448x5120, .f32⟩
  | .local _ .vmem, ⟨0, _⟩ => ⟨S768x1024, .f32⟩
  | .local _ .vmem, ⟨1, _⟩ => ⟨S768x1024, .f32⟩
  | .local _ .vmem, ⟨2, _⟩ => ⟨S1024x512, .f32⟩
  | .local _ .vmem, ⟨3, _⟩ => ⟨S1024x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 10, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S1024x5120 : Shape := ⟨2, ![1024, 5120]⟩
abbrev S8448x5120 : Shape := ⟨2, ![8448, 5120]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x5120, .f32⟩
  | .hbm, ⟨2, _⟩ => ⟨S8448x5120, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8x8192x96 : Shape := ⟨3, ![8, 8192, 96]⟩
abbrev S8x8192x64 : Shape := ⟨3, ![8, 8192, 64]⟩
abbrev S8x256x96 : Shape := ⟨3, ![8, 256, 96]⟩
abbrev S8x256x64 : Shape := ⟨3, ![8, 256, 64]⟩
abbrev S8x8192x1 : Shape := ⟨3, ![8, 8192, 1]⟩
abbrev S1x1024x96 : Shape := ⟨3, ![1, 1024, 96]⟩
abbrev S1x1024x64 : Shape := ⟨3, ![1, 1024, 64]⟩
abbrev S1x256x96 : Shape := ⟨3, ![1, 256, 96]⟩
abbrev S1x256x64 : Shape := ⟨3, ![1, 256, 64]⟩
abbrev S1x1024x1 : Shape := ⟨3, ![1, 1024, 1]⟩
abbrev S1024x1 : Shape := ⟨2, ![1024, 1]⟩
abbrev S1024x128 : Shape := ⟨2, ![1024, 128]⟩
abbrev S1024x64 : Shape := ⟨2, ![1024, 64]⟩
abbrev S256x96 : Shape := ⟨2, ![256, 96]⟩
abbrev S256x64 : Shape := ⟨2, ![256, 64]⟩
abbrev S1024x96 : Shape := ⟨2, ![1024, 96]⟩
abbrev S1024x256 : Shape := ⟨2, ![1024, 256]⟩
abbrev S1024 : Shape := ⟨1, ![1024]⟩
abbrev S256x128 : Shape := ⟨2, ![256, 128]⟩
abbrev S1024x1024 : Shape := ⟨2, ![1024, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x256x96, .f32⟩
  | .hbm, ⟨4, _⟩ => ⟨S8x256x64, .f32⟩
  | .hbm, ⟨5, _⟩ => ⟨S8x8192x64, .f32⟩
  | .hbm, ⟨6, _⟩ => ⟨S8x8192x1, .f32⟩
  | .local _ .vmem, ⟨0, _⟩ => ⟨S1x1024x96, .f32⟩
  | .local _ .vmem, ⟨1, _⟩ => ⟨S1x1024x96, .f32⟩
  | .local _ .vmem, ⟨2, _⟩ => ⟨S1x1024x96, .f32⟩
  | .local _ .vmem, ⟨3, _⟩ => ⟨S1x1024x96, .f32⟩
  | .local _ .vmem, ⟨4, _⟩ => ⟨S1x1024x64, .f32⟩
  | .local _ .vmem, ⟨5, _⟩ => ⟨S1x1024x64, .f32⟩
  | .local _ .vmem, ⟨6, _⟩ => ⟨S1x256x96, .f32⟩
  | .local _ .vmem, ⟨7, _⟩ => ⟨S1x256x96, .f32⟩
  | .local _ .vmem, ⟨8, _⟩ => ⟨S1x256x64, .f32⟩
  | .local _ .vmem, ⟨9, _⟩ => ⟨S1x256x64, .f32⟩
  | .local _ .vmem, ⟨10, _⟩ => ⟨S1x1024x64, .f32⟩
  | .local _ .vmem, ⟨11, _⟩ => ⟨S1x1024x64, .f32⟩
  | .local _ .vmem, ⟨12, _⟩ => ⟨S1x1024x1, .f32⟩
  | .local _ .vmem, ⟨13, _⟩ => ⟨S1x1024x1, .f32⟩
  | .local _ .vmem, ⟨14, _⟩ => ⟨S1024x1, .f32⟩
  | .local _ .vmem, ⟨15, _⟩ => ⟨S1024x128, .f32⟩
  | .local _ .vmem, ⟨16, _⟩ => ⟨S1024x128, .bf16⟩
  | _, _ => ⟨S8x8192x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 9], ![false, false, false]⟩

def k0_cond4 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Kernel11Ideal.lean ====
variable {F : FTy → Type} [FloatOps F] [Named F]
def κ : String → Option EReal := fun
  | "inv_ln2" => some (((Real.log 2)⁻¹ : ℝ) : EReal)
  | "q_factor" => some (((3424635 / 33554432) * (Real.log 2)⁻¹ : ℝ) : EReal)
  | _ => none
-- ==== Reference11Ideal.lean ====
abbrev S8x8192x96 : Shape := ⟨3, ![8, 8192, 96]⟩
abbrev S8x8192x64 : Shape := ⟨3, ![8, 8192, 64]⟩
abbrev S8x256x96 : Shape := ⟨3, ![8, 256, 96]⟩
abbrev S8x256x64 : Shape := ⟨3, ![8, 256, 64]⟩
abbrev S8x8448x96 : Shape := ⟨3, ![8, 8448, 96]⟩
abbrev S8x8448x64 : Shape := ⟨3, ![8, 8448, 64]⟩
abbrev S8x8192x8448 : Shape := ⟨3, ![8, 8192, 8448]⟩
abbrev S_ : Shape := ⟨0, ![]⟩
abbrev S8x8192 : Shape := ⟨2, ![8, 8192]⟩
abbrev S8x8192x1 : Shape := ⟨3, ![8, 8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x96, .f32⟩
  | .hbm, ⟨1, _⟩ => ⟨S8x8192x96, .f32⟩
  | .hbm, ⟨2, _⟩ => ⟨S8x8192x64, .f32⟩
  | .hbm, ⟨3, _⟩ => ⟨S8x256x96, .f32⟩
  | .hbm, ⟨4, _⟩ => ⟨S8x256x64, .f32⟩
  | .hbm, ⟨5, _⟩ => ⟨S8x8448x96, .f32⟩
  | .hbm, ⟨6, _⟩ => ⟨S8x8448x64, .f32⟩
  | .hbm, ⟨7, _⟩ => ⟨S8x8192x8448, .f32⟩
  | .hbm, ⟨8, _⟩ => ⟨S_, .f32⟩
  | .hbm, ⟨9, _⟩ => ⟨S8x8192x8448, .f32⟩
  | .hbm, ⟨10, _⟩ => ⟨S8x8192x8448, .f32⟩
  | .hbm, ⟨11, _⟩ => ⟨S_, .f32⟩
  | .hbm, ⟨12, _⟩ => ⟨S8x8192, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S8x8192x1, .f32⟩
  | .hbm, ⟨17, _⟩ => ⟨S8x8192x8448, .f32⟩
  | .hbm, ⟨18, _⟩ => ⟨S8x8192x8448, .f32⟩
  | .hbm, ⟨19, _⟩ => ⟨S8x8192x8448, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8448, .f32⟩
  | .hbm, ⟨24, _⟩ => ⟨S8x8192x8448, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8448, .f32⟩
  | .hbm, ⟨29, _⟩ => ⟨S8x8192x8448, .f32⟩
  | .hbm, ⟨30, _⟩ => ⟨S8x8192x8448, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x64, .f32⟩
  | .hbm, ⟨35, _⟩ => ⟨S8x8192x1, .f32⟩
  | .hbm, ⟨36, _⟩ => ⟨S8x8192x1, .f32⟩
  | .hbm, ⟨37, _⟩ => ⟨S_, .f32⟩
  | .hbm, ⟨38, _⟩ => ⟨S_, .f32⟩
  | .hbm, ⟨39, _⟩ => ⟨S8x8192x1, .f32⟩
  | .hbm, ⟨40, _⟩ => ⟨S8x8192x1, .f32⟩
  | _, _ => ⟨S8x8192x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel12.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S1024x1024, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8448x1024 : Shape := ⟨2, ![8448, 1024]⟩
abbrev S1024x1024 : Shape := ⟨2, ![1024, 1024]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x512, .f32⟩
  | .local _ .vmem, ⟨3, _⟩ => ⟨S1024x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x1024 : Shape := ⟨2, ![8448, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .f32⟩
  | .hbm, ⟨2, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8448x512 : Shape := ⟨2, ![8448, 512]⟩
abbrev S512x2048 : Shape := ⟨2, ![512, 2048]⟩
abbrev S8448x2048 : Shape := ⟨2, ![8448, 2048]⟩
abbrev S768x1024 : Shape := ⟨2, ![768, 1024]⟩
abbrev S512x1024 : Shape := ⟨2, ![512, 1024]⟩
abbrev S768x512 : Shape := ⟨2, ![768, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | .hbm, ⟨3, _⟩ => ⟨S8448x512, .f32⟩
  | .local _ .vmem, ⟨0, _⟩ => ⟨S768x1024, .f32⟩
  | .local _ .vmem, ⟨1, _⟩ => ⟨S768x1024, .f32⟩
  | .local _ .vmem, ⟨2, _⟩ => ⟨S512x1024, .f32⟩
  | .local _ .vmem, ⟨3, _⟩ => ⟨S512x1024, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8448x512 : Shape := ⟨2, ![8448, 512]⟩
abbrev S512x2048 : Shape := ⟨2, ![512, 2048]⟩
abbrev S8448x2048 : Shape := ⟨2, ![8448, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | .hbm, ⟨3, _⟩ => ⟨S8448x2048, .f32⟩
  | .hbm, ⟨4, _⟩ => ⟨S2048x512, .f32⟩
  | .hbm, ⟨5, _⟩ => ⟨S512x2048, .f32⟩
  | .hbm, ⟨6, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8448x512 : Shape := ⟨2, ![8448, 512]⟩
abbrev S512x2048 : Shape := ⟨2, ![512, 2048]⟩
abbrev S8448x2048 : Shape := ⟨2, ![8448, 2048]⟩
abbrev S768x512 : Shape := ⟨2, ![768, 512]⟩
abbrev S768x1024 : Shape := ⟨2, ![768, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | .hbm, ⟨3, _⟩ => ⟨S512x2048, .f32⟩
  | .local _ .vmem, ⟨0, _⟩ => ⟨S768x512, .f32⟩
  | .local _ .vmem, ⟨1, _⟩ => ⟨S768x512, .f32⟩
  | .local _ .vmem, ⟨2, _⟩ => ⟨S768x1024, .f32⟩
  | .local _ .vmem, ⟨3, _⟩ => ⟨S768x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8448x512 : Shape := ⟨2, ![8448, 512]⟩
abbrev S512x2048 : Shape := ⟨2, ![512, 2048]⟩
abbrev S8448x2048 : Shape := ⟨2, ![8448, 2048]⟩
abbrev S2048x512 : Shape := ⟨2, ![2048, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | .hbm, ⟨3, _⟩ => ⟨S8448x2048, .f32⟩
  | .hbm, ⟨4, _⟩ => ⟨S2048x512, .f32⟩
  | .hbm, ⟨5, _⟩ => ⟨S512x2048, .f32⟩
  | .hbm, ⟨6, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8448x512 : Shape := ⟨2, ![8448, 512]⟩
abbrev S512x2048 : Shape := ⟨2, ![512, 2048]⟩
abbrev S8448x2048 : Shape := ⟨2, ![8448, 2048]⟩
abbrev S768x512 : Shape := ⟨2, ![768, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | .local _ .vmem, ⟨0, _⟩ => ⟨S768x512, .f32⟩
  | .local _ .vmem, ⟨1, _⟩ => ⟨S768x512, .f32⟩
  | .local _ .vmem, ⟨2, _⟩ => ⟨S512x512, .f32⟩
  | .local _ .vmem, ⟨3, _⟩ => ⟨S512x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8448x512 : Shape := ⟨2, ![8448, 512]⟩
abbrev S512x2048 : Shape := ⟨2, ![512, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x2048, .f32⟩
  | .hbm, ⟨2, _⟩ => ⟨S8448x2048, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8448x512 : Shape := ⟨2, ![8448, 512]⟩
abbrev S512x1024 : Shape := ⟨2, ![512, 1024]⟩
abbrev S8448x1024 : Shape := ⟨2, ![8448, 1024]⟩
abbrev S768x1024 : Shape := ⟨2, ![768, 1024]⟩
abbrev S768x512 : Shape := ⟨2, ![768, 512]⟩

abbrev nBuf : Space → Nat
  | .hbm => 4
  | .vmem => 6
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x512, .f32⟩
  | .local _ .vmem, ⟨0, _⟩ => ⟨S768x1024, .f32⟩
  | .local _ .vmem, ⟨1, _⟩ => ⟨S768x1024, .f32⟩
  | .local _ .vmem, ⟨2, _⟩ => ⟨S512x1024, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8448x512 : Shape := ⟨2, ![8448, 512]⟩
abbrev S512x1024 : Shape := ⟨2, ![512, 1024]⟩
abbrev S8448x1024 : Shape := ⟨2, ![8448, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x1024, .f32⟩
  | .hbm, ⟨4, _⟩ => ⟨S1024x512, .f32⟩
  | .hbm, ⟨5, _⟩ => ⟨S512x1024, .f32⟩
  | .hbm, ⟨6, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S8448x512 : Shape := ⟨2, ![8448, 512]⟩
abbrev S512x1024 : Shape := ⟨2, ![512, 1024]⟩
abbrev S8448x1024 : Shape := ⟨2, ![8448, 1024]⟩
abbrev S768x512 : Shape := ⟨2, ![768, 512]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S512x1024, .f32⟩
  | .local _ .vmem, ⟨0, _⟩ => ⟨S768x512, .f32⟩
  | .local _ .vmem, ⟨1, _⟩ => ⟨S768x512, .f32⟩
  | .local _ .vmem, ⟨2, _⟩ => ⟨S768x1024, .f32⟩
  | .local _ .vmem, ⟨3, _⟩ => ⟨S768x1024, .f32⟩
  | .local _ .vmem, ⟨4, _⟩ => ⟨S512x1024, .f32⟩
  | .local _ .vmem, ⟨5, _⟩ => ⟨S512x1024, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S8448x512 : Shape := ⟨2, ![8448, 512]⟩
abbrev S512x1024 : Shape := ⟨2, ![512, 1024]⟩
abbrev S8448x1024 : Shape := ⟨2, ![8448, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .hbm, ⟨3, _⟩ => ⟨S8448x1024, .f32⟩
  | .hbm, ⟨4, _⟩ => ⟨S1024x512, .f32⟩
  | .hbm, ⟨5, _⟩ => ⟨S512x1024, .f32⟩
  | .hbm, ⟨6, _⟩ => ⟨S8448x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8448x512 : Shape := ⟨2, ![8448, 512]⟩
abbrev S512x1024 : Shape := ⟨2, ![512, 1024]⟩
abbrev S8448x1024 : Shape := ⟨2, ![8448, 1024]⟩
abbrev S768x512 : Shape := ⟨2, ![768, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | .local _ .vmem, ⟨0, _⟩ => ⟨S768x512, .f32⟩
  | .local _ .vmem, ⟨1, _⟩ => ⟨S768x512, .f32⟩
  | .local _ .vmem, ⟨2, _⟩ => ⟨S512x512, .f32⟩
  | .local _ .vmem, ⟨3, _⟩ => ⟨S512x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8448x512 : Shape := ⟨2, ![8448, 512]⟩
abbrev S512x1024 : Shape := ⟨2, ![512, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1024, .f32⟩
  | .hbm, ⟨2, _⟩ => ⟨S8448x1024, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S8448x384 : Shape := ⟨2, ![8448, 384]⟩
abbrev S384x768 : Shape := ⟨2, ![384, 768]⟩
abbrev S8448x768 : Shape := ⟨2, ![8448, 768]⟩
abbrev S768x768 : Shape := ⟨2, ![768, 768]⟩
abbrev S768x384 : Shape := ⟨2, ![768, 384]⟩

abbrev nBuf : Space → Nat
  | .hbm => 4
  | .vmem => 6
  | .smem => 0
  | _ => 0

abbrev bufTy : (tb : Table) → Fin (tcTables nBuf tb) → BufTy
  | .hbm, ⟨0, _⟩ => ⟨S8448x384, .f32⟩
  | .hbm, ⟨1, _⟩ => ⟨S384x768, .f32⟩
  | .hbm, ⟨2, _⟩ => ⟨S8448x768, .f32⟩
  | .hbm, ⟨3, _⟩ => ⟨S8448x384, .f32⟩
  | .local _ .vmem, ⟨0, _⟩ => ⟨S768x768, .f32⟩
  | .local _ .vmem, ⟨1, _⟩ => ⟨S768x768, .f32⟩
  | .local _ .vmem, ⟨2, _⟩ => ⟨S384x768, .f32⟩
  | .local _ .vmem, ⟨3, _⟩ => ⟨S768x384, .f32⟩
  | .local _ .vmem, ⟨4, _⟩ => ⟨S768x384, .f32⟩
  | .local _ .vmem, ⟨5, _⟩ => ⟨S768x384, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8448x384 : Shape := ⟨2, ![8448, 384]⟩
abbrev S384x768 : Shape := ⟨2, ![384, 768]⟩
abbrev S8448x768 : Shape := ⟨2, ![8448, 768]⟩
abbrev S768x384 : Shape := ⟨2, ![768, 384]⟩

abbrev nBuf : Space → Nat
  | .hbm => 7
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x768, .f32⟩
  | .hbm, ⟨2, _⟩ => ⟨S8448x768, .f32⟩
  | .hbm, ⟨3, _⟩ => ⟨S8448x768, .f32⟩
  | .hbm, ⟨4, _⟩ => ⟨S768x384, .f32⟩
  | .hbm, ⟨5, _⟩ => ⟨S384x768, .f32⟩
  | .hbm, ⟨6, _⟩ => ⟨S8448x384, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S8448x384 : Shape := ⟨2, ![8448, 384]⟩
abbrev S384x768 : Shape := ⟨2, ![384, 768]⟩
abbrev S8448x768 : Shape := ⟨2, ![8448, 768]⟩
abbrev S768x384 : Shape := ⟨2, ![768, 384]⟩
abbrev S768x768 : Shape := ⟨2, ![768, 768]⟩

abbrev nBuf : Space → Nat
  | .hbm => 4
  | .vmem => 6
  | .smem => 0
  | _ => 0

abbrev bufTy : (tb : Table) → Fin (tcTables nBuf tb) → BufTy
  | .hbm, ⟨0, _⟩ => ⟨S8448x384, .f32⟩
  | .hbm, ⟨1, _⟩ => ⟨S384x768, .f32⟩
  | .hbm, ⟨2, _⟩ => ⟨S8448x768, .f32⟩
  | .hbm, ⟨3, _⟩ => ⟨S384x768, .f32⟩
  | .local _ .vmem, ⟨0, _⟩ => ⟨S768x384, .f32⟩
  | .local _ .vmem, ⟨1, _⟩ => ⟨S768x384, .f32⟩
  | .local _ .vmem, ⟨2, _⟩ => ⟨S768x768, .f32⟩
  | .local _ .vmem, ⟨3, _⟩ => ⟨S768x768, .f32⟩
  | .local _ .vmem, ⟨4, _⟩ => ⟨S384x768, .f32⟩
  | .local _ .vmem, ⟨5, _⟩ => ⟨S384x768, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8448x384 : Shape := ⟨2, ![8448, 384]⟩
abbrev S384x768 : Shape := ⟨2, ![384, 768]⟩
abbrev S8448x768 : Shape := ⟨2, ![8448, 768]⟩
abbrev S768x384 : Shape := ⟨2, ![768, 384]⟩

abbrev nBuf : Space → Nat
  | .hbm => 7
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x768, .f32⟩
  | .hbm, ⟨2, _⟩ => ⟨S8448x768, .f32⟩
  | .hbm, ⟨3, _⟩ => ⟨S8448x768, .f32⟩
  | .hbm, ⟨4, _⟩ => ⟨S768x384, .f32⟩
  | .hbm, ⟨5, _⟩ => ⟨S384x768, .f32⟩
  | .hbm, ⟨6, _⟩ => ⟨S8448x384, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S8448x384 : Shape := ⟨2, ![8448, 384]⟩
abbrev S384x768 : Shape := ⟨2, ![384, 768]⟩
abbrev S8448x768 : Shape := ⟨2, ![8448, 768]⟩
abbrev S768x384 : Shape := ⟨2, ![768, 384]⟩
abbrev S384x256 : Shape := ⟨2, ![384, 256]⟩
abbrev S768x256 : Shape := ⟨2, ![768, 256]⟩

abbrev nBuf : Space → Nat
  | .hbm => 3
  | .vmem => 7
  | .smem => 0
  | _ => 0

abbrev bufTy : (tb : Table) → Fin (tcTables nBuf tb) → BufTy
  | .hbm, ⟨0, _⟩ => ⟨S8448x384, .f32⟩
  | .hbm, ⟨1, _⟩ => ⟨S384x768, .f32⟩
  | .hbm, ⟨2, _⟩ => ⟨S8448x768, .f32⟩
  | .local _ .vmem, ⟨0, _⟩ => ⟨S768x384, .f32⟩
  | .local _ .vmem, ⟨1, _⟩ => ⟨S768x384, .f32⟩
  | .local _ .vmem, ⟨2, _⟩ => ⟨S384x256, .f32⟩
  | .local _ .vmem, ⟨3, _⟩ => ⟨S384x256, .f32⟩
  | .local _ .vmem, ⟨4, _⟩ => ⟨S768x256, .f32⟩
  | .local _ .vmem, ⟨5, _⟩ => ⟨S768x256, .f32⟩
  | .local _ .vmem, ⟨6, _⟩ => ⟨S768x256, .f32⟩
  | _, _ => ⟨S8448x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8448x384 : Shape := ⟨2, ![8448, 384]⟩
abbrev S384x768 : Shape := ⟨2, ![384, 768]⟩
abbrev S8448x768 : Shape := ⟨2, ![8448, 768]⟩

abbrev nBuf : Space → Nat
  | .hbm => 3
  | .vmem => 0
  | .smem => 0
  | _ => 0

abbrev bufTy : (tb : Table) → Fin (tcTables nBuf tb) → BufTy
  | .hbm, ⟨0, _⟩ => ⟨S8448x384, .f32⟩
  | .hbm, ⟨1, _⟩ => ⟨S384x768, .f32⟩
  | .hbm, ⟨2, _⟩ => ⟨S8448x768, .f32⟩
  | _, _ => ⟨S8448x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8448x256 : Shape := ⟨2, ![8448, 256]⟩
abbrev S256x1024 : Shape := ⟨2, ![256, 1024]⟩
abbrev S8448x1024 : Shape := ⟨2, ![8448, 1024]⟩
abbrev S768x1024 : Shape := ⟨2, ![768, 1024]⟩
abbrev S768x256 : Shape := ⟨2, ![768, 256]⟩

abbrev nBuf : Space → Nat
  | .hbm => 4
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x1024, .f32⟩
  | .hbm, ⟨2, _⟩ => ⟨S8448x1024, .f32⟩
  | .hbm, ⟨3, _⟩ => ⟨S8448x256, .f32⟩
  | .local _ .vmem, ⟨0, _⟩ => ⟨S768x1024, .f32⟩
  | .local _ .vmem, ⟨1, _⟩ => ⟨S768x1024, .f32⟩
  | .local _ .vmem, ⟨2, _⟩ => ⟨S256x1024, .f32⟩
  | .local _ .vmem, ⟨3, _⟩ => ⟨S768x256, .f32⟩
  | .local _ .vmem, ⟨4, _⟩ => ⟨S768x256, .f32⟩
  | .local _ .vmem, ⟨5, _⟩ => ⟨S768x256, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8448x256 : Shape := ⟨2, ![8448, 256]⟩
abbrev S256x1024 : Shape := ⟨2, ![256, 1024]⟩
abbrev S8448x1024 : Shape := ⟨2, ![8448, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x1024, .f32⟩
  | .hbm, ⟨2, _⟩ => ⟨S8448x1024, .f32⟩
  | .hbm, ⟨3, _⟩ => ⟨S8448x1024, .f32⟩
  | .hbm, ⟨4, _⟩ => ⟨S1024x256, .f32⟩
  | .hbm, ⟨5, _⟩ => ⟨S256x1024, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x1024, .f32⟩
  | .hbm, ⟨2, _⟩ => ⟨S8448x1024, .f32⟩
  | .hbm, ⟨3, _⟩ => ⟨S256x1024, .f32⟩
  | .local _ .vmem, ⟨0, _⟩ => ⟨S768x256, .f32⟩
  | .local _ .vmem, ⟨1, _⟩ => ⟨S768x256, .f32⟩
  | .local _ .vmem, ⟨2, _⟩ => ⟨S768x1024, .f32⟩
  | .local _ .vmem, ⟨3, _⟩ => ⟨S768x1024, .f32⟩
  | .local _ .vmem, ⟨4, _⟩ => ⟨S256x1024, .f32⟩
  | .local _ .vmem, ⟨5, _⟩ => ⟨S256x1024, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8448x256 : Shape := ⟨2, ![8448, 256]⟩
abbrev S256x1024 : Shape := ⟨2, ![256, 1024]⟩
abbrev S8448x1024 : Shape := ⟨2, ![8448, 1024]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x1024, .f32⟩
  | .hbm, ⟨2, _⟩ => ⟨S8448x1024, .f32⟩
  | .hbm, ⟨3, _⟩ => ⟨S8448x1024, .f32⟩
  | .hbm, ⟨4, _⟩ => ⟨S1024x256, .f32⟩
  | .hbm, ⟨5, _⟩ => ⟨S256x1024, .f32⟩
  | .hbm, ⟨6, _⟩ => ⟨S8448x256, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S256x512 : Shape := ⟨2, ![256, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x256, .f32⟩
  | .hbm, ⟨1, _⟩ => ⟨S256x1024, .f32⟩
  | .hbm, ⟨2, _⟩ => ⟨S8448x1024, .f32⟩
  | .local _ .vmem, ⟨0, _⟩ => ⟨S768x256, .f32⟩
  | .local _ .vmem, ⟨1, _⟩ => ⟨S768x256, .f32⟩
  | .local _ .vmem, ⟨2, _⟩ => ⟨S256x512, .f32⟩
  | .local _ .vmem, ⟨3, _⟩ => ⟨S256x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8448x256 : Shape := ⟨2, ![8448, 256]⟩
abbrev S256x1024 : Shape := ⟨2, ![256, 1024]⟩
abbrev S8448x1024 : Shape := ⟨2, ![8448, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x1024, .f32⟩
  | .hbm, ⟨2, _⟩ => ⟨S8448x1024, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S4096x1408 : Shape := ⟨2, ![4096, 1408]⟩
abbrev S1x4096x1408 : Shape := ⟨3, ![1, 4096, 1408]⟩
abbrev S64x1408 : Shape := ⟨2, ![64, 1408]⟩
abbrev S1x64x1408 : Shape := ⟨3, ![1, 64, 1408]⟩

abbrev nBuf : Space → Nat
  | .hbm => 9
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S1x4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S64x1408, .f32⟩
  | .local _ .vmem, ⟨1, _⟩ => ⟨S64x1408, .f32⟩
  | .local _ .vmem, ⟨2, _⟩ => ⟨S1x64x1408, .f32⟩
  | .local _ .vmem, ⟨3, _⟩ => ⟨S1x64x1408, .f32⟩
  | .local _ .vmem, ⟨4, _⟩ => ⟨S64x1408, .f32⟩
  | .local _ .vmem, ⟨5, _⟩ => ⟨S64x1408, .f32⟩
  | .local _ .vmem, ⟨6, _⟩ => ⟨S64x1408, .f32⟩
  | .local _ .vmem, ⟨7, _⟩ => ⟨S64x1408, .f32⟩
  | .local _ .vmem, ⟨8, _⟩ => ⟨S64x1408, .f32⟩
  | .local _ .vmem, ⟨9, _⟩ => ⟨S64x1408, .f32⟩
  | .local _ .vmem, ⟨10, _⟩ => ⟨S64x1408, .f32⟩
  | .local _ .vmem, ⟨11, _⟩ => ⟨S64x1408, .f32⟩
  | .local _ .vmem, ⟨12, _⟩ => ⟨S64x1408, .f32⟩
  | .local _ .vmem, ⟨13, _⟩ => ⟨S64x1408, .f32⟩
  | .local _ .vmem, ⟨14, _⟩ => ⟨S64x1408, .f32⟩
  | .local _ .vmem, ⟨15, _⟩ => ⟨S64x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S8448x5632 : Shape := ⟨2, ![8448, 5632]⟩
abbrev S8448x2816 : Shape := ⟨2, ![8448, 2816]⟩
abbrev S128x2816 : Shape := ⟨2, ![128, 2816]⟩

abbrev nBuf : Space → Nat
  | .hbm => 2
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S8448x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![66, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S8448x5632 : Shape := ⟨2, ![8448, 5632]⟩
abbrev S8448x2816 : Shape := ⟨2, ![8448, 2816]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x2816, .f32⟩
  | .hbm, ⟨2, _⟩ => ⟨S8448x2816, .f32⟩
  | .hbm, ⟨3, _⟩ => ⟨S8448x2816, .f32⟩
  | .hbm, ⟨4, _⟩ => ⟨S8448x2816, .f32⟩
  | .hbm, ⟨5, _⟩ => ⟨S_, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S8448x2816, .f32⟩
  | .hbm, ⟨12, _⟩ => ⟨S8448x2816, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩

abbrev nD : Nat := 1
abbrev τ : Topo := Topo.v7x

variable {F : FTy → Type} [FloatOps F]
-- ==== Kernel29.lean ====
abbrev S8448x1024 : Shape := ⟨2, ![8448, 1024]⟩
abbrev S2x1024 : Shape := ⟨2, ![2, 1024]⟩
abbrev S256x1024 : Shape := ⟨2, ![256, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1024, .f32⟩
  | .hbm, ⟨3, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2x1024, .f32⟩
  | .local _ .vmem, ⟨5, _⟩ => ⟨S256x1024, .f32⟩
  | .local _ .vmem, ⟨6, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference29Ideal.lean ====
abbrev S8448x1024 : Shape := ⟨2, ![8448, 1024]⟩
abbrev S2x1024 : Shape := ⟨2, ![2, 1024]⟩
abbrev S256x1024 : Shape := ⟨2, ![256, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S2x1024, .f32⟩
  | .hbm, ⟨3, _⟩ => ⟨S256x1024, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel30.lean ====
abbrev S8448x1024 : Shape := ⟨2, ![8448, 1024]⟩
abbrev S1024 : Shape := ⟨1, ![1024]⟩
abbrev S2x1024 : Shape := ⟨2, ![2, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x1024, .f32⟩
  | .local _ .vmem, ⟨4, _⟩ => ⟨S2x1024, .f32⟩
  | .local _ .vmem, ⟨5, _⟩ => ⟨S256x1024, .f32⟩
  | .local _ .vmem, ⟨6, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference30Ideal.lean ====
abbrev S8448x1024 : Shape := ⟨2, ![8448, 1024]⟩
abbrev S1024 : Shape := ⟨1, ![1024]⟩
abbrev S2x1024 : Shape := ⟨2, ![2, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S8192x1024 : Shape := ⟨2, ![8192, 1024]⟩
abbrev S8192 : Shape := ⟨1, ![8192]⟩
abbrev S8192x1 : Shape := ⟨2, ![8192, 1]⟩

abbrev nBuf : Space → Nat
  | .hbm => 65
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S256x1024, .f32⟩
  | .hbm, ⟨45, _⟩ => ⟨S256x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Proof.Lin.Products.lean ====
module

public import Idealize.ShloMosaic.Lib.Pointwise
public import Idealize.ShloMosaic.Lib.Pipeline.ValueKit

@[expose] public section

noncomputable section

namespace Cert.Lin

open Idealize.ShloMosaic

/-! # The three products of a linear layer, and their sums by blocks

A layer multiplies `x` by `w`; the gradient of `x` is a product along the columns of both factors, the gradient of `w` one
along their rows. Each is a sum over one axis, which a kernel cuts into blocks. The extended reals' addition is commutative
and associative, so the blocks' sums add up to the whole for any contents. -/

/-- A matrix of extended reals. -/
abbrev Mat (r c : ℕ) : Type := Vec Ideal ⟨2, ![r, c]⟩ .f32

variable {r c l k J : ℕ}

/-- The product of two matrices. -/
def mul (a : Mat r l) (b : Mat l c) (i : (⟨2, ![r, c]⟩ : Shape).Idx) : EReal := ∑ j : Fin l, a (ix2 (i 0) j) * b (ix2 j (i 1))

/-- The first matrix times the second one's transpose. -/
def mulT (a : Mat r l) (b : Mat c l) (i : (⟨2, ![r, c]⟩ : Shape).Idx) : EReal := ∑ j : Fin l, a (ix2 (i 0) j) * b (ix2 (i 1) j)

/-- The first matrix's transpose times the second. -/
def tmul (a : Mat l r) (b : Mat l c) (i : (⟨2, ![r, c]⟩ : Shape).Idx) : EReal := ∑ j : Fin l, a (ix2 j (i 0)) * b (ix2 j (i 1))

variable {R C : ℕ} {y : (⟨2, ![r, c]⟩ : Shape).Idx} {i : (⟨2, ![R, C]⟩ : Shape).Idx}

/-- One block of rows times one block of columns, each as long as the axis summed over. -/
theorem mul_whole {a : Mat r l} {b : Mat l c} {A : Mat R l} {B : Mat l C}
    (ha : ∀ j, a (ix2 (y 0) j) = A (ix2 (i 0) j)) (hb : ∀ j, b (ix2 j (y 1)) = B (ix2 j (i 1))) : mul a b y = mul A B i :=
  Finset.sum_congr rfl fun j _ => by rw [ha, hb]

theorem mulT_whole {a : Mat r l} {b : Mat c l} {A : Mat R l} {B : Mat C l}
    (ha : ∀ j, a (ix2 (y 0) j) = A (ix2 (i 0) j)) (hb : ∀ j, b (ix2 (y 1) j) = B (ix2 (i 1) j)) : mulT a b y = mulT A B i :=
  Finset.sum_congr rfl fun j _ => by rw [ha, hb]

/-- `J` blocks of columns of both matrices, added up. -/
theorem mulT_blocks {a : Fin J → Mat r k} {b : Fin J → Mat c k} {A : Mat R l} {B : Mat C l} (hl : l = J * k)
    (ha : ∀ s j (h : s.val * k + j.val < l), a s (ix2 (y 0) j) = A (ix2 (i 0) ⟨s.val * k + j.val, h⟩))
    (hb : ∀ s j (h : s.val * k + j.val < l), b s (ix2 (y 1) j) = B (ix2 (i 1) ⟨s.val * k + j.val, h⟩)) :
    0 + ∑ s, mulT (a s) (b s) y = mulT A B i := by
  rw [zero_add]
  exact Fin.sum_mul_add_congr (fun s j h => by rw [ha s j h, hb s j h]) hl

/-- `J` blocks of rows of both matrices, added up. -/
theorem tmul_blocks {a : Fin J → Mat k r} {b : Fin J → Mat k c} {A : Mat l R} {B : Mat l C} (hl : l = J * k)
    (ha : ∀ s j (h : s.val * k + j.val < l), a s (ix2 j (y 0)) = A (ix2 ⟨s.val * k + j.val, h⟩ (i 0)))
    (hb : ∀ s j (h : s.val * k + j.val < l), b s (ix2 j (y 1)) = B (ix2 ⟨s.val * k + j.val, h⟩ (i 1))) :
    0 + ∑ s, tmul (a s) (b s) y = tmul A B i := by
  rw [zero_add]
  exact Fin.sum_mul_add_congr (fun s j h => by rw [ha s j h, hb s j h]) hl

end Cert.Lin

end
-- ==== Proof.Lin.W13Dx.lean ====
module

public import proofs.«01_k».proof.Defs
public import proofs.«01_k».proof.Proof.Gen.Kernel2
public import proofs.«01_k».proof.Proof.Gen.Kernel2Ideal.Value
public import proofs.«01_k».proof.Proof.Gen.Reference2Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel2Ideal.Lin

open Idealize.ShloMosaic Idealize.ShloMosaic.TcCoe
open Cert.Kernel2Ideal.Gen Cert.Lin

/-! # A SwiGLU's first layer: the gradient of its input

Eleven tiles of 768 rows, each the sum of four points' products. -/

/-- What a point adds to its tile. -/
theorem pay_at (s : Vec Ideal S768x1024 .f32) (x : Vec Ideal S768x1408 .f32) (y : Vec Ideal S1024x1408 .f32) (i : S768x1024.Idx) :
    k0_pay2 s x y i = s i + mulT x y i := by
  unfold mulT
  pointwise [k0_pay2]

/-- A tile starts at zero. -/
theorem zero_at (i : S768x1024.Idx) : k0_pay1 (F := Ideal) i = 0 := by
  pointwise [k0_pay1]

/-- The blocks of a point. -/
theorem idx0 : ∀ t : Fin grid0.N, win0_0.index t = ![t.val / 4, t.val % 4] := by decide +kernel
theorem idx1 : ∀ t : Fin grid0.N, win0_1.index t = ![0, t.val % 4] := by decide +kernel
theorem idx2 : ∀ t : Fin grid0.N, win0_2.index t = ![t.val / 4, 0] := by decide +kernel

variable (m : (ℓ : Loc nD τ sig) → Buf (Elt Ideal) ℓ) (c : Dev nD)

/-- A point's share of the tile it adds to. -/
def part (t : Fin cfg0.N) (i : S768x1024.Idx) : EReal := mulT (r := 768) (c := 1024) (l := 1408) (iblk m c 0 t) (iblk m c 1 t) i

/-- The running tile after the last point of its run. -/
theorem tile (t : Fin cfg0.N) (hr : t.val % 4 = 3) (i : S768x1024.Idx) :
    (outsAt0 m c t.val t.isLt).2 i = 0 + ∑ s : Fin 4, part m c ⟨4 * (t.val / 4) + s.val, Pipeline.run_point_lt_of_flush t hr s⟩ i :=
  Pipeline.eq_sum_fin_of_reset_step_apply_of_flush (fun n h => (outsAt0 m c n h).2) 4 (fun _ => 0) (part m c)
    (fun t h i => by
      beta_reduce
      rw [outsAt0_A m c t h (by omega)]
      frame_out
      rw [pay_at, zero_at]; rfl)
    (fun t h i => by
      beta_reduce
      by_cases h1 : t.val % 4 = 3
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 4 = 3) : (outsAt0 m c t.val t.isLt).1 = (outsAt0 m c t.val t.isLt).2 := by
  rw [outsAt0_C m c t (by omega) hr]
  frame_out

/-- The reference's product. -/
def whole (a : FVec Ideal S8448x5632 .f32) (b : FVec Ideal S1024x5632 .f32) : FVec Ideal S8448x1024 .f32 :=
  Host.dotGeneral Cert.Reference2Ideal.dot_S8448x5632_S1024x5632_S8448x1024_1_1_0_0_n_n none a b

theorem whole_at (a : FVec Ideal S8448x5632 .f32) (b : FVec Ideal S1024x5632 .f32) (i : S8448x1024.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  have hr : t.val % 4 = 3 := (flush0_2 t).mp hf
  rw [after0_2, last m c t hr, tile m c t hr, whole_at]
  refine mulT_blocks rfl (fun s j h => ?_) (fun s j h => ?_)
  · blk_ext [iblk, idx0, idx2]
  · blk_ext [iblk, idx1, idx2]

/-- The kernel as printed and the one over the extended reals have one text. -/
theorem defs_eq : Cert.Kernel2.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel2 := fun m g _ => by
  rw [defs_eq]
  exact Gen.frame (F := Bits) m g
theorem frame_PI : quiescent_Kernel2Ideal := fun m g _ => Gen.frame m g

/-- So does the reference. -/
theorem frame_RI : quiescent_Reference2Ideal := fun m g _ => by
  hlo_run
  · exact fun _ => ⟨trivial, trivial, trivial⟩
  · exact sem_eq_zero_of_no_sems (sig := Cert.Reference2Ideal.sig) rfl _

/-- The kernel's array is the reference's. -/
theorem equal : algebraic_Kernel2Ideal_Reference2Ideal := by
  intro m g m' g' _ agree
  refine ⟨fun c => whole (m ((c.tc : Thread nD τ).loc main_arg2)) (m ((c.tc : Thread nD τ).loc main_arg1)),
    (θ_run Cert.Kernel2Ideal.defs _ _).mono (fun r h c => ?_) (Cert.Kernel2Ideal.Value.run_blocks m g),
    (θ_run Cert.Reference2Ideal.defs _ _).mono (fun r h c => ?_) (Cert.Reference2Ideal.Value.run m' g')⟩
  · exact ⟨(h c).1.trans (array m c), (h c).2⟩
  · obtain ⟨a0, a1, a2⟩ := agree c
    exact ⟨(h c).1.trans (by rw [a1, a2]; rfl), (h c).2⟩

end Cert.Kernel2Ideal.Lin

end
-- ==== Proof.Lin.W13Dw.lean ====
module

public import proofs.«01_k».proof.Defs
public import proofs.«01_k».proof.Proof.Gen.Kernel3
public import proofs.«01_k».proof.Proof.Gen.Kernel3Ideal.Value
public import proofs.«01_k».proof.Proof.Gen.Reference3Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel3Ideal.Lin

open Idealize.ShloMosaic Idealize.ShloMosaic.TcCoe
open Cert.Kernel3Ideal.Gen Cert.Lin

/-! # A SwiGLU's first layer: the gradient of its weights

Four tiles of 1408 columns, each the sum of eleven points' products. -/

/-- What a point adds to its tile. -/
theorem pay_at (s : Vec Ideal S1024x1408 .f32) (x : Vec Ideal S768x1024 .f32) (y : Vec Ideal S768x1408 .f32) (i : S1024x1408.Idx) :
    k0_pay2 s x y i = s i + tmul x y i := by
  unfold tmul
  pointwise [k0_pay2]

/-- A tile starts at zero. -/
theorem zero_at (i : S1024x1408.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S1024x1408.Idx) : EReal := tmul (r := 1024) (c := 1408) (l := 768) (iblk m c 0 t) (iblk m c 1 t) i

/-- The running tile after the last point of its run. -/
theorem tile (t : Fin cfg0.N) (hr : t.val % 11 = 10) (i : S1024x1408.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x1024 .f32) (b : FVec Ideal S8448x5632 .f32) : FVec Ideal S1024x5632 .f32 :=
  transpose S1024x5632 [1, 0] (Host.dotGeneral Cert.Reference3Ideal.dot_S8448x5632_S8448x1024_S5632x1024_0_0_1_1_n_n none b a)
    Cert.Reference3Ideal.Gen.transposes_S5632x1024_S1024x5632_1_0

theorem whole_at (a : FVec Ideal S8448x1024 .f32) (b : FVec Ideal S8448x5632 .f32) (i : S1024x5632.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel3.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel3 := fun m g _ => by
  rw [defs_eq]
  exact Gen.frame (F := Bits) m g
theorem frame_PI : quiescent_Kernel3Ideal := fun m g _ => Gen.frame m g

/-- So does the reference. -/
theorem frame_RI : quiescent_Reference3Ideal := fun m g _ => by
  hlo_run
  · exact fun _ => ⟨trivial, trivial, trivial⟩
  · exact sem_eq_zero_of_no_sems (sig := Cert.Reference3Ideal.sig) rfl _

/-- The kernel's array is the reference's. -/
theorem equal : algebraic_Kernel3Ideal_Reference3Ideal := by
  intro m g m' g' _ agree
  refine ⟨fun c => whole (m ((c.tc : Thread nD τ).loc main_arg0)) (m ((c.tc : Thread nD τ).loc main_arg2)),
    (θ_run Cert.Kernel3Ideal.defs _ _).mono (fun r h c => ?_) (Cert.Kernel3Ideal.Value.run_blocks m g),
    (θ_run Cert.Reference3Ideal.defs _ _).mono (fun r h c => ?_) (Cert.Reference3Ideal.Value.run m' g')⟩
  · exact ⟨(h c).1.trans (array m c), (h c).2⟩
  · obtain ⟨a0, a1, a2⟩ := agree c
    exact ⟨(h c).1.trans (by rw [a0, a2]; rfl), (h c).2⟩

end Cert.Kernel3Ideal.Lin

end
-- ==== Proof.Lin.W2Dx.lean ====
module

public import proofs.«01_k».proof.Defs
public import proofs.«01_k».proof.Proof.Gen.Kernel4
public import proofs.«01_k».proof.Proof.Gen.Kernel4Ideal.Value
public import proofs.«01_k».proof.Proof.Gen.Reference4Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel4Ideal.Lin

open Idealize.ShloMosaic Idealize.ShloMosaic.TcCoe
open Cert.Kernel4Ideal.Gen Cert.Lin

/-! # A SwiGLU's second layer: the gradient of its input

Twenty-two tiles, each one point's product. -/

/-- What a point adds to its tile. -/
theorem pay_at (s : Vec Ideal S768x1408 .f32) (x : Vec Ideal S768x1024 .f32) (y : Vec Ideal S1408x1024 .f32) (i : S768x1408.Idx) :
    k0_pay2 s x y i = s i + mulT x y i := by
  unfold mulT
  pointwise [k0_pay2]

/-- A tile starts at zero. -/
theorem zero_at (i : S768x1408.Idx) : k0_pay1 (F := Ideal) i = 0 := by
  pointwise [k0_pay1]

/-- The blocks of a point. -/
theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel

variable (m : (ℓ : Loc nD τ sig) → Buf (Elt Ideal) ℓ) (c : Dev nD)

/-- The reference's product. -/
def whole (a : FVec Ideal S8448x1024 .f32) (b : FVec Ideal S2816x1024 .f32) : FVec Ideal S8448x2816 .f32 :=
  Host.dotGeneral Cert.Reference4Ideal.dot_S8448x1024_S2816x1024_S8448x2816_1_1_0_0_n_n none a b

theorem whole_at (a : FVec Ideal S8448x1024 .f32) (b : FVec Ideal S2816x1024 .f32) (i : S8448x2816.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mulT_whole (fun j => ?_) (fun j => ?_)
  · blk_ext [iblk, idx0, idx2]
  · blk_ext [iblk, idx1, idx2]

/-- The kernel as printed and the one over the extended reals have one text. -/
theorem defs_eq : Cert.Kernel4.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel4 := fun m g _ => by
  rw [defs_eq]
  exact Gen.frame (F := Bits) m g
theorem frame_PI : quiescent_Kernel4Ideal := fun m g _ => Gen.frame m g

/-- So does the reference. -/
theorem frame_RI : quiescent_Reference4Ideal := fun m g _ => by
  hlo_run
  · exact fun _ => ⟨trivial, trivial, trivial⟩
  · exact sem_eq_zero_of_no_sems (sig := Cert.Reference4Ideal.sig) rfl _

/-- The kernel's array is the reference's. -/
theorem equal : algebraic_Kernel4Ideal_Reference4Ideal := by
  intro m g m' g' _ agree
  refine ⟨fun c => whole (m ((c.tc : Thread nD τ).loc main_arg2)) (m ((c.tc : Thread nD τ).loc main_arg1)),
    (θ_run Cert.Kernel4Ideal.defs _ _).mono (fun r h c => ?_) (Cert.Kernel4Ideal.Value.run_blocks m g),
    (θ_run Cert.Reference4Ideal.defs _ _).mono (fun r h c => ?_) (Cert.Reference4Ideal.Value.run m' g')⟩
  · exact ⟨(h c).1.trans (array m c), (h c).2⟩
  · obtain ⟨a0, a1, a2⟩ := agree c
    exact ⟨(h c).1.trans (by rw [a1, a2]; rfl), (h c).2⟩

end Cert.Kernel4Ideal.Lin

end
-- ==== Proof.Lin.W2Dw.lean ====
module

public import proofs.«01_k».proof.Defs
public import proofs.«01_k».proof.Proof.Gen.Kernel5
public import proofs.«01_k».proof.Proof.Gen.Kernel5Ideal.Value
public import proofs.«01_k».proof.Proof.Gen.Reference5Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel5Ideal.Lin

open Idealize.ShloMosaic Idealize.ShloMosaic.TcCoe
open Cert.Kernel5Ideal.Gen Cert.Lin

/-! # A SwiGLU's second layer: the gradient of its weights

Two tiles of 1408 rows, each the sum of eleven points' products. -/

/-- What a point adds to its tile. -/
theorem pay_at (s : Vec Ideal S1408x1024 .f32) (x : Vec Ideal S768x1408 .f32) (y : Vec Ideal S768x1024 .f32) (i : S1408x1024.Idx) :
    k0_pay2 s x y i = s i + tmul x y i := by
  unfold tmul
  pointwise [k0_pay2]

/-- A tile starts at zero. -/
theorem zero_at (i : S1408x1024.Idx) : k0_pay1 (F := Ideal) i = 0 := by
  pointwise [k0_pay1]

/-- The blocks of a point. -/
theorem idx0 : ∀ t : Fin grid0.N, win0_0.index t = ![t.val % 11, t.val / 11] := by decide +kernel
theorem idx1 : ∀ t : Fin grid0.N, win0_1.index t = ![t.val % 11, 0] := by decide +kernel
theorem idx2 : ∀ t : Fin grid0.N, win0_2.index t = ![t.val / 11, 0] := by decide +kernel

variable (m : (ℓ : Loc nD τ sig) → Buf (Elt Ideal) ℓ) (c : Dev nD)

/-- A point's share of the tile it adds to. -/
def part (t : Fin cfg0.N) (i : S1408x1024.Idx) : EReal := tmul (r := 1408) (c := 1024) (l := 768) (iblk m c 0 t) (iblk m c 1 t) i

/-- The running tile after the last point of its run. -/
theorem tile (t : Fin cfg0.N) (hr : t.val % 11 = 10) (i : S1408x1024.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x2816 .f32) (b : FVec Ideal S8448x1024 .f32) : FVec Ideal S2816x1024 .f32 :=
  transpose S2816x1024 [1, 0] (Host.dotGeneral Cert.Reference5Ideal.dot_S8448x1024_S8448x2816_S1024x2816_0_0_1_1_n_n none b a)
    Cert.Reference5Ideal.Gen.transposes_S1024x2816_S2816x1024_1_0

theorem whole_at (a : FVec Ideal S8448x2816 .f32) (b : FVec Ideal S8448x1024 .f32) (i : S2816x1024.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel5.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel5 := fun m g _ => by
  rw [defs_eq]
  exact Gen.frame (F := Bits) m g
theorem frame_PI : quiescent_Kernel5Ideal := fun m g _ => Gen.frame m g

/-- So does the reference. -/
theorem frame_RI : quiescent_Reference5Ideal := fun m g _ => by
  hlo_run
  · exact fun _ => ⟨trivial, trivial, trivial⟩
  · exact sem_eq_zero_of_no_sems (sig := Cert.Reference5Ideal.sig) rfl _

/-- The kernel's array is the reference's. -/
theorem equal : algebraic_Kernel5Ideal_Reference5Ideal := by
  intro m g m' g' _ agree
  refine ⟨fun c => whole (m ((c.tc : Thread nD τ).loc main_arg0)) (m ((c.tc : Thread nD τ).loc main_arg2)),
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · exact ⟨(h c).1.trans (array m c), (h c).2⟩
  · obtain ⟨a0, a1, a2⟩ := agree c
    exact ⟨(h c).1.trans (by rw [a0, a2]; rfl), (h c).2⟩

end Cert.Kernel5Ideal.Lin

end
-- ==== Proof.Lin.WInDx.lean ====
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel6Ideal.Lin

open Idealize.ShloMosaic Idealize.ShloMosaic.TcCoe
open Cert.Kernel6Ideal.Gen Cert.Lin

/-! # The input projection: the gradient of its input

Eleven tiles of 768 rows, each the sum of five points' products. -/

/-- What a point adds to its tile. -/
theorem pay_at (s : Vec Ideal S768x1024 .f32) (x : Vec Ideal S768x1024 .f32) (y : Vec Ideal S1024x1024 .f32) (i : S768x1024.Idx) :
    k0_pay2 s x y i = s i + mulT x y i := by
  unfold mulT
  pointwise [k0_pay2]

/-- A tile starts at zero. -/
theorem zero_at (i : S768x1024.Idx) : k0_pay1 (F := Ideal) i = 0 := by
  pointwise [k0_pay1]

/-- The blocks of a point. -/
theorem idx0 : ∀ t : Fin grid0.N, win0_0.index t = ![t.val / 5, t.val % 5] := by decide +kernel
theorem idx1 : ∀ t : Fin grid0.N, win0_1.index t = ![0, t.val % 5] := by decide +kernel
theorem idx2 : ∀ t : Fin grid0.N, win0_2.index t = ![t.val / 5, 0] := by decide +kernel

variable (m : (ℓ : Loc nD τ sig) → Buf (Elt Ideal) ℓ) (c : Dev nD)

/-- A point's share of the tile it adds to. -/
def part (t : Fin cfg0.N) (i : S768x1024.Idx) : EReal := mulT (r := 768) (c := 1024) (l := 1024) (iblk m c 0 t) (iblk m c 1 t) i

/-- The running tile after the last point of its run. -/
theorem tile (t : Fin cfg0.N) (hr : t.val % 5 = 4) (i : S768x1024.Idx) :
    (outsAt0 m c t.val t.isLt).2 i = 0 + ∑ s : Fin 5, part m c ⟨5 * (t.val / 5) + s.val, Pipeline.run_point_lt_of_flush t hr s⟩ i :=
  Pipeline.eq_sum_fin_of_reset_step_apply_of_flush (fun n h => (outsAt0 m c n h).2) 5 (fun _ => 0) (part m c)
    (fun t h i => by
      beta_reduce
      rw [outsAt0_A m c t h (by omega)]
      frame_out
      rw [pay_at, zero_at]; rfl)
    (fun t h i => by
      beta_reduce
      by_cases h1 : t.val % 5 = 4
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 5 = 4) : (outsAt0 m c t.val t.isLt).1 = (outsAt0 m c t.val t.isLt).2 := by
  rw [outsAt0_C m c t (by omega) hr]
  frame_out

/-- The reference's product. -/
def whole (a : FVec Ideal S8448x5120 .f32) (b : FVec Ideal S1024x5120 .f32) : FVec Ideal S8448x1024 .f32 :=
  Host.dotGeneral Cert.Reference6Ideal.dot_S8448x5120_S1024x5120_S8448x1024_1_1_0_0_n_n none a b

theorem whole_at (a : FVec Ideal S8448x5120 .f32) (b : FVec Ideal S1024x5120 .f32) (i : S8448x1024.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  have hr : t.val % 5 = 4 := (flush0_2 t).mp hf
  rw [after0_2, last m c t hr, tile m c t hr, whole_at]
  refine mulT_blocks rfl (fun s j h => ?_) (fun s j h => ?_)
  · blk_ext [iblk, idx0, idx2]
  · blk_ext [iblk, idx1, idx2]

/-- The kernel as printed and the one over the extended reals have one text. -/
theorem defs_eq : Cert.Kernel6.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel6 := fun m g _ => by
  rw [defs_eq]
  exact Gen.frame (F := Bits) m g
theorem frame_PI : quiescent_Kernel6Ideal := fun m g _ => Gen.frame m g

/-- So does the reference. -/
theorem frame_RI : quiescent_Reference6Ideal := fun m g _ => by
  hlo_run
  · exact fun _ => ⟨trivial, trivial, trivial⟩
  · exact sem_eq_zero_of_no_sems (sig := Cert.Reference6Ideal.sig) rfl _

/-- The kernel's array is the reference's. -/
theorem equal : algebraic_Kernel6Ideal_Reference6Ideal := by
  intro m g m' g' _ agree
  refine ⟨fun c => whole (m ((c.tc : Thread nD τ).loc main_arg2)) (m ((c.tc : Thread nD τ).loc main_arg1)),
    (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · exact ⟨(h c).1.trans (array m c), (h c).2⟩
  · obtain ⟨a0, a1, a2⟩ := agree c
    exact ⟨(h c).1.trans (by rw [a1, a2]; rfl), (h c).2⟩

end Cert.Kernel6Ideal.Lin

end
-- ==== Proof.Lin.WInDw.lean ====
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel7Ideal.Lin

open Idealize.ShloMosaic Idealize.ShloMosaic.TcCoe
open Cert.Kernel7Ideal.Gen Cert.Lin

/-! # The input projection: the gradient of its weights

Five tiles of 1024 columns, each the sum of eleven points' products. -/

/-- What a point adds to its tile. -/
theorem pay_at (s : Vec Ideal S1024x1024 .f32) (x : Vec Ideal S768x1024 .f32) (y : Vec Ideal S768x1024 .f32) (i : S1024x1024.Idx) :
    k0_pay2 s x y i = s i + tmul x y i := by
  unfold tmul
  pointwise [k0_pay2]

/-- A tile starts at zero. -/
theorem zero_at (i : S1024x1024.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S1024x1024.Idx) : EReal := tmul (r := 1024) (c := 1024) (l := 768) (iblk m c 0 t) (iblk m c 1 t) i

/-- The running tile after the last point of its run. -/
theorem tile (t : Fin cfg0.N) (hr : t.val % 11 = 10) (i : S1024x1024.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x1024 .f32) (b : FVec Ideal S8448x5120 .f32) : FVec Ideal S1024x5120 .f32 :=
  transpose S1024x5120 [1, 0] (Host.dotGeneral Cert.Reference7Ideal.dot_S8448x5120_S8448x1024_S5120x1024_0_0_1_1_n_n none b a)
    Cert.Reference7Ideal.Gen.transposes_S5120x1024_S1024x5120_1_0

theorem whole_at (a : FVec Ideal S8448x1024 .f32) (b : FVec Ideal S8448x5120 .f32) (i : S1024x5120.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel7.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel7 := fun m g _ => by
  rw [defs_eq]
  exact Gen.frame (F := Bits) m g
theorem frame_PI : quiescent_Kernel7Ideal := fun m g _ => Gen.frame m g

/-- So does the reference. -/
theorem frame_RI : quiescent_Reference7Ideal := fun m g _ => by
  hlo_run
  · exact fun _ => ⟨trivial, trivial, trivial⟩
  · exact sem_eq_zero_of_no_sems (sig := Cert.Reference7Ideal.sig) rfl _

/-- The kernel's array is the reference's. -/
theorem equal : algebraic_Kernel7Ideal_Reference7Ideal := by
  intro m g m' g' _ agree
  refine ⟨fun c => whole (m ((c.tc : Thread nD τ).loc main_arg0)) (m ((c.tc : Thread nD τ).loc main_arg2)),
    (θ_run Cert.Kernel7Ideal.defs _ _).mono (fun r h c => ?_) (Cert.Kernel7Ideal.Value.run_blocks m g),
    (θ_run Cert.Reference7Ideal.defs _ _).mono (fun r h c => ?_) (Cert.Reference7Ideal.Value.run m' g')⟩
  · exact ⟨(h c).1.trans (array m c), (h c).2⟩
  · obtain ⟨a0, a1, a2⟩ := agree c
    exact ⟨(h c).1.trans (by rw [a0, a2]; rfl), (h c).2⟩

end Cert.Kernel7Ideal.Lin

end
-- ==== Proof.Lin.W13.lean ====
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel8Ideal.Lin

open Idealize.ShloMosaic Idealize.ShloMosaic.TcCoe
open Cert.Kernel8Ideal.Gen Cert.Lin

/-! # A SwiGLU's first layer

Eleven by eleven tiles, each one point's product. -/

/-- What a point adds to its tile. -/
theorem pay_at (s : Vec Ideal S768x512 .f32) (x : Vec Ideal S768x1024 .f32) (y : Vec Ideal S1024x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 11, 0] := by decide +kernel
theorem idx1 : ∀ t : Fin grid0.N, win0_1.index t = ![0, t.val % 11] := by decide +kernel
theorem idx2 : ∀ t : Fin grid0.N, win0_2.index t = ![t.val / 11, t.val % 11] := by decide +kernel

variable (m : (ℓ : Loc nD τ sig) → Buf (Elt Ideal) ℓ) (c : Dev nD)

/-- The reference's product. -/
def whole (a : FVec Ideal S8448x1024 .f32) (b : FVec Ideal S1024x5632 .f32) : FVec Ideal S8448x5632 .f32 :=
  Host.dotGeneral Cert.Reference8Ideal.dot_S8448x1024_S1024x5632_S8448x5632_1_0_0_1_n_n none a b

theorem whole_at (a : FVec Ideal S8448x1024 .f32) (b : FVec Ideal S1024x5632 .f32) (i : S8448x5632.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel8.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel8 := fun m g _ => by
  rw [defs_eq]
  exact Gen.frame (F := Bits) m g
theorem frame_PI : quiescent_Kernel8Ideal := fun m g _ => Gen.frame m g

/-- So does the reference. -/
theorem frame_RI : quiescent_Reference8Ideal := fun m g _ => by
  hlo_run
  · exact fun _ => ⟨trivial, trivial⟩
  · exact sem_eq_zero_of_no_sems (sig := Cert.Reference8Ideal.sig) rfl _

/-- The kernel's array is the reference's. -/
theorem equal : algebraic_Kernel8Ideal_Reference8Ideal := by
  intro m g m' g' _ agree
  refine ⟨fun c => whole (m ((c.tc : Thread nD τ).loc main_arg0)) (m ((c.tc : Thread nD τ).loc main_arg1)),
    (θ_run Cert.Kernel8Ideal.defs _ _).mono (fun r h c => ?_) (Cert.Kernel8Ideal.Value.run_blocks m g),
    (θ_run Cert.Reference8Ideal.defs _ _).mono (fun r h c => ?_) (Cert.Reference8Ideal.Value.run m' g')⟩
  · exact ⟨(h c).1.trans (array m c), (h c).2⟩
  · obtain ⟨a0, a1⟩ := agree c
    exact ⟨(h c).1.trans (by rw [a0, a1]; rfl), (h c).2⟩

end Cert.Kernel8Ideal.Lin

end
-- ==== Proof.Lin.W2.lean ====
module

public import proofs.«01_k».proof.Defs
public import proofs.«01_k».proof.Proof.Gen.Kernel9
public import proofs.«01_k».proof.Proof.Gen.Kernel9Ideal.Value
public import proofs.«01_k».proof.Proof.Gen.Reference9Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel9Ideal.Lin

open Idealize.ShloMosaic Idealize.ShloMosaic.TcCoe
open Cert.Kernel9Ideal.Gen Cert.Lin

/-! # A SwiGLU's second layer

Eleven by two tiles, each one point's product. -/

/-- What a point adds to its tile. -/
theorem pay_at (s : Vec Ideal S768x512 .f32) (x : Vec Ideal S768x2816 .f32) (y : Vec Ideal S2816x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

variable (m : (ℓ : Loc nD τ sig) → Buf (Elt Ideal) ℓ) (c : Dev nD)

/-- The reference's product. -/
def whole (a : FVec Ideal S8448x2816 .f32) (b : FVec Ideal S2816x1024 .f32) : FVec Ideal S8448x1024 .f32 :=
  Host.dotGeneral Cert.Reference9Ideal.dot_S8448x2816_S2816x1024_S8448x1024_1_0_0_1_n_n none a b

theorem whole_at (a : FVec Ideal S8448x2816 .f32) (b : FVec Ideal S2816x1024 .f32) (i : S8448x1024.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel9.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel9 := fun m g _ => by
  rw [defs_eq]
  exact Gen.frame (F := Bits) m g
theorem frame_PI : quiescent_Kernel9Ideal := fun m g _ => Gen.frame m g

/-- So does the reference. -/
theorem frame_RI : quiescent_Reference9Ideal := fun m g _ => by
  hlo_run
  · exact fun _ => ⟨trivial, trivial⟩
  · exact sem_eq_zero_of_no_sems (sig := Cert.Reference9Ideal.sig) rfl _

/-- The kernel's array is the reference's. -/
theorem equal : algebraic_Kernel9Ideal_Reference9Ideal := by
  intro m g m' g' _ agree
  refine ⟨fun c => whole (m ((c.tc : Thread nD τ).loc main_arg0)) (m ((c.tc : Thread nD τ).loc main_arg1)),
    (θ_run Cert.Kernel9Ideal.defs _ _).mono (fun r h c => ?_) (Cert.Kernel9Ideal.Value.run_blocks m g),
    (θ_run Cert.Reference9Ideal.defs _ _).mono (fun r h c => ?_) (Cert.Reference9Ideal.Value.run m' g')⟩
  · exact ⟨(h c).1.trans (array m c), (h c).2⟩
  · obtain ⟨a0, a1⟩ := agree c
    exact ⟨(h c).1.trans (by rw [a0, a1]; rfl), (h c).2⟩

end Cert.Kernel9Ideal.Lin

end
-- ==== Proof.Lin.WIn.lean ====
module

public import proofs.«01_k».proof.Defs
public import proofs.«01_k».proof.Proof.Gen.Kernel10
public import proofs.«01_k».proof.Proof.Gen.Kernel10Ideal.Value
public import proofs.«01_k».proof.Proof.Gen.Reference10Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel10Ideal.Lin

open Idealize.ShloMosaic Idealize.ShloMosaic.TcCoe
open Cert.Kernel10Ideal.Gen Cert.Lin

/-! # The input projection

Eleven by ten tiles, each one point's product. -/

/-- What a point adds to its tile. -/
theorem pay_at (s : Vec Ideal S768x512 .f32) (x : Vec Ideal S768x1024 .f32) (y : Vec Ideal S1024x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 10, 0] := by decide +kernel
theorem idx1 : ∀ t : Fin grid0.N, win0_1.index t = ![0, t.val % 10] := by decide +kernel
theorem idx2 : ∀ t : Fin grid0.N, win0_2.index t = ![t.val / 10, t.val % 10] := by decide +kernel

variable (m : (ℓ : Loc nD τ sig) → Buf (Elt Ideal) ℓ) (c : Dev nD)

/-- The reference's product. -/
def whole (a : FVec Ideal S8448x1024 .f32) (b : FVec Ideal S1024x5120 .f32) : FVec Ideal S8448x5120 .f32 :=
  Host.dotGeneral Cert.Reference10Ideal.dot_S8448x1024_S1024x5120_S8448x5120_1_0_0_1_n_n none a b

theorem whole_at (a : FVec Ideal S8448x1024 .f32) (b : FVec Ideal S1024x5120 .f32) (i : S8448x5120.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel10.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel10 := fun m g _ => by
  rw [defs_eq]
  exact Gen.frame (F := Bits) m g
theorem frame_PI : quiescent_Kernel10Ideal := fun m g _ => Gen.frame m g

/-- So does the reference. -/
theorem frame_RI : quiescent_Reference10Ideal := fun m g _ => by
  hlo_run
  · exact fun _ => ⟨trivial, trivial⟩
  · exact sem_eq_zero_of_no_sems (sig := Cert.Reference10Ideal.sig) rfl _

/-- The kernel's array is the reference's. -/
theorem equal : algebraic_Kernel10Ideal_Reference10Ideal := by
  intro m g m' g' _ agree
  refine ⟨fun c => whole (m ((c.tc : Thread nD τ).loc main_arg0)) (m ((c.tc : Thread nD τ).loc main_arg1)),
    (θ_run Cert.Kernel10Ideal.defs _ _).mono (fun r h c => ?_) (Cert.Kernel10Ideal.Value.run_blocks m g),
    (θ_run Cert.Reference10Ideal.defs _ _).mono (fun r h c => ?_) (Cert.Reference10Ideal.Value.run m' g')⟩
  · exact ⟨(h c).1.trans (array m c), (h c).2⟩
  · obtain ⟨a0, a1⟩ := agree c
    exact ⟨(h c).1.trans (by rw [a0, a1]; rfl), (h c).2⟩

end Cert.Kernel10Ideal.Lin

end
-- ==== Proof.Lin.WOutDx.lean ====
module

public import proofs.«01_k».proof.Defs
public import proofs.«01_k».proof.Proof.Gen.Kernel12
public import proofs.«01_k».proof.Proof.Gen.Kernel12Ideal.Value
public import proofs.«01_k».proof.Proof.Gen.Reference12Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel12Ideal.Lin

open Idealize.ShloMosaic Idealize.ShloMosaic.TcCoe
open Cert.Kernel12Ideal.Gen Cert.Lin

/-! # The mixer's output projection: the gradient of its input

Eleven tiles of 768 rows, each one point's product. -/

/-- What a point adds to its tile. -/
theorem pay_at (s : Vec Ideal S768x1024 .f32) (x : Vec Ideal S768x1024 .f32) (y : Vec Ideal S1024x1024 .f32) (i : S768x1024.Idx) :
    k0_pay2 s x y i = s i + mulT x y i := by
  unfold mulT
  pointwise [k0_pay2]

/-- A tile starts at zero. -/
theorem zero_at (i : S768x1024.Idx) : k0_pay1 (F := Ideal) i = 0 := by
  pointwise [k0_pay1]

/-- The blocks of a point. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

variable (m : (ℓ : Loc nD τ sig) → Buf (Elt Ideal) ℓ) (c : Dev nD)

/-- The reference's product. -/
def whole (a : FVec Ideal S8448x1024 .f32) (b : FVec Ideal S1024x1024 .f32) : FVec Ideal S8448x1024 .f32 :=
  Host.dotGeneral Cert.Reference12Ideal.dot_S8448x1024_S1024x1024_S8448x1024_1_1_0_0_n_n none a b

theorem whole_at (a : FVec Ideal S8448x1024 .f32) (b : FVec Ideal S1024x1024 .f32) (i : S8448x1024.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mulT_whole (fun j => ?_) (fun j => ?_)
  · blk_ext [iblk, idx0, idx2]
  · blk_ext [iblk, idx1, idx2]

/-- The kernel as printed and the one over the extended reals have one text. -/
theorem defs_eq : Cert.Kernel12.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel12 := fun m g _ => by
  rw [defs_eq]
  exact Gen.frame (F := Bits) m g
theorem frame_PI : quiescent_Kernel12Ideal := fun m g _ => Gen.frame m g

/-- So does the reference. -/
theorem frame_RI : quiescent_Reference12Ideal := fun m g _ => by
  hlo_run
  · exact fun _ => ⟨trivial, trivial, trivial⟩
  · exact sem_eq_zero_of_no_sems (sig := Cert.Reference12Ideal.sig) rfl _

/-- The kernel's array is the reference's. -/
theorem equal : algebraic_Kernel12Ideal_Reference12Ideal := by
  intro m g m' g' _ agree
  refine ⟨fun c => whole (m ((c.tc : Thread nD τ).loc main_arg2)) (m ((c.tc : Thread nD τ).loc main_arg1)),
    (θ_run Cert.Kernel12Ideal.defs _ _).mono (fun r h c => ?_) (Cert.Kernel12Ideal.Value.run_blocks m g),
    (θ_run Cert.Reference12Ideal.defs _ _).mono (fun r h c => ?_) (Cert.Reference12Ideal.Value.run m' g')⟩
  · exact ⟨(h c).1.trans (array m c), (h c).2⟩
  · obtain ⟨a0, a1, a2⟩ := agree c
    exact ⟨(h c).1.trans (by rw [a1, a2]; rfl), (h c).2⟩

end Cert.Kernel12Ideal.Lin

end
-- ==== Proof.Lin.WOutDw.lean ====
module

public import proofs.«01_k».proof.Defs
public import proofs.«01_k».proof.Proof.Gen.Kernel13
public import proofs.«01_k».proof.Proof.Gen.Kernel13Ideal.Value
public import proofs.«01_k».proof.Proof.Gen.Reference13Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel13Ideal.Lin

open Idealize.ShloMosaic Idealize.ShloMosaic.TcCoe
open Cert.Kernel13Ideal.Gen Cert.Lin

/-! # The mixer's output projection: the gradient of its weights

One tile, the sum of eleven points' products. -/

/-- What a point adds to its tile. -/
theorem pay_at (s : Vec Ideal S1024x1024 .f32) (x : Vec Ideal S768x1024 .f32) (y : Vec Ideal S768x1024 .f32) (i : S1024x1024.Idx) :
    k0_pay2 s x y i = s i + tmul x y i := by
  unfold tmul
  pointwise [k0_pay2]

/-- A tile starts at zero. -/
theorem zero_at (i : S1024x1024.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S1024x1024.Idx) : EReal := tmul (r := 1024) (c := 1024) (l := 768) (iblk m c 0 t) (iblk m c 1 t) i

/-- The running tile after the last point of its run. -/
theorem tile (t : Fin cfg0.N) (hr : t.val % 11 = 10) (i : S1024x1024.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x1024 .f32) (b : FVec Ideal S8448x1024 .f32) : FVec Ideal S1024x1024 .f32 :=
  transpose S1024x1024 [1, 0] (Host.dotGeneral Cert.Reference13Ideal.dot_S8448x1024_S8448x1024_S1024x1024_0_0_1_1_n_n none b a)
    Cert.Reference13Ideal.Gen.transposes_S1024x1024_S1024x1024_1_0

theorem whole_at (a : FVec Ideal S8448x1024 .f32) (b : FVec Ideal S8448x1024 .f32) (i : S1024x1024.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel13.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel13 := fun m g _ => by
  rw [defs_eq]
  exact Gen.frame (F := Bits) m g
theorem frame_PI : quiescent_Kernel13Ideal := fun m g _ => Gen.frame m g

/-- So does the reference. -/
theorem frame_RI : quiescent_Reference13Ideal := fun m g _ => by
  hlo_run
  · exact fun _ => ⟨trivial, trivial, trivial⟩
  · exact sem_eq_zero_of_no_sems (sig := Cert.Reference13Ideal.sig) rfl _

/-- The kernel's array is the reference's. -/
theorem equal : algebraic_Kernel13Ideal_Reference13Ideal := by
  intro m g m' g' _ agree
  refine ⟨fun c => whole (m ((c.tc : Thread nD τ).loc main_arg0)) (m ((c.tc : Thread nD τ).loc main_arg2)),
    (θ_run Cert.Kernel13Ideal.defs _ _).mono (fun r h c => ?_) (Cert.Kernel13Ideal.Value.run_blocks m g),
    (θ_run Cert.Reference13Ideal.defs _ _).mono (fun r h c => ?_) (Cert.Reference13Ideal.Value.run m' g')⟩
  · exact ⟨(h c).1.trans (array m c), (h c).2⟩
  · obtain ⟨a0, a1, a2⟩ := agree c
    exact ⟨(h c).1.trans (by rw [a0, a2]; rfl), (h c).2⟩

end Cert.Kernel13Ideal.Lin

end
-- ==== Proof.Lin.WOut.lean ====
module

public import proofs.«01_k».proof.Defs
public import proofs.«01_k».proof.Proof.Gen.Kernel14
public import proofs.«01_k».proof.Proof.Gen.Kernel14Ideal.Value
public import proofs.«01_k».proof.Proof.Gen.Reference14Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel14Ideal.Lin

open Idealize.ShloMosaic Idealize.ShloMosaic.TcCoe
open Cert.Kernel14Ideal.Gen Cert.Lin

/-! # The mixer's output projection

Eleven by two tiles, each one point's product. -/

/-- What a point adds to its tile. -/
theorem pay_at (s : Vec Ideal S768x512 .f32) (x : Vec Ideal S768x1024 .f32) (y : Vec Ideal S1024x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

variable (m : (ℓ : Loc nD τ sig) → Buf (Elt Ideal) ℓ) (c : Dev nD)

/-- The reference's product. -/
def whole (a : FVec Ideal S8448x1024 .f32) (b : FVec Ideal S1024x1024 .f32) : FVec Ideal S8448x1024 .f32 :=
  Host.dotGeneral Cert.Reference14Ideal.dot_S8448x1024_S1024x1024_S8448x1024_1_0_0_1_n_n none a b

theorem whole_at (a : FVec Ideal S8448x1024 .f32) (b : FVec Ideal S1024x1024 .f32) (i : S8448x1024.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel14.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel14 := fun m g _ => by
  rw [defs_eq]
  exact Gen.frame (F := Bits) m g
theorem frame_PI : quiescent_Kernel14Ideal := fun m g _ => Gen.frame m g

/-- So does the reference. -/
theorem frame_RI : quiescent_Reference14Ideal := fun m g _ => by
  hlo_run
  · exact fun _ => ⟨trivial, trivial⟩
  · exact sem_eq_zero_of_no_sems (sig := Cert.Reference14Ideal.sig) rfl _

/-- The kernel's array is the reference's. -/
theorem equal : algebraic_Kernel14Ideal_Reference14Ideal := by
  intro m g m' g' _ agree
  refine ⟨fun c => whole (m ((c.tc : Thread nD τ).loc main_arg0)) (m ((c.tc : Thread nD τ).loc main_arg1)),
    (θ_run Cert.Kernel14Ideal.defs _ _).mono (fun r h c => ?_) (Cert.Kernel14Ideal.Value.run_blocks m g),
    (θ_run Cert.Reference14Ideal.defs _ _).mono (fun r h c => ?_) (Cert.Reference14Ideal.Value.run m' g')⟩
  · exact ⟨(h c).1.trans (array m c), (h c).2⟩
  · obtain ⟨a0, a1⟩ := agree c
    exact ⟨(h c).1.trans (by rw [a0, a1]; rfl), (h c).2⟩

end Cert.Kernel14Ideal.Lin

end
-- ==== Proof.Lin.WGluDx.lean ====
module

public import proofs.«01_k».proof.Defs
public import proofs.«01_k».proof.Proof.Gen.Kernel15
public import proofs.«01_k».proof.Proof.Gen.Kernel15Ideal.Value
public import proofs.«01_k».proof.Proof.Gen.Reference15Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel15Ideal.Lin

open Idealize.ShloMosaic Idealize.ShloMosaic.TcCoe
open Cert.Kernel15Ideal.Gen Cert.Lin

/-! # The gated layer of the S5 branch: the gradient of its input

Eleven tiles of 768 rows, each the sum of two points' products. -/

/-- What a point adds to its tile. -/
theorem pay_at (s : Vec Ideal S768x512 .f32) (x : Vec Ideal S768x1024 .f32) (y : Vec Ideal S512x1024 .f32) (i : S768x512.Idx) :
    k0_pay2 s x y i = s i + mulT x y i := by
  unfold mulT
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 2, t.val % 2] := by decide +kernel
theorem idx1 : ∀ t : Fin grid0.N, win0_1.index t = ![0, t.val % 2] := by decide +kernel
theorem idx2 : ∀ t : Fin grid0.N, win0_2.index t = ![t.val / 2, 0] := by decide +kernel

variable (m : (ℓ : Loc nD τ sig) → Buf (Elt Ideal) ℓ) (c : Dev nD)

/-- A point's share of the tile it adds to. -/
def part (t : Fin cfg0.N) (i : S768x512.Idx) : EReal := mulT (r := 768) (c := 512) (l := 1024) (iblk m c 0 t) (iblk m c 1 t) i

/-- The running tile after the last point of its run. -/
theorem tile (t : Fin cfg0.N) (hr : t.val % 2 = 1) (i : S768x512.Idx) :
    (outsAt0 m c t.val t.isLt).2 i = 0 + ∑ s : Fin 2, part m c ⟨2 * (t.val / 2) + s.val, Pipeline.run_point_lt_of_flush t hr s⟩ i :=
  Pipeline.eq_sum_fin_of_reset_step_apply_of_flush (fun n h => (outsAt0 m c n h).2) 2 (fun _ => 0) (part m c)
    (fun t h i => by
      beta_reduce
      rw [outsAt0_A m c t h (by omega)]
      frame_out
      rw [pay_at, zero_at]; rfl)
    (fun t h i => by
      beta_reduce
      rw [outsAt0_B m c t h (by omega)]; frame_out; rw [read_unread_whole, pay_at]; rfl) t hr i

/-- The last point of a run writes back its running tile. -/
theorem last (t : Fin cfg0.N) (hr : t.val % 2 = 1) : (outsAt0 m c t.val t.isLt).1 = (outsAt0 m c t.val t.isLt).2 := by
  rw [outsAt0_B m c t (by omega) hr]
  frame_out

/-- The reference's product. -/
def whole (a : FVec Ideal S8448x2048 .f32) (b : FVec Ideal S512x2048 .f32) : FVec Ideal S8448x512 .f32 :=
  Host.dotGeneral Cert.Reference15Ideal.dot_S8448x2048_S512x2048_S8448x512_1_1_0_0_n_n none a b

theorem whole_at (a : FVec Ideal S8448x2048 .f32) (b : FVec Ideal S512x2048 .f32) (i : S8448x512.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  have hr : t.val % 2 = 1 := (flush0_2 t).mp hf
  rw [after0_2, last m c t hr, tile m c t hr, whole_at]
  refine mulT_blocks rfl (fun s j h => ?_) (fun s j h => ?_)
  · blk_ext [iblk, idx0, idx2]
  · blk_ext [iblk, idx1, idx2]

/-- The kernel as printed and the one over the extended reals have one text. -/
theorem defs_eq : Cert.Kernel15.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel15 := fun m g _ => by
  rw [defs_eq]
  exact Gen.frame (F := Bits) m g
theorem frame_PI : quiescent_Kernel15Ideal := fun m g _ => Gen.frame m g

/-- So does the reference. -/
theorem frame_RI : quiescent_Reference15Ideal := fun m g _ => by
  hlo_run
  · exact fun _ => ⟨trivial, trivial, trivial⟩
  · exact sem_eq_zero_of_no_sems (sig := Cert.Reference15Ideal.sig) rfl _

/-- The kernel's array is the reference's. -/
theorem equal : algebraic_Kernel15Ideal_Reference15Ideal := by
  intro m g m' g' _ agree
  refine ⟨fun c => whole (m ((c.tc : Thread nD τ).loc main_arg2)) (m ((c.tc : Thread nD τ).loc main_arg1)),
    (θ_run Cert.Kernel15Ideal.defs _ _).mono (fun r h c => ?_) (Cert.Kernel15Ideal.Value.run_blocks m g),
    (θ_run Cert.Reference15Ideal.defs _ _).mono (fun r h c => ?_) (Cert.Reference15Ideal.Value.run m' g')⟩
  · exact ⟨(h c).1.trans (array m c), (h c).2⟩
  · obtain ⟨a0, a1, a2⟩ := agree c
    exact ⟨(h c).1.trans (by rw [a1, a2]; rfl), (h c).2⟩

end Cert.Kernel15Ideal.Lin

end
-- ==== Proof.Lin.WGluDw.lean ====
module

public import proofs.«01_k».proof.Defs
public import proofs.«01_k».proof.Proof.Gen.Kernel16
public import proofs.«01_k».proof.Proof.Gen.Kernel16Ideal.Value
public import proofs.«01_k».proof.Proof.Gen.Reference16Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel16Ideal.Lin

open Idealize.ShloMosaic Idealize.ShloMosaic.TcCoe
open Cert.Kernel16Ideal.Gen Cert.Lin

/-! # The gated layer of the S5 branch: the gradient of its weights

Two tiles of 1024 columns, each the sum of eleven points' products. -/

/-- What a point adds to its tile. -/
theorem pay_at (s : Vec Ideal S512x1024 .f32) (x : Vec Ideal S768x512 .f32) (y : Vec Ideal S768x1024 .f32) (i : S512x1024.Idx) :
    k0_pay2 s x y i = s i + tmul x y i := by
  unfold tmul
  pointwise [k0_pay2]

/-- A tile starts at zero. -/
theorem zero_at (i : S512x1024.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S512x1024.Idx) : EReal := tmul (r := 512) (c := 1024) (l := 768) (iblk m c 0 t) (iblk m c 1 t) i

/-- The running tile after the last point of its run. -/
theorem tile (t : Fin cfg0.N) (hr : t.val % 11 = 10) (i : S512x1024.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x512 .f32) (b : FVec Ideal S8448x2048 .f32) : FVec Ideal S512x2048 .f32 :=
  transpose S512x2048 [1, 0] (Host.dotGeneral Cert.Reference16Ideal.dot_S8448x2048_S8448x512_S2048x512_0_0_1_1_n_n none b a)
    Cert.Reference16Ideal.Gen.transposes_S2048x512_S512x2048_1_0

theorem whole_at (a : FVec Ideal S8448x512 .f32) (b : FVec Ideal S8448x2048 .f32) (i : S512x2048.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel16.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel16 := fun m g _ => by
  rw [defs_eq]
  exact Gen.frame (F := Bits) m g
theorem frame_PI : quiescent_Kernel16Ideal := fun m g _ => Gen.frame m g

/-- So does the reference. -/
theorem frame_RI : quiescent_Reference16Ideal := fun m g _ => by
  hlo_run
  · exact fun _ => ⟨trivial, trivial, trivial⟩
  · exact sem_eq_zero_of_no_sems (sig := Cert.Reference16Ideal.sig) rfl _

/-- The kernel's array is the reference's. -/
theorem equal : algebraic_Kernel16Ideal_Reference16Ideal := by
  intro m g m' g' _ agree
  refine ⟨fun c => whole (m ((c.tc : Thread nD τ).loc main_arg0)) (m ((c.tc : Thread nD τ).loc main_arg2)),
    (θ_run Cert.Kernel16Ideal.defs _ _).mono (fun r h c => ?_) (Cert.Kernel16Ideal.Value.run_blocks m g),
    (θ_run Cert.Reference16Ideal.defs _ _).mono (fun r h c => ?_) (Cert.Reference16Ideal.Value.run m' g')⟩
  · exact ⟨(h c).1.trans (array m c), (h c).2⟩
  · obtain ⟨a0, a1, a2⟩ := agree c
    exact ⟨(h c).1.trans (by rw [a0, a2]; rfl), (h c).2⟩

end Cert.Kernel16Ideal.Lin

end
-- ==== Proof.Lin.WGlu.lean ====
module

public import proofs.«01_k».proof.Defs
public import proofs.«01_k».proof.Proof.Gen.Kernel17
public import proofs.«01_k».proof.Proof.Gen.Kernel17Ideal.Value
public import proofs.«01_k».proof.Proof.Gen.Reference17Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel17Ideal.Lin

open Idealize.ShloMosaic Idealize.ShloMosaic.TcCoe
open Cert.Kernel17Ideal.Gen Cert.Lin

/-! # The gated layer of the S5 branch

Eleven by four tiles, each one point's product. -/

/-- What a point adds to its tile. -/
theorem pay_at (s : Vec Ideal S768x512 .f32) (x : Vec Ideal S768x512 .f32) (y : Vec Ideal S512x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![t.val / 4, t.val % 4] := by decide +kernel

variable (m : (ℓ : Loc nD τ sig) → Buf (Elt Ideal) ℓ) (c : Dev nD)

/-- The reference's product. -/
def whole (a : FVec Ideal S8448x512 .f32) (b : FVec Ideal S512x2048 .f32) : FVec Ideal S8448x2048 .f32 :=
  Host.dotGeneral Cert.Reference17Ideal.dot_S8448x512_S512x2048_S8448x2048_1_0_0_1_n_n none a b

theorem whole_at (a : FVec Ideal S8448x512 .f32) (b : FVec Ideal S512x2048 .f32) (i : S8448x2048.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel17.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel17 := fun m g _ => by
  rw [defs_eq]
  exact Gen.frame (F := Bits) m g
theorem frame_PI : quiescent_Kernel17Ideal := fun m g _ => Gen.frame m g

/-- So does the reference. -/
theorem frame_RI : quiescent_Reference17Ideal := fun m g _ => by
  hlo_run
  · exact fun _ => ⟨trivial, trivial⟩
  · exact sem_eq_zero_of_no_sems (sig := Cert.Reference17Ideal.sig) rfl _

/-- The kernel's array is the reference's. -/
theorem equal : algebraic_Kernel17Ideal_Reference17Ideal := by
  intro m g m' g' _ agree
  refine ⟨fun c => whole (m ((c.tc : Thread nD τ).loc main_arg0)) (m ((c.tc : Thread nD τ).loc main_arg1)),
    (θ_run Cert.Kernel17Ideal.defs _ _).mono (fun r h c => ?_) (Cert.Kernel17Ideal.Value.run_blocks m g),
    (θ_run Cert.Reference17Ideal.defs _ _).mono (fun r h c => ?_) (Cert.Reference17Ideal.Value.run m' g')⟩
  · exact ⟨(h c).1.trans (array m c), (h c).2⟩
  · obtain ⟨a0, a1⟩ := agree c
    exact ⟨(h c).1.trans (by rw [a0, a1]; rfl), (h c).2⟩

end Cert.Kernel17Ideal.Lin

end
-- ==== Proof.Lin.WODx.lean ====
module

public import proofs.«01_k».proof.Defs
public import proofs.«01_k».proof.Proof.Gen.Kernel18
public import proofs.«01_k».proof.Proof.Gen.Kernel18Ideal.Value
public import proofs.«01_k».proof.Proof.Gen.Reference18Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel18Ideal.Lin

open Idealize.ShloMosaic Idealize.ShloMosaic.TcCoe
open Cert.Kernel18Ideal.Gen Cert.Lin

/-! # The output projection of an attention, latent or windowed: the gradient of its input

Eleven tiles of 768 rows, each one point's product. -/

/-- What a point adds to its tile. -/
theorem pay_at (s : Vec Ideal S768x512 .f32) (x : Vec Ideal S768x1024 .f32) (y : Vec Ideal S512x1024 .f32) (i : S768x512.Idx) :
    k0_pay2 s x y i = s i + mulT x y i := by
  unfold mulT
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

variable (m : (ℓ : Loc nD τ sig) → Buf (Elt Ideal) ℓ) (c : Dev nD)

/-- The reference's product. -/
def whole (a : FVec Ideal S8448x1024 .f32) (b : FVec Ideal S512x1024 .f32) : FVec Ideal S8448x512 .f32 :=
  Host.dotGeneral Cert.Reference18Ideal.dot_S8448x1024_S512x1024_S8448x512_1_1_0_0_n_n none a b

theorem whole_at (a : FVec Ideal S8448x1024 .f32) (b : FVec Ideal S512x1024 .f32) (i : S8448x512.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mulT_whole (fun j => ?_) (fun j => ?_)
  · blk_ext [iblk, idx0, idx2]
  · blk_ext [iblk, idx1, idx2]

/-- The kernel as printed and the one over the extended reals have one text. -/
theorem defs_eq : Cert.Kernel18.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel18 := fun m g _ => by
  rw [defs_eq]
  exact Gen.frame (F := Bits) m g
theorem frame_PI : quiescent_Kernel18Ideal := fun m g _ => Gen.frame m g

/-- So does the reference. -/
theorem frame_RI : quiescent_Reference18Ideal := fun m g _ => by
  hlo_run
  · exact fun _ => ⟨trivial, trivial, trivial⟩
  · exact sem_eq_zero_of_no_sems (sig := Cert.Reference18Ideal.sig) rfl _

/-- The kernel's array is the reference's. -/
theorem equal : algebraic_Kernel18Ideal_Reference18Ideal := by
  intro m g m' g' _ agree
  refine ⟨fun c => whole (m ((c.tc : Thread nD τ).loc main_arg2)) (m ((c.tc : Thread nD τ).loc main_arg1)),
    (θ_run Cert.Kernel18Ideal.defs _ _).mono (fun r h c => ?_) (Cert.Kernel18Ideal.Value.run_blocks m g),
    (θ_run Cert.Reference18Ideal.defs _ _).mono (fun r h c => ?_) (Cert.Reference18Ideal.Value.run m' g')⟩
  · exact ⟨(h c).1.trans (array m c), (h c).2⟩
  · obtain ⟨a0, a1, a2⟩ := agree c
    exact ⟨(h c).1.trans (by rw [a1, a2]; rfl), (h c).2⟩

end Cert.Kernel18Ideal.Lin

end
-- ==== Proof.Lin.WODw.lean ====
module

public import proofs.«01_k».proof.Defs
public import proofs.«01_k».proof.Proof.Gen.Kernel19
public import proofs.«01_k».proof.Proof.Gen.Kernel19Ideal.Value
public import proofs.«01_k».proof.Proof.Gen.Reference19Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel19Ideal.Lin

open Idealize.ShloMosaic Idealize.ShloMosaic.TcCoe
open Cert.Kernel19Ideal.Gen Cert.Lin

/-! # The output projection of an attention, latent or windowed: the gradient of its weights

One tile, the sum of eleven points' products. -/

/-- What a point adds to its tile. -/
theorem pay_at (s : Vec Ideal S512x1024 .f32) (x : Vec Ideal S768x512 .f32) (y : Vec Ideal S768x1024 .f32) (i : S512x1024.Idx) :
    k0_pay2 s x y i = s i + tmul x y i := by
  unfold tmul
  pointwise [k0_pay2]

/-- A tile starts at zero. -/
theorem zero_at (i : S512x1024.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S512x1024.Idx) : EReal := tmul (r := 512) (c := 1024) (l := 768) (iblk m c 0 t) (iblk m c 1 t) i

/-- The running tile after the last point of its run. -/
theorem tile (t : Fin cfg0.N) (hr : t.val % 11 = 10) (i : S512x1024.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x512 .f32) (b : FVec Ideal S8448x1024 .f32) : FVec Ideal S512x1024 .f32 :=
  transpose S512x1024 [1, 0] (Host.dotGeneral Cert.Reference19Ideal.dot_S8448x1024_S8448x512_S1024x512_0_0_1_1_n_n none b a)
    Cert.Reference19Ideal.Gen.transposes_S1024x512_S512x1024_1_0

theorem whole_at (a : FVec Ideal S8448x512 .f32) (b : FVec Ideal S8448x1024 .f32) (i : S512x1024.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel19.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel19 := fun m g _ => by
  rw [defs_eq]
  exact Gen.frame (F := Bits) m g
theorem frame_PI : quiescent_Kernel19Ideal := fun m g _ => Gen.frame m g

/-- So does the reference. -/
theorem frame_RI : quiescent_Reference19Ideal := fun m g _ => by
  hlo_run
  · exact fun _ => ⟨trivial, trivial, trivial⟩
  · exact sem_eq_zero_of_no_sems (sig := Cert.Reference19Ideal.sig) rfl _

/-- The kernel's array is the reference's. -/
theorem equal : algebraic_Kernel19Ideal_Reference19Ideal := by
  intro m g m' g' _ agree
  refine ⟨fun c => whole (m ((c.tc : Thread nD τ).loc main_arg0)) (m ((c.tc : Thread nD τ).loc main_arg2)),
    (θ_run Cert.Kernel19Ideal.defs _ _).mono (fun r h c => ?_) (Cert.Kernel19Ideal.Value.run_blocks m g),
    (θ_run Cert.Reference19Ideal.defs _ _).mono (fun r h c => ?_) (Cert.Reference19Ideal.Value.run m' g')⟩
  · exact ⟨(h c).1.trans (array m c), (h c).2⟩
  · obtain ⟨a0, a1, a2⟩ := agree c
    exact ⟨(h c).1.trans (by rw [a0, a2]; rfl), (h c).2⟩

end Cert.Kernel19Ideal.Lin

end
-- ==== Proof.Lin.WO.lean ====
module

public import proofs.«01_k».proof.Defs
public import proofs.«01_k».proof.Proof.Gen.Kernel20
public import proofs.«01_k».proof.Proof.Gen.Kernel20Ideal.Value
public import proofs.«01_k».proof.Proof.Gen.Reference20Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel20Ideal.Lin

open Idealize.ShloMosaic Idealize.ShloMosaic.TcCoe
open Cert.Kernel20Ideal.Gen Cert.Lin

/-! # The output projection of an attention, latent or windowed

Eleven by two tiles, each one point's product. -/

/-- What a point adds to its tile. -/
theorem pay_at (s : Vec Ideal S768x512 .f32) (x : Vec Ideal S768x512 .f32) (y : Vec Ideal S512x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

variable (m : (ℓ : Loc nD τ sig) → Buf (Elt Ideal) ℓ) (c : Dev nD)

/-- The reference's product. -/
def whole (a : FVec Ideal S8448x512 .f32) (b : FVec Ideal S512x1024 .f32) : FVec Ideal S8448x1024 .f32 :=
  Host.dotGeneral Cert.Reference20Ideal.dot_S8448x512_S512x1024_S8448x1024_1_0_0_1_n_n none a b

theorem whole_at (a : FVec Ideal S8448x512 .f32) (b : FVec Ideal S512x1024 .f32) (i : S8448x1024.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel20.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel20 := fun m g _ => by
  rw [defs_eq]
  exact Gen.frame (F := Bits) m g
theorem frame_PI : quiescent_Kernel20Ideal := fun m g _ => Gen.frame m g

/-- So does the reference. -/
theorem frame_RI : quiescent_Reference20Ideal := fun m g _ => by
  hlo_run
  · exact fun _ => ⟨trivial, trivial⟩
  · exact sem_eq_zero_of_no_sems (sig := Cert.Reference20Ideal.sig) rfl _

/-- The kernel's array is the reference's. -/
theorem equal : algebraic_Kernel20Ideal_Reference20Ideal := by
  intro m g m' g' _ agree
  refine ⟨fun c => whole (m ((c.tc : Thread nD τ).loc main_arg0)) (m ((c.tc : Thread nD τ).loc main_arg1)),
    (θ_run Cert.Kernel20Ideal.defs _ _).mono (fun r h c => ?_) (Cert.Kernel20Ideal.Value.run_blocks m g),
    (θ_run Cert.Reference20Ideal.defs _ _).mono (fun r h c => ?_) (Cert.Reference20Ideal.Value.run m' g')⟩
  · exact ⟨(h c).1.trans (array m c), (h c).2⟩
  · obtain ⟨a0, a1⟩ := agree c
    exact ⟨(h c).1.trans (by rw [a0, a1]; rfl), (h c).2⟩

end Cert.Kernel20Ideal.Lin

end
-- ==== Proof.Lin.WUqDx.lean ====
module

public import proofs.«01_k».proof.Defs
public import proofs.«01_k».proof.Proof.Gen.Kernel21
public import proofs.«01_k».proof.Proof.Gen.Kernel21Ideal.Value
public import proofs.«01_k».proof.Proof.Gen.Reference21Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel21Ideal.Lin

open Idealize.ShloMosaic Idealize.ShloMosaic.TcCoe
open Cert.Kernel21Ideal.Gen Cert.Lin

/-! # The latent attention's queries: the gradient of their input

Eleven tiles of 768 rows, each one point's product. -/

/-- What a point adds to its tile. -/
theorem pay_at (s : Vec Ideal S768x384 .f32) (x : Vec Ideal S768x768 .f32) (y : Vec Ideal S384x768 .f32) (i : S768x384.Idx) :
    k0_pay2 s x y i = s i + mulT x y i := by
  unfold mulT
  pointwise [k0_pay2]

/-- A tile starts at zero. -/
theorem zero_at (i : S768x384.Idx) : k0_pay1 (F := Ideal) i = 0 := by
  pointwise [k0_pay1]

/-- The blocks of a point. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

variable (m : (ℓ : Loc nD τ sig) → Buf (Elt Ideal) ℓ) (c : Dev nD)

/-- The reference's product. -/
def whole (a : FVec Ideal S8448x768 .f32) (b : FVec Ideal S384x768 .f32) : FVec Ideal S8448x384 .f32 :=
  Host.dotGeneral Cert.Reference21Ideal.dot_S8448x768_S384x768_S8448x384_1_1_0_0_n_n none a b

theorem whole_at (a : FVec Ideal S8448x768 .f32) (b : FVec Ideal S384x768 .f32) (i : S8448x384.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mulT_whole (fun j => ?_) (fun j => ?_)
  · blk_ext [iblk, idx0, idx2]
  · blk_ext [iblk, idx1, idx2]

/-- The kernel as printed and the one over the extended reals have one text. -/
theorem defs_eq : Cert.Kernel21.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel21 := fun m g _ => by
  rw [defs_eq]
  exact Gen.frame (F := Bits) m g
theorem frame_PI : quiescent_Kernel21Ideal := fun m g _ => Gen.frame m g

/-- So does the reference. -/
theorem frame_RI : quiescent_Reference21Ideal := fun m g _ => by
  hlo_run
  · exact fun _ => ⟨trivial, trivial, trivial⟩
  · exact sem_eq_zero_of_no_sems (sig := Cert.Reference21Ideal.sig) rfl _

/-- The kernel's array is the reference's. -/
theorem equal : algebraic_Kernel21Ideal_Reference21Ideal := by
  intro m g m' g' _ agree
  refine ⟨fun c => whole (m ((c.tc : Thread nD τ).loc main_arg2)) (m ((c.tc : Thread nD τ).loc main_arg1)),
    (θ_run Cert.Kernel21Ideal.defs _ _).mono (fun r h c => ?_) (Cert.Kernel21Ideal.Value.run_blocks m g),
    (θ_run Cert.Reference21Ideal.defs _ _).mono (fun r h c => ?_) (Cert.Reference21Ideal.Value.run m' g')⟩
  · exact ⟨(h c).1.trans (array m c), (h c).2⟩
  · obtain ⟨a0, a1, a2⟩ := agree c
    exact ⟨(h c).1.trans (by rw [a1, a2]; rfl), (h c).2⟩

end Cert.Kernel21Ideal.Lin

end
-- ==== Proof.Lin.WUqDw.lean ====
module

public import proofs.«01_k».proof.Defs
public import proofs.«01_k».proof.Proof.Gen.Kernel22
public import proofs.«01_k».proof.Proof.Gen.Kernel22Ideal.Value
public import proofs.«01_k».proof.Proof.Gen.Reference22Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel22Ideal.Lin

open Idealize.ShloMosaic Idealize.ShloMosaic.TcCoe
open Cert.Kernel22Ideal.Gen Cert.Lin

/-! # The latent attention's queries: the gradient of their weights

One tile, the sum of eleven points' products. -/

/-- What a point adds to its tile. -/
theorem pay_at (s : Vec Ideal S384x768 .f32) (x : Vec Ideal S768x384 .f32) (y : Vec Ideal S768x768 .f32) (i : S384x768.Idx) :
    k0_pay2 s x y i = s i + tmul x y i := by
  unfold tmul
  pointwise [k0_pay2]

/-- A tile starts at zero. -/
theorem zero_at (i : S384x768.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S384x768.Idx) : EReal := tmul (r := 384) (c := 768) (l := 768) (iblk m c 0 t) (iblk m c 1 t) i

/-- The running tile after the last point of its run. -/
theorem tile (t : Fin cfg0.N) (hr : t.val % 11 = 10) (i : S384x768.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x384 .f32) (b : FVec Ideal S8448x768 .f32) : FVec Ideal S384x768 .f32 :=
  transpose S384x768 [1, 0] (Host.dotGeneral Cert.Reference22Ideal.dot_S8448x768_S8448x384_S768x384_0_0_1_1_n_n none b a)
    Cert.Reference22Ideal.Gen.transposes_S768x384_S384x768_1_0

theorem whole_at (a : FVec Ideal S8448x384 .f32) (b : FVec Ideal S8448x768 .f32) (i : S384x768.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel22.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel22 := fun m g _ => by
  rw [defs_eq]
  exact Gen.frame (F := Bits) m g
theorem frame_PI : quiescent_Kernel22Ideal := fun m g _ => Gen.frame m g

/-- So does the reference. -/
theorem frame_RI : quiescent_Reference22Ideal := fun m g _ => by
  hlo_run
  · exact fun _ => ⟨trivial, trivial, trivial⟩
  · exact sem_eq_zero_of_no_sems (sig := Cert.Reference22Ideal.sig) rfl _

/-- The kernel's array is the reference's. -/
theorem equal : algebraic_Kernel22Ideal_Reference22Ideal := by
  intro m g m' g' _ agree
  refine ⟨fun c => whole (m ((c.tc : Thread nD τ).loc main_arg0)) (m ((c.tc : Thread nD τ).loc main_arg2)),
    (θ_run Cert.Kernel22Ideal.defs _ _).mono (fun r h c => ?_) (Cert.Kernel22Ideal.Value.run_blocks m g),
    (θ_run Cert.Reference22Ideal.defs _ _).mono (fun r h c => ?_) (Cert.Reference22Ideal.Value.run m' g')⟩
  · exact ⟨(h c).1.trans (array m c), (h c).2⟩
  · obtain ⟨a0, a1, a2⟩ := agree c
    exact ⟨(h c).1.trans (by rw [a0, a2]; rfl), (h c).2⟩

end Cert.Kernel22Ideal.Lin

end
-- ==== Proof.Lin.WUq.lean ====
module

public import proofs.«01_k».proof.Defs
public import proofs.«01_k».proof.Proof.Gen.Kernel23
public import proofs.«01_k».proof.Proof.Gen.Kernel23Ideal.Value
public import proofs.«01_k».proof.Proof.Gen.Reference23Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel23Ideal.Lin

open Idealize.ShloMosaic Idealize.ShloMosaic.TcCoe
open Cert.Kernel23Ideal.Gen Cert.Lin

/-! # The latent attention's queries

Eleven by three tiles, each one point's product. -/

/-- What a point adds to its tile. -/
theorem pay_at (s : Vec Ideal S768x256 .f32) (x : Vec Ideal S768x384 .f32) (y : Vec Ideal S384x256 .f32) (i : S768x256.Idx) :
    k0_pay2 s x y i = s i + mul x y i := by
  unfold mul
  pointwise [k0_pay2]

/-- A tile starts at zero. -/
theorem zero_at (i : S768x256.Idx) : k0_pay1 (F := Ideal) i = 0 := by
  pointwise [k0_pay1]

/-- The blocks of a point. -/
theorem idx0 : ∀ t : Fin grid0.N, win0_0.index t = ![t.val / 3, 0] := by decide +kernel
theorem idx1 : ∀ t : Fin grid0.N, win0_1.index t = ![0, t.val % 3] := by decide +kernel
theorem idx2 : ∀ t : Fin grid0.N, win0_2.index t = ![t.val / 3, t.val % 3] := by decide +kernel

variable (m : (ℓ : Loc nD τ sig) → Buf (Elt Ideal) ℓ) (c : Dev nD)

/-- The reference's product. -/
def whole (a : FVec Ideal S8448x384 .f32) (b : FVec Ideal S384x768 .f32) : FVec Ideal S8448x768 .f32 :=
  Host.dotGeneral Cert.Reference23Ideal.dot_S8448x384_S384x768_S8448x768_1_0_0_1_n_n none a b

theorem whole_at (a : FVec Ideal S8448x384 .f32) (b : FVec Ideal S384x768 .f32) (i : S8448x768.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel23.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel23 := fun m g _ => by
  rw [defs_eq]
  exact Gen.frame (F := Bits) m g
theorem frame_PI : quiescent_Kernel23Ideal := fun m g _ => Gen.frame m g

/-- So does the reference. -/
theorem frame_RI : quiescent_Reference23Ideal := fun m g _ => by
  hlo_run
  · exact fun _ => ⟨trivial, trivial⟩
  · exact sem_eq_zero_of_no_sems (sig := Cert.Reference23Ideal.sig) rfl _

/-- The kernel's array is the reference's. -/
theorem equal : algebraic_Kernel23Ideal_Reference23Ideal := by
  intro m g m' g' _ agree
  refine ⟨fun c => whole (m ((c.tc : Thread nD τ).loc main_arg0)) (m ((c.tc : Thread nD τ).loc main_arg1)),
    (θ_run Cert.Kernel23Ideal.defs _ _).mono (fun r h c => ?_) (Cert.Kernel23Ideal.Value.run_blocks m g),
    (θ_run Cert.Reference23Ideal.defs _ _).mono (fun r h c => ?_) (Cert.Reference23Ideal.Value.run m' g')⟩
  · exact ⟨(h c).1.trans (array m c), (h c).2⟩
  · obtain ⟨a0, a1⟩ := agree c
    exact ⟨(h c).1.trans (by rw [a0, a1]; rfl), (h c).2⟩

end Cert.Kernel23Ideal.Lin

end
-- ==== Proof.Lin.WUkvDx.lean ====
module

public import proofs.«01_k».proof.Defs
public import proofs.«01_k».proof.Proof.Gen.Kernel24
public import proofs.«01_k».proof.Proof.Gen.Kernel24Ideal.Value
public import proofs.«01_k».proof.Proof.Gen.Reference24Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel24Ideal.Lin

open Idealize.ShloMosaic Idealize.ShloMosaic.TcCoe
open Cert.Kernel24Ideal.Gen Cert.Lin

/-! # The latent attention's keys and values: the gradient of their input

Eleven tiles of 768 rows, each one point's product. -/

/-- What a point adds to its tile. -/
theorem pay_at (s : Vec Ideal S768x256 .f32) (x : Vec Ideal S768x1024 .f32) (y : Vec Ideal S256x1024 .f32) (i : S768x256.Idx) :
    k0_pay2 s x y i = s i + mulT x y i := by
  unfold mulT
  pointwise [k0_pay2]

/-- A tile starts at zero. -/
theorem zero_at (i : S768x256.Idx) : k0_pay1 (F := Ideal) i = 0 := by
  pointwise [k0_pay1]

/-- The blocks of a point. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

variable (m : (ℓ : Loc nD τ sig) → Buf (Elt Ideal) ℓ) (c : Dev nD)

/-- The reference's product. -/
def whole (a : FVec Ideal S8448x1024 .f32) (b : FVec Ideal S256x1024 .f32) : FVec Ideal S8448x256 .f32 :=
  Host.dotGeneral Cert.Reference24Ideal.dot_S8448x1024_S256x1024_S8448x256_1_1_0_0_n_n none a b

theorem whole_at (a : FVec Ideal S8448x1024 .f32) (b : FVec Ideal S256x1024 .f32) (i : S8448x256.Idx) : whole a b i = mulT a b i := by
  unfold mulT
  pointwise [whole]

/-- The array the call leaves is the reference's. -/
theorem array : (dats m 0 c).arrAt 2 cfg0.N = whole (m ((c.tc : Thread nD τ).loc main_arg2)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mulT_whole (fun j => ?_) (fun j => ?_)
  · blk_ext [iblk, idx0, idx2]
  · blk_ext [iblk, idx1, idx2]

/-- The kernel as printed and the one over the extended reals have one text. -/
theorem defs_eq : Cert.Kernel24.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel24 := fun m g _ => by
  rw [defs_eq]
  exact Gen.frame (F := Bits) m g
theorem frame_PI : quiescent_Kernel24Ideal := fun m g _ => Gen.frame m g

/-- So does the reference. -/
theorem frame_RI : quiescent_Reference24Ideal := fun m g _ => by
  hlo_run
  · exact fun _ => ⟨trivial, trivial, trivial⟩
  · exact sem_eq_zero_of_no_sems (sig := Cert.Reference24Ideal.sig) rfl _

/-- The kernel's array is the reference's. -/
theorem equal : algebraic_Kernel24Ideal_Reference24Ideal := by
  intro m g m' g' _ agree
  refine ⟨fun c => whole (m ((c.tc : Thread nD τ).loc main_arg2)) (m ((c.tc : Thread nD τ).loc main_arg1)),
    (θ_run Cert.Kernel24Ideal.defs _ _).mono (fun r h c => ?_) (Cert.Kernel24Ideal.Value.run_blocks m g),
    (θ_run Cert.Reference24Ideal.defs _ _).mono (fun r h c => ?_) (Cert.Reference24Ideal.Value.run m' g')⟩
  · exact ⟨(h c).1.trans (array m c), (h c).2⟩
  · obtain ⟨a0, a1, a2⟩ := agree c
    exact ⟨(h c).1.trans (by rw [a1, a2]; rfl), (h c).2⟩

end Cert.Kernel24Ideal.Lin

end
-- ==== Proof.Lin.WUkvDw.lean ====
module

public import proofs.«01_k».proof.Defs
public import proofs.«01_k».proof.Proof.Gen.Kernel25
public import proofs.«01_k».proof.Proof.Gen.Kernel25Ideal.Value
public import proofs.«01_k».proof.Proof.Gen.Reference25Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel25Ideal.Lin

open Idealize.ShloMosaic Idealize.ShloMosaic.TcCoe
open Cert.Kernel25Ideal.Gen Cert.Lin

/-! # The latent attention's keys and values: the gradient of their weights

One tile, the sum of eleven points' products. -/

/-- What a point adds to its tile. -/
theorem pay_at (s : Vec Ideal S256x1024 .f32) (x : Vec Ideal S768x256 .f32) (y : Vec Ideal S768x1024 .f32) (i : S256x1024.Idx) :
    k0_pay2 s x y i = s i + tmul x y i := by
  unfold tmul
  pointwise [k0_pay2]

/-- A tile starts at zero. -/
theorem zero_at (i : S256x1024.Idx) : k0_pay1 (F := Ideal) i = 0 := by
  pointwise [k0_pay1]

/-- The blocks of a point. -/
theorem idx0 : ∀ t : Fin grid0.N, win0_0.index t = ![t.val % 11, 0] := by decide +kernel
theorem idx1 : ∀ t : Fin grid0.N, win0_1.index t = ![t.val % 11, t.val / 11] := by decide +kernel
theorem idx2 : ∀ t : Fin grid0.N, win0_2.index t = ![0, t.val / 11] := by decide +kernel

variable (m : (ℓ : Loc nD τ sig) → Buf (Elt Ideal) ℓ) (c : Dev nD)

/-- A point's share of the tile it adds to. -/
def part (t : Fin cfg0.N) (i : S256x1024.Idx) : EReal := tmul (r := 256) (c := 1024) (l := 768) (iblk m c 0 t) (iblk m c 1 t) i

/-- The running tile after the last point of its run. -/
theorem tile (t : Fin cfg0.N) (hr : t.val % 11 = 10) (i : S256x1024.Idx) :
    (outsAt0 m c t.val t.isLt).2 i = 0 + ∑ s : Fin 11, part m c ⟨11 * (t.val / 11) + s.val, Pipeline.run_point_lt_of_flush t hr s⟩ i :=
  Pipeline.eq_sum_fin_of_reset_step_apply_of_flush (fun n h => (outsAt0 m c n h).2) 11 (fun _ => 0) (part m c)
    (fun t h i => by
      beta_reduce
      rw [outsAt0_A m c t h (by omega)]
      frame_out
      rw [pay_at, zero_at]; rfl)
    (fun t h i => by
      beta_reduce
      by_cases h1 : t.val % 11 = 10
      · rw [outsAt0_C m c t h h1]; frame_out; rw [read_unread_whole, pay_at]; rfl
      · rw [outsAt0_B m c t h h1]; frame_out; rw [read_unread_whole, pay_at]; rfl) t hr i

/-- The last point of a run writes back its running tile. -/
theorem last (t : Fin cfg0.N) (hr : t.val % 11 = 10) : (outsAt0 m c t.val t.isLt).1 = (outsAt0 m c t.val t.isLt).2 := by
  rw [outsAt0_C m c t (by omega) hr]
  frame_out

/-- The reference's product, of which it takes the transpose. -/
def whole (a : FVec Ideal S8448x256 .f32) (b : FVec Ideal S8448x1024 .f32) : FVec Ideal S256x1024 .f32 :=
  transpose S256x1024 [1, 0] (Host.dotGeneral Cert.Reference25Ideal.dot_S8448x1024_S8448x256_S1024x256_0_0_1_1_n_n none b a)
    Cert.Reference25Ideal.Gen.transposes_S1024x256_S256x1024_1_0

theorem whole_at (a : FVec Ideal S8448x256 .f32) (b : FVec Ideal S8448x1024 .f32) (i : S256x1024.Idx) : whole a b i = tmul a b i := by
  unfold tmul
  pointwise [whole]
  exact Finset.sum_congr rfl fun _ _ => mul_comm _ _

/-- The array the call leaves is the reference's. -/
theorem array : (dats m 0 c).arrAt 2 cfg0.N = whole (m ((c.tc : Thread nD τ).loc main_arg0)) (m ((c.tc : Thread nD τ).loc main_arg2)) := by
  refine (dats m 0 c).arrAt_eq_of_covers 2 _ (by decide +kernel) fun t hf y => ?_
  blk_simp
  have hr : t.val % 11 = 10 := (flush0_2 t).mp hf
  rw [after0_2, last m c t hr, tile m c t hr, whole_at]
  refine tmul_blocks rfl (fun s j h => ?_) (fun s j h => ?_)
  · blk_ext [iblk, idx0, idx2]
  · blk_ext [iblk, idx1, idx2]

/-- The kernel as printed and the one over the extended reals have one text. -/
theorem defs_eq : Cert.Kernel25.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel25 := fun m g _ => by
  rw [defs_eq]
  exact Gen.frame (F := Bits) m g
theorem frame_PI : quiescent_Kernel25Ideal := fun m g _ => Gen.frame m g

/-- So does the reference. -/
theorem frame_RI : quiescent_Reference25Ideal := fun m g _ => by
  hlo_run
  · exact fun _ => ⟨trivial, trivial, trivial⟩
  · exact sem_eq_zero_of_no_sems (sig := Cert.Reference25Ideal.sig) rfl _

/-- The kernel's array is the reference's. -/
theorem equal : algebraic_Kernel25Ideal_Reference25Ideal := by
  intro m g m' g' _ agree
  refine ⟨fun c => whole (m ((c.tc : Thread nD τ).loc main_arg0)) (m ((c.tc : Thread nD τ).loc main_arg2)),
    (θ_run Cert.Kernel25Ideal.defs _ _).mono (fun r h c => ?_) (Cert.Kernel25Ideal.Value.run_blocks m g),
    (θ_run Cert.Reference25Ideal.defs _ _).mono (fun r h c => ?_) (Cert.Reference25Ideal.Value.run m' g')⟩
  · exact ⟨(h c).1.trans (array m c), (h c).2⟩
  · obtain ⟨a0, a1, a2⟩ := agree c
    exact ⟨(h c).1.trans (by rw [a0, a2]; rfl), (h c).2⟩

end Cert.Kernel25Ideal.Lin

end
-- ==== Proof.Lin.WUkv.lean ====
module

public import proofs.«01_k».proof.Defs
public import proofs.«01_k».proof.Proof.Gen.Kernel26
public import proofs.«01_k».proof.Proof.Gen.Kernel26Ideal.Value
public import proofs.«01_k».proof.Proof.Gen.Reference26Ideal.Run
public import proofs.«01_k».proof.Proof.Lin.Products
public import Idealize.ShloMosaic.Lib.Claim
public import Idealize.ShloMosaic.Lib.Quiescent
public import Idealize.ShloMosaic.Lib.Pipeline.ReadBack

@[expose] public section

set_option maxRecDepth 16384

noncomputable section

namespace Cert.Kernel26Ideal.Lin

open Idealize.ShloMosaic Idealize.ShloMosaic.TcCoe
open Cert.Kernel26Ideal.Gen Cert.Lin

/-! # The latent attention's keys and values

Eleven by two tiles, each one point's product. -/

/-- What a point adds to its tile. -/
theorem pay_at (s : Vec Ideal S768x512 .f32) (x : Vec Ideal S768x256 .f32) (y : Vec Ideal S256x512 .f32) (i : S768x512.Idx) :
    k0_pay2 s x y i = s i + mul x y i := by
  unfold mul
  pointwise [k0_pay2]

/-- A tile starts at zero. -/
theorem zero_at (i : S768x512.Idx) : k0_pay1 (F := Ideal) i = 0 := by
  pointwise [k0_pay1]

/-- The blocks of a point. -/
theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel

variable (m : (ℓ : Loc nD τ sig) → Buf (Elt Ideal) ℓ) (c : Dev nD)

/-- The reference's product. -/
def whole (a : FVec Ideal S8448x256 .f32) (b : FVec Ideal S256x1024 .f32) : FVec Ideal S8448x1024 .f32 :=
  Host.dotGeneral Cert.Reference26Ideal.dot_S8448x256_S256x1024_S8448x1024_1_0_0_1_n_n none a b

theorem whole_at (a : FVec Ideal S8448x256 .f32) (b : FVec Ideal S256x1024 .f32) (i : S8448x1024.Idx) : whole a b i = mul a b i := by
  unfold mul
  pointwise [whole]

/-- The array the call leaves is the reference's. -/
theorem array : (dats m 0 c).arrAt 2 cfg0.N = whole (m ((c.tc : Thread nD τ).loc main_arg0)) (m ((c.tc : Thread nD τ).loc main_arg1)) := by
  refine (dats m 0 c).arrAt_eq_of_covers 2 _ (by decide +kernel) fun t hf y => ?_
  blk_simp
  rw [after0_2, outsAt0]
  frame_out
  rw [pay_at, zero_at, zero_add, whole_at]
  refine mul_whole (fun j => ?_) (fun j => ?_)
  · blk_ext [iblk, idx0, idx2]
  · blk_ext [iblk, idx1, idx2]

/-- The kernel as printed and the one over the extended reals have one text. -/
theorem defs_eq : Cert.Kernel26.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel26 := fun m g _ => by
  rw [defs_eq]
  exact Gen.frame (F := Bits) m g
theorem frame_PI : quiescent_Kernel26Ideal := fun m g _ => Gen.frame m g

/-- So does the reference. -/
theorem frame_RI : quiescent_Reference26Ideal := fun m g _ => by
  hlo_run
  · exact fun _ => ⟨trivial, trivial⟩
  · exact sem_eq_zero_of_no_sems (sig := Cert.Reference26Ideal.sig) rfl _

/-- The kernel's array is the reference's. -/
theorem equal : algebraic_Kernel26Ideal_Reference26Ideal := by
  intro m g m' g' _ agree
  refine ⟨fun c => whole (m ((c.tc : Thread nD τ).loc main_arg0)) (m ((c.tc : Thread nD τ).loc main_arg1)),
    (θ_run Cert.Kernel26Ideal.defs _ _).mono (fun r h c => ?_) (Cert.Kernel26Ideal.Value.run_blocks m g),
    (θ_run Cert.Reference26Ideal.defs _ _).mono (fun r h c => ?_) (Cert.Reference26Ideal.Value.run m' g')⟩
  · exact ⟨(h c).1.trans (array m c), (h c).2⟩
  · obtain ⟨a0, a1⟩ := agree c
    exact ⟨(h c).1.trans (by rw [a0, a1]; rfl), (h c).2⟩

end Cert.Kernel26Ideal.Lin

end
-- ==== Proof.Step.AdamW.lean ====
module

public import Idealize.ShloMosaic.Lib.Pointwise
public import Idealize.ShloMosaic.Lib.Pipeline.ValueKit

@[expose] public section

noncomputable section

namespace Cert.AdamW

open Idealize.ShloMosaic

/-! # AdamW, one entry at a time

A weight's update is a function of the weight, its gradient and the two moments, entry by entry. -/

/-- The new first moment, of the gradient and the old one. -/
def mean (g m : EReal) : EReal := Ideal.ofBits .f32 0x3F666666#32 * m + Ideal.ofBits .f32 0x3DCCCCCD#32 * g

/-- The new second moment, of the gradient and the old one. -/
def square (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32 *
    (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- A block of the gradient, read without its leading axis of one. -/
def flat {r k : ℕ} (g : Vec Ideal ⟨3, ![1, r, k]⟩ .f32) (i : (⟨2, ![r, k]⟩ : Shape).Idx) : EReal := g (ix3 0 (i 0) (i 1))

end Cert.AdamW

end
-- ==== Proof.Step.UpdateW13.lean ====
module

public import proofs.«01_k».proof.Defs
public import proofs.«01_k».proof.Proof.Gen.Kernel27
public import proofs.«01_k».proof.Proof.Gen.Kernel27Ideal.Value
public import proofs.«01_k».proof.Proof.Gen.Reference27Ideal.Run
public import proofs.«01_k».proof.Proof.Step.AdamW
public import Idealize.ShloMosaic.Lib.Pointwise
public import Idealize.ShloMosaic.Lib.StableHlo.ReadAt
public import Idealize.ShloMosaic.Lib.Claim
public import Idealize.ShloMosaic.Lib.Quiescent
public import Idealize.ShloMosaic.Lib.Pipeline.ReadBack

@[expose] public section

set_option maxRecDepth 16384

noncomputable section

namespace Cert.Kernel27Ideal.Step

open Idealize.ShloMosaic Idealize.ShloMosaic.TcCoe
open Cert.Kernel27Ideal.Gen Cert.AdamW

/-! # The update of the first layers of the SwiGLUs -/

/-- What a point writes, entry by entry. -/
theorem pay_grad (g : Vec Ideal S1x64x1408 .f32) (i : S64x1408.Idx) : k0_pay1 g i = flat g i := by
  pointwise [k0_pay1, flat]

theorem pay_mean (g : Vec Ideal S1x64x1408 .f32) (a : Vec Ideal S64x1408 .f32) (i : S64x1408.Idx) :
    k0_pay2 g a i = mean (flat g i) (a i) := by
  rw [← pay_grad]
  pointwise [k0_pay2, mean]

theorem pay_square (g : Vec Ideal S1x64x1408 .f32) (a : Vec Ideal S64x1408 .f32) (i : S64x1408.Idx) :
    k0_pay3 g a i = square (flat g i) (a i) := by
  rw [← pay_grad]
  pointwise [k0_pay3, square]

theorem pay_delta (g : Vec Ideal S1x64x1408 .f32) (a b w : Vec Ideal S64x1408 .f32) (i : S64x1408.Idx) :
    k0_pay4 g a b w i = delta (w i) (flat g i) (a i) (b i) := by
  unfold delta
  rw [← pay_mean, ← pay_square]
  pointwise [k0_pay4]

/-- The blocks of a point: its rows, in every window. -/
theorem idx0 : ∀ t : Fin grid0.N, win0_0.index t = ![t.val, 0] := by decide +kernel
theorem idx1 : ∀ t : Fin grid0.N, win0_1.index t = ![0, t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel

variable (m : (ℓ : Loc nD τ sig) → Buf (Elt Ideal) ℓ) (c : Dev nD)

/-- The four arguments. -/
def w : FVec Ideal S4096x1408 .f32 := m ((c.tc : Thread nD τ).loc main_arg0)
def g : FVec Ideal S4096x1408 .f32 := m ((c.tc : Thread nD τ).loc main_arg1)
def a : FVec Ideal S4096x1408 .f32 := m ((c.tc : Thread nD τ).loc main_arg2)
def b : FVec Ideal S4096x1408 .f32 := m ((c.tc : Thread nD τ).loc main_arg3)

/-- The gradient's array is the argument, with a leading axis of one. -/
theorem stack : V m c main_v0 = fun i => g m c (ix2 (i 1) (i 2)) := by
  funext i
  unfold V
  after_reads_at
  rfl

/-- The block of the gradient that a point reads. -/
theorem grad_block (t : Fin cfg0.N) (y : S64x1408.Idx) : flat (iblk m c 1 t) y = g m c ((win0_0.blk t).view.emb y) := by
  rw [flat]
  simp only [iblk]
  blk_simp
  rw [stack]
  blk_ext [idx1, idx0]

/-- What the four arrays hold at the end. -/
theorem grad_array : (dats m 0 c).arrAt 4 cfg0.N = g m c := by
  refine (dats m 0 c).arrAt_eq_of_covers 4 _ (by decide +kernel) fun t hf y => ?_
  blk_simp
  rw [after0_4]
  frame_out
  rw [pay_grad, grad_block]
  blk_ext [idx0, idx4]

theorem delta_array : (dats m 0 c).arrAt 5 cfg0.N = fun i => delta (w m c i) (g m c i) (a m c i) (b m c i) := by
  refine (dats m 0 c).arrAt_eq_of_covers 5 _ (by decide +kernel) fun t hf y => ?_
  blk_simp
  rw [after0_5]
  frame_out
  rw [pay_delta, grad_block]
  blk_point [iblk, idx0, idx2, idx3, idx5, w, a, b, g]

theorem mean_array : (dats m 0 c).arrAt 6 cfg0.N = fun i => mean (g m c i) (a m c i) := by
  refine (dats m 0 c).arrAt_eq_of_covers 6 _ (by decide +kernel) fun t hf y => ?_
  blk_simp
  rw [after0_6]
  frame_out
  rw [pay_mean, grad_block]
  blk_point [iblk, idx0, idx2, idx6, a, g]

theorem square_array : (dats m 0 c).arrAt 7 cfg0.N = fun i => square (g m c i) (b m c i) := by
  refine (dats m 0 c).arrAt_eq_of_covers 7 _ (by decide +kernel) fun t hf y => ?_
  blk_simp
  rw [after0_7]
  frame_out
  rw [pay_square, grad_block]
  blk_point [iblk, idx0, idx3, idx7, b, g]

/-- The kernel as printed and the one over the extended reals have one text. -/
theorem defs_eq : Cert.Kernel27.defs (F := Bits) = defs (F := Bits) :=
  congrArg (Pipeline.defs _) (congrArg Defs.onTc (funext fun l => funext fun a => match l, a with | 0, (_, _) => rfl))
theorem main_eq : Cert.Kernel27.main (F := Bits) = main (F := Bits) := by
  unfold Cert.Kernel27.main main
  rfl

/-- Each runs to its end and leaves its arguments and its counters alone. -/
theorem frame_P : quiescent_Kernel27 := fun m g _ => by
  rw [defs_eq, main_eq]
  exact Gen.frame (F := Bits) m g
theorem frame_PI : quiescent_Kernel27Ideal := fun m g _ => Gen.frame m g

/-- So does the reference. -/
theorem frame_RI : quiescent_Reference27Ideal := fun m g _ => by
  hlo_run
  · exact fun _ => ⟨trivial, trivial, trivial, trivial⟩
  · exact sem_eq_zero_of_no_sems (sig := Cert.Reference27Ideal.sig) rfl _

/-- The kernel's arrays are the reference's. -/
theorem equal : algebraic_Kernel27Ideal_Reference27Ideal := by
  intro m g' m' g'' _ agree
  refine ⟨fun c => g m c, fun c i => delta (w m c i) (g m c i) (a m c i) (b m c i), fun c i => mean (g m c i) (a m c i),
    fun c i => square (g m c i) (b m c i),
    (θ_run Cert.Kernel27Ideal.defs _ _).mono (fun r h c => ?_) (Cert.Kernel27Ideal.Value.run_blocks m g'),
    (θ_run Cert.Reference27Ideal.defs _ _).mono (fun r h c => ?_) (Cert.Reference27Ideal.Value.run m' g'')⟩
  · obtain ⟨h0, h1, h2, h3, hr⟩ := h c
    exact ⟨h0.trans (grad_array m c), h1.trans (delta_array m c), h2.trans (mean_array m c), h3.trans (square_array m c), hr⟩
  · obtain ⟨a0, a1, a2, a3⟩ := agree c
    obtain ⟨h0, h1, h2, h3, hr⟩ := h c
    refine ⟨h0.trans a1, h1.trans ?_, h2.trans ?_, h3.trans ?_, hr⟩
    all_goals
      funext i
      first | rw [a0, a1, a2, a3] | rw [a1, a2] | rw [a1, a3]
      pointwise [delta, mean, square, w, g, a, b]

end Cert.Kernel27Ideal.Step

end
-- ==== Proof.Step.Rows.lean ====
module

public import Idealize.ShloMosaic.Lib.Pointwise
public import Idealize.ShloMosaic.Lib.Pipeline.ValueKit

@[expose] public section

noncomputable section

namespace Cert.Rows

open Idealize.ShloMosaic

/-! # The context's rows and the latents'

The first 256 rows are the context's and have gates, shifts and scales of their own. They are the first point's. -/

/-- Which of the two a row has. -/
def side (r : ℕ) : Fin 2 := if r < 256 then 0 else 1

/-- The kernel's test for the first point. -/
theorem test : ∀ v : Fin 33, Scalar.cmpi .slt (BitVec.ofNat 32 v.val) 1#32 = BitVec.ofBool (decide (v.val = 0)) := by
  decide +kernel

/-- A point's rows all have one. -/
theorem side_point {t y r : ℕ} (hr : r = t * 256 + y) (hy : y < 256) : side r = if t = 0 then 0 else 1 := by
  unfold side
  by_cases ht : t = 0
  · rw [if_pos ht, if_pos (by omega)]
  · rw [if_neg ht, if_neg (by omega)]

end Cert.Rows

end
-- ==== Proof.Step.Norm.lean ====
module

public import proofs.«01_k».proof.Defs
public import proofs.«01_k».proof.Proof.Gen.Kernel30
public import proofs.«01_k».proof.Proof.Gen.Kernel30Ideal.Value
public import proofs.«01_k».proof.Proof.Gen.Reference30Ideal.Run
public import proofs.«01_k».proof.Proof.Step.Rows
public import Idealize.ShloMosaic.Lib.Pointwise
public import Idealize.ShloMosaic.Lib.StableHlo.ReadAt
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel30Ideal.Step

open Idealize.ShloMosaic Idealize.ShloMosaic.TcCoe
open Cert.Kernel30Ideal.Gen Cert.Rows

/-! # A norm with its modulation

Each row is divided by its root mean square. The first 256 rows are the context's and have a shift and a scale of their own.
They are one point's. -/

/-- An entry of a row, normed, times its weight. -/
def rms (x : Fin 1024 → EReal) (g : EReal) (j : Fin 1024) : EReal :=
  x j * Ideal.rsqrt (Ideal.div (∑ k, x k * x k) (Ideal.ofBits .f32 0x44800000#32) + Ideal.ofBits .f32 0x358637BD#32) * g

/-- The reference's array. -/
def whole (x : FVec Ideal S8448x1024 .f32) (g : FVec Ideal S1024 .f32) (sh sc : FVec Ideal S2x1024 .f32) (i : S8448x1024.Idx) : EReal :=
  rms (fun k => x (ix2 (i 0) k)) (g (ix1 (i 1))) (i 1) * (Ideal.ofBits .f32 0x3F800000#32 + sc (ix2 (side (i 0).val) (i 1)))
    + sh (ix2 (side (i 0).val) (i 1))

/-- What a point writes. -/
theorem pay_at (q : grid0.Coords) (x : Vec Ideal S256x1024 .f32) (g c0 c1 h0 h1 : Vec Ideal S1x1024 .f32) (i : S256x1024.Idx) :
    k0_pay1 q x g c0 c1 h0 h1 i =
      rms (fun k => x (ix2 (i 0) k)) (g (ix2 0 (i 1))) (i 1)
          * (Ideal.ofBits .f32 0x3F800000#32 + (if (q 0).val = 0 then c0 (ix2 0 (i 1)) else c1 (ix2 0 (i 1))))
        + (if (q 0).val = 0 then h0 (ix2 0 (i 1)) else h1 (ix2 0 (i 1))) := by
  unfold k0_pay1
  dsimp only
  rw [test (q 0)]
  by_cases hq : (q 0).val = 0
  · simp only [if_pos hq]
    pointwise [hq, rms]
  · simp only [if_neg hq]
    pointwise [hq, rms]

/-- The blocks of a point. -/
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem coord : ∀ t : Fin grid0.N, (grid0.coords t 0).val = t.val := by decide +kernel

variable (m : (ℓ : Loc nD τ sig) → Buf (Elt Ideal) ℓ) (c : Dev nD)

/-- The weights as the call reads them, with a leading axis of one. -/
theorem weights : V m c main_v0 = fun i => m ((c.tc : Thread nD τ).loc main_arg1) (ix1 (i 1)) := by
  funext i
  unfold V
  after_reads_at

/-- The array the call leaves is the reference's. -/
theorem array : (dats m 0 c).arrAt 4 cfg0.N = whole (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  rw [pay_at, coord]
  have hs := side_point (r := ((((View.whole main_v1).slice (win0_4.rect t)).emb y) 0).val) (t := t.val) (y := (y 0).val) (by
    blk_simp [idx4]) (y 0).isLt
  unfold whole
  have hj : (((View.whole main_v1).slice (win0_4.rect t)).emb y) 1 = y 1 := Fin.ext (by blk_simp [idx4])
  rw [hs, hj]
  refine congrArg₂ (· + ·) (congrArg₂ (· * ·) (congrArg₂ (fun x g => rms x g (y 1)) (funext fun k => ?_) ?_) (congrArg (_ + ·) ?_)) ?_
  · blk_ext [iblk, idx0, idx4]
  · simp only [iblk]
    blk_simp
    rw [weights]
    blk_ext [idx1, idx4]
  · split_ifs
    · blk_ext! [iblk, idx3, idx4]
    · blk_ext! [iblk, idx3, idx4]
  · split_ifs
    · blk_ext! [iblk, idx2, idx4]
    · blk_ext! [iblk, idx2, idx4]

/-- The kernel as printed and the one over the extended reals have one text. -/
theorem defs_eq : Cert.Kernel30.defs (F := Bits) = defs (F := Bits) :=
  congrArg (Pipeline.defs _) (congrArg Defs.onTc (funext fun l => funext fun a => match l, a with | 0, (_, _) => rfl))

theorem main_eq : Cert.Kernel30.main (F := Bits) = main (F := Bits) := by
  unfold Cert.Kernel30.main main
  rfl

/-- Each runs to its end and leaves its arguments and its counters alone. -/
theorem frame_P : quiescent_Kernel30 := fun m g _ => by
  rw [defs_eq, main_eq]
  exact Gen.frame (F := Bits) m g
theorem frame_PI : quiescent_Kernel30Ideal := fun m g _ => Gen.frame m g

/-- So does the reference. -/
theorem frame_RI : quiescent_Reference30Ideal := fun m g _ => by
  hlo_run
  · exact fun _ => ⟨trivial, trivial, trivial, trivial⟩
  · exact sem_eq_zero_of_no_sems (sig := Cert.Reference30Ideal.sig) rfl _

/-- The kernel's array is the reference's. -/
theorem equal : algebraic_Kernel30Ideal_Reference30Ideal := by
  intro m g m' g' _ agree
  refine ⟨fun c => whole (m ((c.tc : Thread nD τ).loc main_arg0)) (m ((c.tc : Thread nD τ).loc main_arg1)) (m ((c.tc : Thread nD τ).loc main_arg2)) (m ((c.tc : Thread nD τ).loc main_arg3)),
    (θ_run Cert.Kernel30Ideal.defs _ _).mono (fun r h c => ?_) (Cert.Kernel30Ideal.Value.run_blocks m g),
    (θ_run Cert.Reference30Ideal.defs _ _).mono (fun r h c => ?_) (Cert.Reference30Ideal.Value.run m' g')⟩
  · exact ⟨(h c).1.trans (array m c), (h c).2⟩
  · obtain ⟨a0, a1, a2, a3⟩ := agree c
    refine ⟨(h c).1.trans ?_, (h c).2⟩
    rw [a0, a1, a2, a3]
    clear h agree
    funext i
    idx_vars i
    pointwise [whole, rms]
    by_cases hr : i0.val < 256
    · have hs : side i0.val = 0 := if_pos hr
      rw [dif_pos hr, hs]
    · have er : ∀ p, (⟨256 + (i0.val - 256), p⟩ : Fin 8448) = i0 := fun p => Fin.ext (Nat.add_sub_of_le (not_lt.1 hr))
      have hs : side i0.val = 1 := if_neg hr
      rw [dif_neg hr, hs]
      simp only [er]

end Cert.Kernel30Ideal.Step

end
-- ==== Proof.Step.Gate.lean ====
module

public import proofs.«01_k».proof.Defs
public import proofs.«01_k».proof.Proof.Gen.Kernel29
public import proofs.«01_k».proof.Proof.Gen.Kernel29Ideal.Value
public import proofs.«01_k».proof.Proof.Gen.Reference29Ideal.Run
public import proofs.«01_k».proof.Proof.Step.Rows
public import Idealize.ShloMosaic.Lib.Pointwise
public import Idealize.ShloMosaic.Lib.StableHlo.ReadAt
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

namespace Cert.Kernel29Ideal.Step

open Idealize.ShloMosaic Idealize.ShloMosaic.TcCoe
open Cert.Kernel29Ideal.Gen Cert.Rows

/-! # A gated residual

The first 256 rows are the context's and have a gate of their own. They are one point's. -/

/-- The reference's array. -/
def whole (h o : FVec Ideal S8448x1024 .f32) (g : FVec Ideal S2x1024 .f32) (i : S8448x1024.Idx) : EReal :=
  h i + Ideal.ofBits .f32 0x3F000000#32 * g (ix2 (side (i 0).val) (i 1)) * o i

/-- What a point writes. -/
theorem pay_at (q : grid0.Coords) (h : Vec Ideal S256x1024 .f32) (g0 g1 : Vec Ideal S1x1024 .f32) (o : Vec Ideal S256x1024 .f32) (i : S256x1024.Idx) :
    k0_pay1 q h g0 g1 o i =
      h i + Ideal.ofBits .f32 0x3F000000#32 * (if (q 0).val = 0 then g0 (ix2 0 (i 1)) else g1 (ix2 0 (i 1))) * o i := by
  unfold k0_pay1
  dsimp only
  rw [test (q 0)]
  by_cases hq : (q 0).val = 0
  · rw [if_pos hq]
    pointwise [hq]
  · rw [if_neg hq]
    pointwise [hq]

/-- The blocks of a point. -/
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem coord : ∀ t : Fin grid0.N, (grid0.coords t 0).val = t.val := by decide +kernel

variable (m : (ℓ : Loc nD τ sig) → Buf (Elt Ideal) ℓ) (c : Dev nD)

/-- The array the call leaves is the reference's. -/
theorem array : (dats m 0 c).arrAt 3 cfg0.N = whole (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  frame_out
  rw [pay_at, coord]
  have hs := side_point (r := ((((View.whole main_v0).slice (win0_3.rect t)).emb y) 0).val) (t := t.val) (y := (y 0).val) (by
    blk_simp [idx3]) (y 0).isLt
  unfold whole
  refine congrArg₂ (· + ·) ?_ (congrArg₂ (· * ·) (congrArg (_ * ·) ?_) ?_)
  · blk_ext [iblk, idx0, idx3]
  · rw [hs]
    split_ifs
    · blk_ext! [iblk, idx2, idx3]
    · blk_ext! [iblk, idx2, idx3]
  · blk_ext [iblk, idx1, idx3]

/-- The kernel as printed and the one over the extended reals have one text. -/
theorem defs_eq : Cert.Kernel29.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel29 := fun m g _ => by
  rw [defs_eq]
  exact Gen.frame (F := Bits) m g
theorem frame_PI : quiescent_Kernel29Ideal := fun m g _ => Gen.frame m g

/-- So does the reference. -/
theorem frame_RI : quiescent_Reference29Ideal := fun m g _ => by
  hlo_run
  · exact fun _ => ⟨trivial, trivial, trivial⟩
  · exact sem_eq_zero_of_no_sems (sig := Cert.Reference29Ideal.sig) rfl _

/-- The kernel's array is the reference's. -/
theorem equal : algebraic_Kernel29Ideal_Reference29Ideal := by
  intro m g m' g' _ agree
  refine ⟨fun c => whole (m ((c.tc : Thread nD τ).loc main_arg0)) (m ((c.tc : Thread nD τ).loc main_arg1)) (m ((c.tc : Thread nD τ).loc main_arg2)),
    (θ_run Cert.Kernel29Ideal.defs _ _).mono (fun r h c => ?_) (Cert.Kernel29Ideal.Value.run_blocks m g),
    (θ_run Cert.Reference29Ideal.defs _ _).mono (fun r h c => ?_) (Cert.Reference29Ideal.Value.run m' g')⟩
  · exact ⟨(h c).1.trans (array m c), (h c).2⟩
  · obtain ⟨a0, a1, a2⟩ := agree c
    refine ⟨(h c).1.trans ?_, (h c).2⟩
    rw [a0, a1, a2]
    clear h agree
    funext i
    idx_vars i
    pointwise [whole]
    by_cases hr : i0.val < 256
    · have hs : side i0.val = 0 := if_pos hr
      rw [dif_pos hr, hs]
    · have er : ∀ p, (⟨256 + (i0.val - 256), p⟩ : Fin 8448) = i0 := fun p => Fin.ext (Nat.add_sub_of_le (not_lt.1 hr))
      have hs : side i0.val = 1 := if_neg hr
      rw [dif_neg hr, hs]
      simp only [er]

end Cert.Kernel29Ideal.Step

end
-- ==== Proof.Step.Act.lean ====
module

public import proofs.«01_k».proof.Defs
public import proofs.«01_k».proof.Proof.Gen.Kernel28
public import proofs.«01_k».proof.Proof.Gen.Kernel28Ideal.Value
public import proofs.«01_k».proof.Proof.Gen.Reference28Ideal.Run
public import Idealize.ShloMosaic.Lib.Pointwise
public import Idealize.ShloMosaic.Lib.StableHlo.ReadAt
public import Idealize.ShloMosaic.Lib.Claim
public import Idealize.ShloMosaic.Lib.Quiescent
public import Idealize.ShloMosaic.Lib.Pipeline.ReadBack

@[expose] public section

set_option maxRecDepth 16384

noncomputable section

namespace Cert.Kernel28Ideal.Step

open Idealize.ShloMosaic Idealize.ShloMosaic.TcCoe
open Cert.Kernel28Ideal.Gen

/-! # A SwiGLU's activation

The kernel's logistic function and the reference's quotient are one function of the extended reals. -/

/-- The reference's array. -/
def whole (ab : FVec Ideal S8448x5632 .f32) (i : S8448x2816.Idx) : EReal :=
  ab (ix2 (i 0) ⟨(i 1).val, lt_of_lt_of_le (i 1).isLt (by decide)⟩)
    * Ideal.logistic (ab (ix2 (i 0) ⟨(i 1).val, lt_of_lt_of_le (i 1).isLt (by decide)⟩))
    * ab (ix2 (i 0) ⟨2816 + (i 1).val, Nat.add_lt_add_left (i 1).isLt 2816⟩)

/-- The kernel's array is that. -/
theorem array (ab : FVec Ideal S8448x5632 .f32) : Value.G2 (F := Ideal) ab ab = whole ab := by
  funext i
  have h0 : Value.inIdx2_0 i = ix2 (i 0) ⟨(i 1).val, lt_of_lt_of_le (i 1).isLt (by decide)⟩ := by
    funext a
    fin_cases a <;> rfl
  have h1 : Value.inIdx2_1 i = ix2 (i 0) ⟨2816 + (i 1).val, Nat.add_lt_add_left (i 1).isLt 2816⟩ := by
    funext a
    fin_cases a
    · rfl
    · exact Fin.ext (Nat.add_comm _ _)
  unfold Value.G2 whole
  rw [h0, h1]
  rfl

/-- The kernel as printed and the one over the extended reals have one text. -/
theorem defs_eq : Cert.Kernel28.defs (F := Bits) = defs (F := Bits) :=
  congrArg (Pipeline.defs _) (congrArg Defs.onTc (funext fun l => funext fun a => match l, a with | 0, (_, _) => rfl))

/-- Each runs to its end and leaves its arguments and its counters alone. -/
theorem frame_P : quiescent_Kernel28 := fun m g _ => by
  rw [defs_eq]
  exact Gen.frame (F := Bits) m g
theorem frame_PI : quiescent_Kernel28Ideal := fun m g _ => Gen.frame m g

/-- So does the reference. -/
theorem frame_RI : quiescent_Reference28Ideal := fun m g _ => by
  hlo_run
  · exact fun _ => trivial
  · exact sem_eq_zero_of_no_sems (sig := Cert.Reference28Ideal.sig) rfl _

/-- The kernel's array is the reference's. -/
theorem equal : algebraic_Kernel28Ideal_Reference28Ideal := by
  intro m g m' g' _ agree
  refine ⟨fun c => whole (m ((c.tc : Thread nD τ).loc main_arg0)),
    (θ_run Cert.Kernel28Ideal.defs _ _).mono (fun r h c => ?_) (Cert.Kernel28Ideal.Value.run m g),
    (θ_run Cert.Reference28Ideal.defs _ _).mono (fun r h c => ?_) (Cert.Reference28Ideal.Value.run m' g')⟩
  · exact ⟨(h c).1.trans (array _), (h c).2⟩
  · refine ⟨(h c).1.trans ?_, (h c).2⟩
    rw [agree c]
    funext i
    pointwise [whole, Ideal.logistic]

end Cert.Kernel28Ideal.Step

end
-- ==== Proof.Fwd.Steps.lean ====
module

public import proofs.«01_k».proof.Proof.Gen.Kernel11Ideal.Frame
public import proofs.«01_k».proof.Proof.Gen.Kernel11Ideal.Skeleton
public import Idealize.ShloMosaic.Lib.VecWindow
public import Idealize.ShloMosaic.Lib.Pipeline.ReadBack
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal.Gen
open Idealize.ShloMosaic.Pipeline (Dat RDat Cfg)

variable {F : FTy → Type} [FloatOps F] [Named F]

local notation "𝕄" => MT nD τ sig Unit (Elt F) ℕ (UR sig nD τ) ℕ

/-! # What one grid point of the attention's forward call computes

A point of the grid handles one tile of the queries against one tile of the keys, the context's keys first. It keeps,
for each query, the largest score so far, and a row of 128 numbers: the weighted sum of the values so far in the first
64, the sum of the weights in the others, as the values are followed by 64 columns of ones. -/

/-- The number one, as the columns beside the values hold it. -/
def one : F .bf16 := Scalar.ofBits .bf16 0x3F80#16

/-- The context's values followed by ones. -/
def besideC (w : Vec F S256x64 .bf16) : Vec F S256x128 .bf16 :=
  fun i => if h : (i 1).val < 64 then w (ix2 (i 0) ⟨(i 1).val, h⟩) else one

/-- A tile's values followed by ones. -/
def besideM (w : Vec F S1024x64 .bf16) : Vec F S1024x128 .bf16 :=
  fun i => if h : (i 1).val < 64 then w (ix2 (i 0) ⟨(i 1).val, h⟩) else one

/-- The largest scores, and the weighted sums, after the context's keys. -/
def topC (x0 : Vec F S1x1024x96 .f32) (x3 : Vec F S1x256x96 .f32) : Vec F S1024x1 .f32 :=
  k0_pay4 (k0_pay10 x3 x0 k0_pay1)
def sumC (x0 : Vec F S1x1024x96 .f32) (x3 : Vec F S1x256x96 .f32) (x4 : Vec F S1x256x64 .f32) : Vec F S1024x128 .f32 :=
  k0_pay11 x3 x0 k0_pay1 k0_pay2 (besideC (k0_pay8 x4))

/-- The same after a tile of keys, from what they were before. -/
def topM (x0 x1 : Vec F S1x1024x96 .f32) (s0 : Vec F S1024x1 .f32) : Vec F S1024x1 .f32 :=
  k0_pay5 (k0_pay14 x1 x0 s0)
def sumM (x0 x1 : Vec F S1x1024x96 .f32) (s0 : Vec F S1024x1 .f32) (s1 : Vec F S1024x128 .f32) (w : Vec F S1024x128 .bf16) : Vec F S1024x128 .f32 :=
  k0_pay15 x1 x0 s0 s1 w

/-- The parts of a buffer of 128 columns. -/
theorem left_inb : ∀ a, (![0, 0] : Fin 2 → ℕ) a + (![1024, 64] : Fin 2 → ℕ) a ≤ S1024x128.size a := by decide
theorem right_inb : ∀ a, (![0, 64] : Fin 2 → ℕ) a + (![1024, 64] : Fin 2 → ℕ) a ≤ S1024x128.size a := by decide
theorem mid_inb : ∀ a, (![0, 64] : Fin 2 → ℕ) a + (![1024, 1] : Fin 2 → ℕ) a ≤ S1024x128.size a := by decide
theorem rows_inb : ∀ a, (![0, 0] : Fin 2 → ℕ) a + (![256, 128] : Fin 2 → ℕ) a ≤ S1024x128.size a := by decide

/-- The two outputs, from the last sums. -/
def outO (s1 : Vec F S1024x128 .f32) : Vec F S1x1024x64 .f32 :=
  k0_pay6 (VecWindow.window s1 ![0, 64] ![1024, 1] mid_inb) (VecWindow.window s1 ![0, 0] ![1024, 64] left_inb)
def outL (s0 : Vec F S1024x1 .f32) (s1 : Vec F S1024x128 .f32) : Vec F S1x1024x1 .f32 :=
  k0_pay7 (VecWindow.window s1 ![0, 64] ![1024, 1] mid_inb) s0

/-- The columns beside the values hold ones. -/
def Ones (s2 : Vec F S1024x128 .bf16) : Prop := ∀ i : S1024x128.Idx, 64 ≤ (i 1).val → s2 i = one

theorem ones_at (i : S1024x64.Idx) : k0_pay3 (F := F) i = one := rfl

/-- Values put beside ones. -/
theorem put_values {s2 : Vec F S1024x128 .bf16} (h : Ones s2) (w : Vec F S1024x64 .bf16) :
    (VecWindow.put s2 ![0, 0] ![1024, 64] w : Vec F S1024x128 .bf16) = besideM w := by
  funext i
  unfold VecWindow.put besideM
  by_cases hc : (i 1).val < 64
  · have hi : ∀ a, (![0, 0] : Fin 2 → ℕ) a ≤ (i a).val ∧ (i a).val < (![0, 0] : Fin 2 → ℕ) a + (![1024, 64] : Fin 2 → ℕ) a := fun a =>
      match a with
      | ⟨0, _⟩ => ⟨Nat.zero_le _, by have := (i 0).isLt; simpa using this⟩
      | ⟨1, _⟩ => ⟨Nat.zero_le _, by simpa using hc⟩
    rw [dif_pos hi, dif_pos hc]
    refine congrArg w (funext fun a => Fin.ext ?_)
    match a with
    | ⟨0, _⟩ => rfl
    | ⟨1, _⟩ => rfl
  · rw [dif_neg (fun hi => hc (by simpa using (hi 1).2)), dif_neg hc, h i (by omega)]
theorem ones_beside (w : Vec F S1024x64 .bf16) : Ones (besideM w) := fun i h => by
  unfold besideM
  rw [dif_neg (by omega)]

/-- The ones put, and the context's values beside them. -/
theorem ones_ctx (s2 : Vec F S1024x128 .bf16) (w : Vec F S256x64 .bf16) :
    Ones (VecWindow.put (VecWindow.put s2 ![0, 64] ![1024, 64] k0_pay3) ![0, 0] ![256, 64] w : Vec F S1024x128 .bf16) := fun i h => by
  have hi : ∀ a, (![0, 64] : Fin 2 → ℕ) a ≤ (i a).val ∧ (i a).val < (![0, 64] : Fin 2 → ℕ) a + (![1024, 64] : Fin 2 → ℕ) a := fun a =>
      match a with
      | ⟨0, _⟩ => ⟨Nat.zero_le _, by have := (i 0).isLt; simpa using this⟩
      | ⟨1, _⟩ => ⟨h, by have := (i 1).isLt; simpa using this⟩
  unfold VecWindow.put
  rw [dif_neg (fun hi => by have := (hi 1).2; simp at this; omega), dif_pos hi]
  rfl
theorem window_ctx (s2 : Vec F S1024x128 .bf16) (w : Vec F S256x64 .bf16) :
    (VecWindow.window (VecWindow.put (VecWindow.put s2 ![0, 64] ![1024, 64] k0_pay3) ![0, 0] ![256, 64] w : Vec F S1024x128 .bf16) ![0, 0] ![256, 128] rows_inb : Vec F S256x128 .bf16)
      = besideC w := by
  funext i
  unfold VecWindow.window besideC
  by_cases hc : (i 1).val < 64
  · have hi : ∀ a, (![0, 0] : Fin 2 → ℕ) a ≤ ((Rect.unit (s := S1024x128) ![0, 0] ![256, 128] rows_inb).emb i a).val ∧ ((Rect.unit (s := S1024x128) ![0, 0] ![256, 128] rows_inb).emb i a).val < (![0, 0] : Fin 2 → ℕ) a + (![256, 64] : Fin 2 → ℕ) a := fun a =>
      match a with
      | ⟨0, _⟩ => ⟨Nat.zero_le _, by have := (i 0).isLt; show 0 + 1 * (i 0).val < 0 + 256; have h2 : (i 0).val < 256 := this; omega⟩
      | ⟨1, _⟩ => ⟨Nat.zero_le _, by show 0 + 1 * (i 1).val < 0 + 64; omega⟩
    rw [dif_pos hc]
    unfold VecWindow.put
    rw [dif_pos hi]
    refine congrArg w (funext fun a => Fin.ext ?_)
    match a with
    | ⟨0, _⟩ => show 0 + 1 * (i 0).val - 0 = (i 0).val; omega
    | ⟨1, _⟩ => show 0 + 1 * (i 1).val - 0 = (i 1).val; omega
  · rw [dif_neg hc]
    exact ones_ctx s2 w _ (by show 64 ≤ 0 + 1 * (i 1).val; omega)

/-- A load of the whole of a buffer reads its contents. -/
theorem readAt_all {sp : Space} {s : Shape} {e : EltTy} (v : View sig .tc sp s e) (f : v.ty.Contents (Elt F)) {off : Fin s.rank → ℕ}
    (inb : ∀ a, off a + s.size a ≤ s.size a) :
    v.readAt (Elt F) (Rect.unit off (no_index s.size) inb).toLoadRect f = v.read (Elt F) f :=
  View.readAt_full v f inb

/-- A store over the whole of a buffer leaves what it stored. -/
theorem writes_all {sp : Space} {s : Shape} {e : EltTy} (v : View sig .tc sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f ((⟨Rect.unit off (no_index s.size) inb, w⟩ : View.Piece (Elt F) s e) :: L)) = w :=
  View.read_writes_full v f inb w L

/-- A load of the whole of a buffer after a store over the whole of it reads what was stored. -/
theorem readCov_all {sp : Space} {s : Shape} {e : EltTy} (v : View sig .tc sp s e) {off off' : Fin s.rank → ℕ}
    (inb : ∀ a, off a + s.size a ≤ s.size a) (inb' : ∀ a, off' a + s.size a ≤ s.size a) (w : s.Idx → Elt F e) (L : List (View.Piece (Elt F) s e)) :
    v.readCov ((⟨Rect.unit off' (no_index s.size) inb', w⟩ : View.Piece (Elt F) s e) :: L) (Rect.unit off (no_index s.size) inb).toLoadRect = w :=
  View.readCov_full v inb inb' w L

/-- A buffer after a store into part of it. -/
theorem read_part {sp : Space} {s : Shape} {e : EltTy} {arg : Memref sig .tc sp s e} (harg : arg.IsWhole) (x : s.Idx → Elt F e) {off size : Fin s.rank → ℕ}
    (inb : ∀ a, off a + size a ≤ s.size a) (w : (Rect.unit off size inb).shape.Idx → Elt F e) :
    arg.view.read (Elt F) (arg.view.writes (Elt F) (harg.unread x) [(⟨Rect.unit off size inb, w⟩ : View.Piece (Elt F) s e)])
      = VecWindow.put x off size w := by
  rw [View.read_writes_cons_put arg.view _ inb w [] rfl, View.writes_nil, harg.read_unread]

/-- A load of part of a buffer after a store over the whole of it. -/
theorem readCov_part {sp : Space} {s : Shape} {e : EltTy} (v : View sig .tc sp s e) {off off' size : Fin s.rank → ℕ}
    (inb : ∀ a, off a + size a ≤ s.size a) (inb' : ∀ a, off' a + s.size a ≤ s.size a) (w : s.Idx → Elt F e) (L : List (View.Piece (Elt F) s e)) :
    v.readCov ((⟨Rect.unit off' (no_index s.size) inb', w⟩ : View.Piece (Elt F) s e) :: L) (Rect.unit off size inb).toLoadRect
      = VecWindow.window w off size inb := by
  show v.readAt (Elt F) _ (v.writes (Elt F) v.junk _) = _
  rw [View.readAt_unit v _ inb rfl inb, writes_all]

/-- The load of the context's values and the ones beside them, as the two stores left them. -/
theorem readCov_ctx {sp : Space} (v : View sig .tc sp S1024x128 .bf16) (inb : ∀ a, (![0, 0] : Fin 2 → ℕ) a + S256x64.size a ≤ S1024x128.size a)
    (inb' : ∀ a, (![0, 64] : Fin 2 → ℕ) a + S1024x64.size a ≤ S1024x128.size a) (inb'' : ∀ a, (![0, 0] : Fin 2 → ℕ) a + S256x128.size a ≤ S1024x128.size a)
    (w : Vec F S256x64 .bf16) :
    v.readCov [(⟨Rect.unit ![0, 0] S256x64.size inb, w⟩ : View.Piece (Elt F) S1024x128 .bf16), ⟨Rect.unit ![0, 64] S1024x64.size inb', k0_pay3⟩]
      (Rect.unit (s := S1024x128) ![0, 0] S256x128.size inb'').toLoadRect = besideC w := by
  show v.readAt (Elt F) _ (v.writes (Elt F) v.junk _) = _
  rw [View.readAt_unit v _ inb'' rfl inb'', View.read_writes_cons_put v _ inb w _ rfl, View.read_writes_cons_put v _ inb' _ [] rfl]
  exact window_ctx _ w

/-- The tests of the body: the context's keys, or a tile of keys proper. -/
abbrev isCtx (i : grid0.Coords) : Prop :=
  (Scalar.cmpi .ne (Scalar.extui (Scalar.cmpi .eq (BitVec.ofNat 32 (i 2).val) 0#32)) 0#32) = 1#1
abbrev isTile (i : grid0.Coords) : Prop :=
  (Scalar.cmpi .ne (Scalar.extui (Scalar.cmpi .sgt (BitVec.ofNat 32 (i 2).val) 0#32)) 0#32) = 1#1

/-- The ten buffers of the body at given contents: five inputs, two outputs, three scratch buffers. -/
def bufs (c : Thread nD τ)
    (arg3 : Memref sig c.2.kind .vmem S1x1024x96 .f32)
    (arg4 : Memref sig c.2.kind .vmem S1x1024x96 .f32)
    (arg5 : Memref sig c.2.kind .vmem S1x1024x64 .f32)
    (arg6 : Memref sig c.2.kind .vmem S1x256x96 .f32)
    (arg7 : Memref sig c.2.kind .vmem S1x256x64 .f32)
    (arg8 : Memref sig c.2.kind .vmem S1x1024x64 .f32)
    (arg9 : Memref sig c.2.kind .vmem S1x1024x1 .f32)
    (arg10 : Memref sig c.2.kind .vmem S1024x1 .f32)
    (arg11 : Memref sig c.2.kind .vmem S1024x128 .f32)
    (arg12 : Memref sig c.2.kind .vmem S1024x128 .bf16)
    (x0 : Vec F S1x1024x96 .f32)
    (x1 : Vec F S1x1024x96 .f32)
    (x2 : Vec F S1x1024x64 .f32)
    (x3 : Vec F S1x256x96 .f32)
    (x4 : Vec F S1x256x64 .f32)
    (y5 : Vec F S1x1024x64 .f32)
    (y6 : Vec F S1x1024x1 .f32)
    (s0 : Vec F S1024x1 .f32)
    (s1 : Vec F S1024x128 .f32)
    (s2 : Vec F S1024x128 .bf16) : sProp 𝕄 :=
  iprop(owns c arg3 fullShare x0 ∗ owns c arg4 fullShare x1 ∗ owns c arg5 fullShare x2 ∗ owns c arg6 fullShare x3 ∗ owns c arg7 fullShare x4 ∗ owns c arg8 fullShare y5 ∗ owns c arg9 fullShare y6 ∗ owns c arg10 fullShare s0 ∗ owns c arg11 fullShare s1 ∗ owns c arg12 fullShare s2)

end Cert.Kernel11Ideal.Fwd

end
-- ==== Proof.Fwd.RunMain.lean ====
module

public import proofs.«01_k».proof.Proof.Fwd.Steps

@[expose] public section

set_option maxRecDepth 16384

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal.Gen
open Idealize.ShloMosaic.Pipeline (Dat RDat Cfg)

variable {F : FTy → Type} [FloatOps F] [Named F]

local notation "𝕄" => MT nD τ sig Unit (Elt F) ℕ (UR sig nD τ) ℕ

set_option maxHeartbeats 8000000 in
/-- The body at a point over a tile of keys: the sums take their step, and after the last tile the outputs are stored. -/
theorem run_main (c : Dev nD) (i : grid0.Coords)
    (arg3 : Memref sig .tc .vmem S1x1024x96 .f32) (harg3 : arg3.IsWhole)
    (arg4 : Memref sig .tc .vmem S1x1024x96 .f32) (harg4 : arg4.IsWhole)
    (arg5 : Memref sig .tc .vmem S1x1024x64 .f32) (harg5 : arg5.IsWhole)
    (arg6 : Memref sig .tc .vmem S1x256x96 .f32) (harg6 : arg6.IsWhole)
    (arg7 : Memref sig .tc .vmem S1x256x64 .f32) (harg7 : arg7.IsWhole)
    (arg8 : Memref sig .tc .vmem S1x1024x64 .f32) (harg8 : arg8.IsWhole)
    (arg9 : Memref sig .tc .vmem S1x1024x1 .f32) (harg9 : arg9.IsWhole)
    (arg10 : Memref sig .tc .vmem S1024x1 .f32) (harg10 : arg10.IsWhole)
    (arg11 : Memref sig .tc .vmem S1024x128 .f32) (harg11 : arg11.IsWhole)
    (arg12 : Memref sig .tc .vmem S1024x128 .bf16) (harg12 : arg12.IsWhole)
    (h1 : ¬ isCtx i) (h3 : isTile i)
    (x0 : Vec F S1x1024x96 .f32)
    (x1 : Vec F S1x1024x96 .f32)
    (x2 : Vec F S1x1024x64 .f32)
    (x3 : Vec F S1x256x96 .f32)
    (x4 : Vec F S1x256x64 .f32)
    (y5 : Vec F S1x1024x64 .f32)
    (y6 : Vec F S1x1024x1 .f32)
    (s0 : Vec F S1024x1 .f32)
    (s1 : Vec F S1024x128 .f32)
    (s2 : Vec F S1024x128 .bf16)
    (E : Set ℕ) (K : PUnit → sProp 𝕄) :
    iprop(bufs (c : Thread nD τ) arg3 arg4 arg5 arg6 arg7 arg8 arg9 arg10 arg11 arg12 x0 x1 x2 x3 x4 y5 y6 s0 s1 s2
        ∗ (bufs (c : Thread nD τ) arg3 arg4 arg5 arg6 arg7 arg8 arg9 arg10 arg11 arg12 x0 x1 x2 x3 x4
            (if k0_cond4 i = 1#1 then outO (sumM x0 x1 s0 s1 (VecWindow.put s2 ![0, 0] ![1024, 64] (k0_pay12 x2))) else y5)
            (if k0_cond4 i = 1#1 then outL (topM x0 x1 s0) (sumM x0 x1 s0 s1 (VecWindow.put s2 ![0, 0] ![1024, 64] (k0_pay12 x2))) else y6)
            (topM x0 x1 s0) (sumM x0 x1 s0 s1 (VecWindow.put s2 ![0, 0] ![1024, 64] (k0_pay12 x2))) (VecWindow.put s2 ![0, 0] ![1024, 64] (k0_pay12 x2)) -∗ K ⟨⟩))
      ⊢ wp frame (wpE (defs₀ (F := F)) Variants.none c none) E (cc0_mla_lat i arg3 harg3 arg4 harg4 arg5 harg5 arg6 harg6 arg7 harg7 arg8 harg8 arg9 harg9 arg10 harg10 arg11 harg11 arg12 harg12) K := by
  simp only [cc0_mla_lat_eq_skeleton]; unfold cc0_mla_lat_skel
  simp only [k0_part1_eq_skeleton, k0_part2_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
  by_cases h4 : k0_cond4 i = 1#1
  all_goals
    sl_exec (disch := first | sl_exact h1 | sl_exact h3 | sl_exact h4)
    sl_step
    iapply Hk
    sl_unfold_words
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; first | (rw [if_neg h4]; exact harg8.read_unread _) | (rw [if_pos h4]; simp only [writes_all, readAt_all, readCov_all, readCov_part, Memref.IsWhole.read_unread]; exact congrArg (fun w => outO (sumM x0 x1 s0 s1 w)) (read_part harg12 s2 _ _))
    isplitl [H6]
    · iexists _; isplitr; swap; · iexact H6
      ipureintro; first | (rw [if_neg h4]; exact harg9.read_unread _) | (rw [if_pos h4]; simp only [writes_all, readAt_all, readCov_all, readCov_part, Memref.IsWhole.read_unread]; exact congrArg (fun w => outL (topM x0 x1 s0) (sumM x0 x1 s0 s1 w)) (read_part harg12 s2 _ _))
    isplitl [HS0]
    · iexists _; isplitr; swap; · iexact HS0
      ipureintro; simp only [writes_all, readAt_all, readCov_all, readCov_part, Memref.IsWhole.read_unread]; rfl
    isplitl [HS1]
    · iexists _; isplitr; swap; · iexact HS1
      ipureintro; simp only [writes_all, readAt_all, readCov_all, readCov_part, Memref.IsWhole.read_unread]; exact congrArg (k0_pay15 x1 x0 s0 s1) (read_part harg12 s2 _ _)
    iexists _; isplitr; swap; · iexact HS2
    ipureintro; (try simp only [writes_all, readAt_all, readCov_all, readCov_part, Memref.IsWhole.read_unread]); exact read_part harg12 s2 _ _

end Cert.Kernel11Ideal.Fwd

end
-- ==== Proof.Fwd.RunCtx.lean ====
module

public import proofs.«01_k».proof.Proof.Fwd.Steps

@[expose] public section

set_option maxRecDepth 16384

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal.Gen
open Idealize.ShloMosaic.Pipeline (Dat RDat Cfg)

variable {F : FTy → Type} [FloatOps F] [Named F]

local notation "𝕄" => MT nD τ sig Unit (Elt F) ℕ (UR sig nD τ) ℕ

set_option maxHeartbeats 8000000 in
/-- The body at a point over the context's keys: the sums start anew. -/
theorem run_ctx (c : Dev nD) (i : grid0.Coords)
    (arg3 : Memref sig .tc .vmem S1x1024x96 .f32) (harg3 : arg3.IsWhole)
    (arg4 : Memref sig .tc .vmem S1x1024x96 .f32) (harg4 : arg4.IsWhole)
    (arg5 : Memref sig .tc .vmem S1x1024x64 .f32) (harg5 : arg5.IsWhole)
    (arg6 : Memref sig .tc .vmem S1x256x96 .f32) (harg6 : arg6.IsWhole)
    (arg7 : Memref sig .tc .vmem S1x256x64 .f32) (harg7 : arg7.IsWhole)
    (arg8 : Memref sig .tc .vmem S1x1024x64 .f32) (harg8 : arg8.IsWhole)
    (arg9 : Memref sig .tc .vmem S1x1024x1 .f32) (harg9 : arg9.IsWhole)
    (arg10 : Memref sig .tc .vmem S1024x1 .f32) (harg10 : arg10.IsWhole)
    (arg11 : Memref sig .tc .vmem S1024x128 .f32) (harg11 : arg11.IsWhole)
    (arg12 : Memref sig .tc .vmem S1024x128 .bf16) (harg12 : arg12.IsWhole)
    (h1 : isCtx i) (h3 : ¬ isTile i) (h4 : ¬ k0_cond4 i = 1#1)
    (x0 : Vec F S1x1024x96 .f32)
    (x1 : Vec F S1x1024x96 .f32)
    (x2 : Vec F S1x1024x64 .f32)
    (x3 : Vec F S1x256x96 .f32)
    (x4 : Vec F S1x256x64 .f32)
    (y5 : Vec F S1x1024x64 .f32)
    (y6 : Vec F S1x1024x1 .f32)
    (s0 : Vec F S1024x1 .f32)
    (s1 : Vec F S1024x128 .f32)
    (s2 : Vec F S1024x128 .bf16)
    (E : Set ℕ) (K : PUnit → sProp 𝕄) :
    iprop(bufs (c : Thread nD τ) arg3 arg4 arg5 arg6 arg7 arg8 arg9 arg10 arg11 arg12 x0 x1 x2 x3 x4 y5 y6 s0 s1 s2
        ∗ (bufs (c : Thread nD τ) arg3 arg4 arg5 arg6 arg7 arg8 arg9 arg10 arg11 arg12 x0 x1 x2 x3 x4
            (y5)
            (y6)
            (topC x0 x3) (sumC x0 x3 x4) (VecWindow.put (VecWindow.put s2 ![0, 64] ![1024, 64] k0_pay3) ![0, 0] ![256, 64] (k0_pay8 x4)) -∗ K ⟨⟩))
      ⊢ wp frame (wpE (defs₀ (F := F)) Variants.none c none) E (cc0_mla_lat i arg3 harg3 arg4 harg4 arg5 harg5 arg6 harg6 arg7 harg7 arg8 harg8 arg9 harg9 arg10 harg10 arg11 harg11 arg12 harg12) K := by
  simp only [cc0_mla_lat_eq_skeleton]; unfold cc0_mla_lat_skel
  simp only [k0_part1_eq_skeleton, k0_part2_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
  all_goals
    sl_exec (disch := first | sl_exact h1 | sl_exact h3 | sl_exact h4)
    sl_step
    iapply Hk
    sl_unfold_words
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [HS0]
    · iexists _; isplitr; swap; · iexact HS0
      ipureintro; simp only [writes_all, readAt_all, readCov_all, Memref.IsWhole.read_unread]; rfl
    isplitl [HS1]
    · iexists _; isplitr; swap; · iexact HS1
      ipureintro; simp only [writes_all, readAt_all, readCov_all, Memref.IsWhole.read_unread]; exact congrArg (k0_pay11 x3 x0 k0_pay1 k0_pay2) (readCov_ctx arg12.view _ _ _ _)
    iexists _; isplitr; swap; · iexact HS2
    ipureintro; refine (View.read_writes_cons_put arg12.view _ _ _ _ rfl).trans ?_; refine (congrArg (fun x => VecWindow.put x _ _ _) (View.read_writes_cons_put arg12.view _ _ _ [] rfl)).trans ?_; simp only [readAt_all, View.writes_nil, Memref.IsWhole.read_unread]

end Cert.Kernel11Ideal.Fwd

end
-- ==== Proof.Fwd.Data.lean ====
module

public import proofs.«01_k».proof.Proof.Fwd.RunMain
public import proofs.«01_k».proof.Proof.Fwd.RunCtx
public import Idealize.ShloMosaic.Lib.Pipeline.DatRel
public import Idealize.ShloMosaic.Lib.Pipeline.ArrRel

@[expose] public section

set_option maxRecDepth 16384

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal.Gen
open Idealize.ShloMosaic.Pipeline (Dat RDat Cfg)

variable {F : FTy → Type} [FloatOps F] [Named F]

local notation "𝕄" => MT nD τ sig Unit (Elt F) ℕ (UR sig nD τ) ℕ

/-! # What holds at each point, and the body's obligation

Points are numbered head by head, query tile by query tile, key tile by key tile; of the nine key tiles the first is the
context's. -/

/-- The point's place along the key tiles. -/
theorem coord2 (t : Fin grid0.N) : (grid0.coords t 2).val = t.val % 9 := by
  have h : (grid0.coords t 2).val = t.val / 1 % 9 := Pipeline.Grid.coords_val t 2 (by decide) rfl
  rw [h, Nat.div_one]

/-- Where each test of the body holds. -/
theorem ctx_iff : ∀ t : Fin grid0.N, isCtx (grid0.coords t) ↔ t.val % 9 = 0 := fun t => by
  have e2 := coord2 t
  simp only [isCtx, e2]
  word_cmp
theorem tile_iff : ∀ t : Fin grid0.N, isTile (grid0.coords t) ↔ ¬ t.val % 9 = 0 := by decide +kernel
theorem last_iff : ∀ t : Fin grid0.N, k0_cond4 (grid0.coords t) = 1#1 ↔ t.val % 9 = 8 := fun t => by
  have e2 := coord2 t
  simp only [k0_cond4, e2]
  word_cmp

variable (m : (ℓ : Loc nD τ sig) → Buf (Elt F) ℓ) (c : Dev nD)

/-- The grid's point of a number. -/
def pt (n : ℕ) : Fin cfg0.N := ⟨n % 576, lt_of_lt_of_eq (Nat.mod_lt n (by decide)) N_0.symm⟩

theorem pt_val (t : Fin cfg0.N) : pt t.val = t :=
  Fin.ext (Nat.mod_eq_of_lt (lt_of_lt_of_eq t.isLt N_0))

/-- The blocks of the five inputs at a point. -/
def X0 (t : Fin cfg0.N) : Vec F S1x1024x96 .f32 := iblk m c 0 t
def X1 (t : Fin cfg0.N) : Vec F S1x1024x96 .f32 := iblk m c 1 t
def X2 (t : Fin cfg0.N) : Vec F S1x1024x64 .f32 := iblk m c 2 t
def X3 (t : Fin cfg0.N) : Vec F S1x256x96 .f32 := iblk m c 3 t
def X4 (t : Fin cfg0.N) : Vec F S1x256x64 .f32 := iblk m c 4 t

/-- The largest scores and the sums after a point, from what they were before. -/
def stepT (t : Fin cfg0.N) (s0 : Vec F S1024x1 .f32) : Vec F S1024x1 .f32 :=
  if t.val % 9 = 0 then topC (X0 m c t) (X3 m c t) else topM (X0 m c t) (X1 m c t) s0
def stepS (t : Fin cfg0.N) (s0 : Vec F S1024x1 .f32) (s1 : Vec F S1024x128 .f32) : Vec F S1024x128 .f32 :=
  if t.val % 9 = 0 then sumC (X0 m c t) (X3 m c t) (X4 m c t) else sumM (X0 m c t) (X1 m c t) s0 s1 (besideM (k0_pay12 (X2 m c t)))

/-- The two after point `n`. -/
def st : ℕ → Vec F S1024x1 .f32 × Vec F S1024x128 .f32
  | 0 => (stepT m c (pt 0) k0_pay1, stepS m c (pt 0) k0_pay1 k0_pay2)
  | n + 1 => (stepT m c (pt (n + 1)) (st n).1, stepS m c (pt (n + 1)) (st n).1 (st n).2)

theorem st_ctx (t : Fin cfg0.N) (h : t.val % 9 = 0) : st m c t.val = (topC (X0 m c t) (X3 m c t), sumC (X0 m c t) (X3 m c t) (X4 m c t)) := by
  obtain ⟨n, hn⟩ := t
  cases n with
  | zero => show (stepT m c (pt 0) _, stepS m c (pt 0) _ _) = _; rw [show pt 0 = (⟨0, hn⟩ : Fin cfg0.N) from pt_val ⟨0, hn⟩]; rfl
  | succ n =>
    show (stepT m c (pt (n + 1)) _, stepS m c (pt (n + 1)) _ _) = _
    rw [show pt (n + 1) = (⟨n + 1, hn⟩ : Fin cfg0.N) from pt_val ⟨n + 1, hn⟩, stepT, stepS, if_pos h, if_pos h]
theorem st_tile (t : Fin cfg0.N) (h : ¬ t.val % 9 = 0) : st m c t.val = (topM (X0 m c t) (X1 m c t) (st m c (t.val - 1)).1,
    sumM (X0 m c t) (X1 m c t) (st m c (t.val - 1)).1 (st m c (t.val - 1)).2 (besideM (k0_pay12 (X2 m c t)))) := by
  obtain ⟨n, hn⟩ := t
  cases n with
  | zero => exact absurd rfl h
  | succ n =>
    show (stepT m c (pt (n + 1)) _, stepS m c (pt (n + 1)) _ _) = _
    rw [show pt (n + 1) = (⟨n + 1, hn⟩ : Fin cfg0.N) from pt_val ⟨n + 1, hn⟩, stepT, stepS, if_neg h, if_neg h]
    rfl

/-- The windows' buffers at a point. -/
abbrev ms0 (t : Fin cfg0.N) : Memref sig .tc .vmem S1x1024x96 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x96 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x1 .f32 := win0_6.stage (cfg0.slots t 6)
abbrev hs6 (t : Fin cfg0.N) : (ms6 t).IsWhole := hstage0_6 ((cfg0.slots t 6).cast nbuf0_6)
abbrev sc0 : Memref sig .tc .vmem S1024x1 .f32 := Memref.whole cc0_scratch0
abbrev sc1 : Memref sig .tc .vmem S1024x128 .f32 := Memref.whole cc0_scratch1
abbrev sc2 : Memref sig .tc .vmem S1024x128 .bf16 := Memref.whole cc0_scratch2

/-- What the body leaves in each output's buffer at the last tile of keys. -/
def Rl (w : Fin cfg0.W) (t : Fin cfg0.N) (X : (cfg0.win w).block.Idx → Elt F (cfg0.win w).elt) : Prop :=
  match w, X with
  | ⟨5, _⟩, X => t.val % 9 = 8 → X = outO (st m c t.val).2
  | ⟨6, _⟩, X => t.val % 9 = 8 → X = outL (st m c t.val).1 (st m c t.val).2
  | _, _ => True

/-- The two outputs. -/
def isOut (w : Fin cfg0.W) : Bool := decide (5 ≤ w.val)

/-- Between points: the scratch holds what the point before left, unless the next point starts anew. -/
def Held (n : ℕ) : sProp 𝕄 :=
  iprop(∃ s0 s1 s2, ⌜n % 9 ≠ 0 → s0 = (st m c (n - 1)).1 ∧ s1 = (st m c (n - 1)).2 ∧ Ones s2⌝
    ∗ owns (c : Thread nD τ) sc0 fullShare s0 ∗ owns (c : Thread nD τ) sc1 fullShare s1 ∗ owns (c : Thread nD τ) sc2 fullShare s2 ∗ (∃ r, prngReg c r))

/-- The data of the pipeline. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | w => Pipeline.Dat.unnamed (cfg := cfg0) w t
  Φ t := Held m c t.val
  q _ := fullShare
  owed _ := 0

/-- The same data with the outputs held to `Rl`. -/
abbrev rel : RDat τ (Elt F) Unit ℕ (UR sig nD τ) ℕ cfg0 c := (dat m c).toRRel isOut (Rl m c)

theorem A_eq (w : Fin cfg0.W) : (dat m c).A w = V m c (Pipeline.arrRef spec0 w) := by dsimp only [dat]

/-- What the body is handed at a point, window by window. -/
def bodyPre (t : Fin cfg0.N) : sProp 𝕄 := iprop((dat m c).Φ t.castSucc ∗ (dat m c).owesAt () t.castSucc ∗ (∃ d, owns (c : Thread nD τ) (ms0 t) fullShare ((dat m c).before 0 t d)) ∗ (∃ d, owns (c : Thread nD τ) (ms1 t) fullShare ((dat m c).before 1 t d)) ∗ (∃ d, owns (c : Thread nD τ) (ms2 t) fullShare ((dat m c).before 2 t d)) ∗ (∃ d, owns (c : Thread nD τ) (ms3 t) fullShare ((dat m c).before 3 t d)) ∗ (∃ d, owns (c : Thread nD τ) (ms4 t) fullShare ((dat m c).before 4 t d)) ∗ (∃ Y, ⌜(rel m c).Finds 5 t Y⌝ ∗ owns (c : Thread nD τ) (ms5 t) fullShare Y) ∗ (∃ Y, ⌜(rel m c).Finds 6 t Y⌝ ∗ owns (c : Thread nD τ) (ms6 t) fullShare Y))

/-- What it hands back. -/
def bodyPost (t : Fin cfg0.N) : sProp 𝕄 := iprop((dat m c).Φ t.succ ∗ (dat m c).owesAt () t.succ ∗ owns (c : Thread nD τ) (ms0 t) fullShare ((dat m c).after 0 t) ∗ owns (c : Thread nD τ) (ms1 t) fullShare ((dat m c).after 1 t) ∗ owns (c : Thread nD τ) (ms2 t) fullShare ((dat m c).after 2 t) ∗ owns (c : Thread nD τ) (ms3 t) fullShare ((dat m c).after 3 t) ∗ owns (c : Thread nD τ) (ms4 t) fullShare ((dat m c).after 4 t) ∗ (∃ X, ⌜Rl m c 5 t X⌝ ∗ owns (c : Thread nD τ) (ms5 t) fullShare X) ∗ (∃ X, ⌜Rl m c 6 t X⌝ ∗ owns (c : Thread nD τ) (ms6 t) fullShare X))

set_option maxHeartbeats 4000000 in
/-- The body at a point over the context's keys. -/
theorem body_ctx (t : Fin cfg0.N) (hj : t.val % 9 = 0) :
    bodyPre m c t ⊢ wp frame (wpE (defs₀ (F := F)) Variants.none c none) Set.univ (bodyAt0 t) (fun _ => bodyPost m c t) := by
  unfold bodyPre bodyPost bodyAt0
  simp only [before0_0_of m (dat m c) (A_eq m c 0) (fun _ => rfl), before0_1_of m (dat m c) (A_eq m c 1) (fun _ => rfl), before0_2_of m (dat m c) (A_eq m c 2) (fun _ => rfl), before0_3_of m (dat m c) (A_eq m c 3) (fun _ => rfl), before0_4_of m (dat m c) (A_eq m c 4) (fun _ => rfl)]
  rw [show (dat m c).owesAt () t.succ = (dat m c).owesAt () t.castSucc from rfl,
    show (dat m c).Φ t.castSucc = Held m c t.val from rfl, show (dat m c).Φ t.succ = Held m c (t.val + 1) from rfl]
  unfold Held
  iintro ⟨⟨%s0, %s1, %s2, %hs, HS0, HS1, HS2, Hg⟩, Ho, ⟨%d0, H0⟩, ⟨%d1, H1⟩, ⟨%d2, H2⟩, ⟨%d3, H3⟩, ⟨%d4, H4⟩, ⟨%Y5, %h5, H5⟩, ⟨%Y6, %h6, H6⟩⟩
  iapply (run_ctx c (grid0.coords t) _ _ _ _ _ _ _ _ _ _ _ _ _ _ _ _ _ _ _ _ ((ctx_iff t).mpr hj) (fun h => (tile_iff t).mp h hj) (fun h => absurd ((last_iff t).mp h) (by omega)) (X0 m c t) (X1 m c t) (X2 m c t) (X3 m c t) (X4 m c t) Y5 Y6 s0 s1 s2 Set.univ _)
  unfold bufs
  isplitr [Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact HS2
  iintro ⟨H0, H1, H2, H3, H4, H5, H6, HS0, HS1, HS2⟩
  isplitl [HS0 HS1 HS2 Hg]
  · iexists _; iexists _; iexists _; isplitr; swap
    · isplitl [HS0]; · iexact HS0
      isplitl [HS1]; · iexact HS1
      isplitl [HS2]; · iexact HS2
      iexact Hg
    ipureintro
    exact fun _ => by rw [Nat.add_sub_cancel, st_ctx m c t hj]; exact ⟨rfl, rfl, ones_ctx s2 _⟩
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact fun h => absurd hj (by omega)
  iexists _; isplitr; swap; · iexact H6
  ipureintro; exact fun h => absurd hj (by omega)

set_option maxHeartbeats 4000000 in
/-- The body at a point over a tile of keys. -/
theorem body_main (t : Fin cfg0.N) (hj : ¬ t.val % 9 = 0) :
    bodyPre m c t ⊢ wp frame (wpE (defs₀ (F := F)) Variants.none c none) Set.univ (bodyAt0 t) (fun _ => bodyPost m c t) := by
  unfold bodyPre bodyPost bodyAt0
  simp only [before0_0_of m (dat m c) (A_eq m c 0) (fun _ => rfl), before0_1_of m (dat m c) (A_eq m c 1) (fun _ => rfl), before0_2_of m (dat m c) (A_eq m c 2) (fun _ => rfl), before0_3_of m (dat m c) (A_eq m c 3) (fun _ => rfl), before0_4_of m (dat m c) (A_eq m c 4) (fun _ => rfl)]
  rw [show (dat m c).owesAt () t.succ = (dat m c).owesAt () t.castSucc from rfl,
    show (dat m c).Φ t.castSucc = Held m c t.val from rfl, show (dat m c).Φ t.succ = Held m c (t.val + 1) from rfl]
  unfold Held
  iintro ⟨⟨%s0, %s1, %s2, %hs, HS0, HS1, HS2, Hg⟩, Ho, ⟨%d0, H0⟩, ⟨%d1, H1⟩, ⟨%d2, H2⟩, ⟨%d3, H3⟩, ⟨%d4, H4⟩, ⟨%Y5, %h5, H5⟩, ⟨%Y6, %h6, H6⟩⟩
  iapply (run_main c (grid0.coords t) _ _ _ _ _ _ _ _ _ _ _ _ _ _ _ _ _ _ _ _ (fun h => hj ((ctx_iff t).mp h)) ((tile_iff t).mpr hj) (X0 m c t) (X1 m c t) (X2 m c t) (X3 m c t) (X4 m c t) Y5 Y6 s0 s1 s2 Set.univ _)
  unfold bufs
  isplitr [Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact HS2
  iintro ⟨H0, H1, H2, H3, H4, H5, H6, HS0, HS1, HS2⟩
  isplitl [HS0 HS1 HS2 Hg]
  · iexists _; iexists _; iexists _; isplitr; swap
    · isplitl [HS0]; · iexact HS0
      isplitl [HS1]; · iexact HS1
      isplitl [HS2]; · iexact HS2
      iexact Hg
    ipureintro
    exact fun _ => by rw [Nat.add_sub_cancel, st_tile m c t hj, put_values (hs hj).2.2, (hs hj).1, (hs hj).2.1]; exact ⟨rfl, rfl, ones_beside _⟩
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact fun h => (if_pos ((last_iff t).mpr h)).trans (by rw [st_tile m c t hj, put_values (hs hj).2.2, (hs hj).1, (hs hj).2.1])
  iexists _; isplitr; swap; · iexact H6
  ipureintro; exact fun h => (if_pos ((last_iff t).mpr h)).trans (by rw [st_tile m c t hj, put_values (hs hj).2.2, (hs hj).1, (hs hj).2.1])

/-- The body's obligation at every point. -/
theorem body_rel : Pipeline.BodyObligationRel (dat m c) (defs₀ (F := F)) Variants.none () Set.univ isOut (Rl m c) := fun t => by
  rw [bigSep_W0, bigSep_W0, show defs₀ (F := F) .tc cfg0.body (cfg0.bodyArgs t (cfg0.slots t)) = bodyAt0 t by unfold defs₀; rw [Defs.onTc_tc]]
  by_cases hj : t.val % 9 = 0
  · exact triple_restated (body_ctx m c t hj) rfl .rfl fun _ => .rfl
  · exact triple_restated (body_main m c t hj) rfl .rfl fun _ => .rfl

end Cert.Kernel11Ideal.Fwd

end
-- ==== Proof.Fwd.Run.lean ====
module

public import proofs.«01_k».proof.Proof.Fwd.Data
public import Idealize.ShloMosaic.Lib.Pipeline.ValueKit
public import Idealize.ShloMosaic.Lib.Pointwise

@[expose] public section

set_option maxRecDepth 16384

noncomputable section

namespace Cert.Kernel11Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel11Ideal.Gen
open Idealize.ShloMosaic.Pipeline (Dat RDat Cfg)

variable {F : FTy → Type} [FloatOps F] [Named F]

local notation "𝕄" => MT nD τ sig Unit (Elt F) ℕ (UR sig nD τ) ℕ

/-! # The run of the call, and what its two results hold -/

variable (m : (ℓ : Loc nD τ sig) → Buf (Elt F) ℓ) (ρ : Dev nD → PrngReg) (c : Dev nD)

/-- What the launch hands over besides the windows: the three scratch buffers and the generator's register. -/
theorem held_eq : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The scratch is handed over at any contents, and handed back so. -/
theorem held_in : (Pipeline.ΦA spec0 c : sProp 𝕄) ⊢ Held m c 0 := by
  rw [held_eq]; unfold Held
  iintro ⟨⟨⟨%d0, H0⟩, ⟨%d1, H1⟩, ⟨%d2, H2⟩⟩, Hg⟩
  iexists d0; iexists d1; iexists d2
  isplitr
  · ipureintro; exact fun h => absurd rfl h
  isplitl [H0]; · iexact H0
  isplitl [H1]; · iexact H1
  isplitl [H2]; · iexact H2
  iexact Hg
theorem held_out (n : ℕ) : Held m c n ⊢ (Pipeline.ΦA spec0 c : sProp 𝕄) := by
  rw [held_eq]; unfold Held
  iintro ⟨%d0, %d1, %d2, %hd, H0, H1, H2, Hg⟩
  isplitl [H0 H1 H2]
  · isplitl [H0]; · iexists d0; iexact H0
    isplitl [H1]; · iexists d1; iexact H1
    iexists d2; iexact H2
  iexact Hg

-- the statement's data are found by unfolding plain definitions in a metavariable's type
set_option backward.isDefEq.respectTransparency.types false in
/-- The run: each array as the points left it and every counter at zero. -/
theorem run_rel : θ_run defs (onTc (τ := τ) (main (F := F))) (s₀ m ρ) (fun r => (RDat.FramePost (cfgs 0) (fun c => rel m c) (V m)) r ∧ r.2.sem = fun _ => 0) :=
  Pipeline.RDat.θ_run_frame_track (Q' := _) cfgs (0 : Fin 1) launch0 defs₀ Variants.none (fun c => rel m c) m ρ main
    (hbody := fun c => (body_rel m c).toRRel) (hshare := fun c => (dat m c).share_full fun _ => rfl)
    (howed := fun _ _ => rfl) (V := V m) (hmain := hmain m Variants.none) (hA := A_eq m)
    (hin := fun c => held_in m c) (hout := fun c => held_out m c _)

/-- Which block of its array each result's window holds at a point. -/
theorem idx5 : ∀ t : Fin grid0.N, win0_5.index t = ![t.val / 72, t.val / 9 % 8, 0] := by decide +kernel
theorem idx6 : ∀ t : Fin grid0.N, win0_6.index t = ![t.val / 72, t.val / 9 % 8, 0] := by decide +kernel

/-- The point at which row `r` of head `h` is copied out. -/
def lastOf (h r : ℕ) : ℕ := 72 * h + 9 * (r / 1024) + 8

/-- The two results. -/
def GO : Vec F S8x8192x64 .f32 := fun i => outO (st m c (lastOf (i 0).val (i 1).val)).2 (ix3 0 ⟨(i 1).val % 1024, Nat.mod_lt _ (by decide)⟩ (i 2))
def GE : Vec F S8x8192x1 .f32 := fun i => outL (st m c (lastOf (i 0).val (i 1).val)).1 (st m c (lastOf (i 0).val (i 1).val)).2 (ix3 0 ⟨(i 1).val % 1024, Nat.mod_lt _ (by decide)⟩ (i 2))

variable {m c}

theorem GO_blk (i : S8x8192x64.Idx) (n : ℕ) (y : S1x1024x64.Idx) (hn : lastOf (i 0).val (i 1).val = n) (h1 : (i 1).val % 1024 = (y 1).val) (h2 : (i 2).val = (y 2).val) :
    GO m c i = outO (st m c n).2 y := by
  have e : (ix3 0 ⟨(i 1).val % 1024, Nat.mod_lt _ (by decide)⟩ (i 2) : S1x1024x64.Idx) = y := by
    funext a
    refine Fin.ext ?_
    match a with
    | ⟨0, _⟩ => exact (Nat.lt_one_iff.mp (y 0).isLt).symm
    | ⟨1, _⟩ => exact h1
    | ⟨2, _⟩ => exact h2
  unfold GO
  rw [hn, e]
theorem GE_blk (i : S8x8192x1.Idx) (n : ℕ) (y : S1x1024x1.Idx) (hn : lastOf (i 0).val (i 1).val = n) (h1 : (i 1).val % 1024 = (y 1).val) (h2 : (i 2).val = (y 2).val) :
    GE m c i = outL (st m c n).1 (st m c n).2 y := by
  have e : (ix3 0 ⟨(i 1).val % 1024, Nat.mod_lt _ (by decide)⟩ (i 2) : S1x1024x1.Idx) = y := by
    funext a
    refine Fin.ext ?_
    match a with
    | ⟨0, _⟩ => exact (Nat.lt_one_iff.mp (y 0).isLt).symm
    | ⟨1, _⟩ => exact h1
    | ⟨2, _⟩ => exact h2
  unfold GE
  rw [hn, e]

variable {after : (w : Fin cfg0.W) → Fin cfg0.N → (cfg0.win w).block.Idx → Elt F (cfg0.win w).elt}

/-- Each result's array, from what the body left in its window at the points that copy it out. -/
theorem arr5 (hL : ∀ w u, (cfg0.win w).flush u = true → (rel m c).Leaves w u (after w u)) :
    ((rel m c).withAfter after).arrAt 5 cfg0.N = GO m c := by
  refine Dat.arrAt_eq_of_covers _ 5 _ (by decide +kernel) (fun t hf y => ?_)
  have hf' := (flush0_5 t).mp hf
  have hl : after 5 t = outO (st m c t.val).2 := (dat m c).toRRel_leaves (w := 5) rfl (hL 5 t hf) hf'
  blk_simp
  rw [RDat.withAfter_after, hl]
  idx_bounds
  refine (GO_blk _ t.val y ?_ ?_ ?_).symm
  · unfold lastOf
    blk_simp [idx5 t]
    omega
  all_goals
    blk_simp [idx5 t]
    try omega
theorem arr6 (hL : ∀ w u, (cfg0.win w).flush u = true → (rel m c).Leaves w u (after w u)) :
    ((rel m c).withAfter after).arrAt 6 cfg0.N = GE m c := by
  refine Dat.arrAt_eq_of_covers _ 6 _ (by decide +kernel) (fun t hf y => ?_)
  have hf' := (flush0_6 t).mp hf
  have hl : after 6 t = outL (st m c t.val).1 (st m c t.val).2 := (dat m c).toRRel_leaves (w := 6) rfl (hL 6 t hf) hf'
  blk_simp
  rw [RDat.withAfter_after, hl]
  idx_bounds
  refine (GE_blk _ t.val y ?_ ?_ ?_).symm
  · unfold lastOf
    blk_simp [idx6 t]
    omega
  all_goals
    blk_simp [idx6 t]
    try omega

variable (m)
variable {r : PUnit × MemSt nD τ sig (Elt F)} (h : RDat.FramePost cfg0 (fun c => rel m c) (V m) r) (c : Dev nD)
include h

/-- Each result's array at the end. -/
theorem end5 : r.2.mem ((c.tc : Thread nD τ).loc main_v0_0) = GO m c := by
  obtain ⟨after, hL, hA⟩ := RDat.FramePost.exists_exact h c
  have h' := hA 5
  exact h'.trans (arr5 hL)
theorem end6 : r.2.mem ((c.tc : Thread nD τ).loc main_v0_1) = GE m c := by
  obtain ⟨after, hL, hA⟩ := RDat.FramePost.exists_exact h c
  have h' := hA 6
  exact h'.trans (arr6 hL)

/-- Each argument's. -/
theorem same0 : r.2.mem ((c.tc : Thread nD τ).loc main_arg0) = m ((c.tc : Thread nD τ).loc main_arg0) :=
  (h.arr_in c 0 rfl).trans ((A_eq m c 0).trans (V_main_arg0 m c))
theorem same1 : r.2.mem ((c.tc : Thread nD τ).loc main_arg1) = m ((c.tc : Thread nD τ).loc main_arg1) :=
  (h.arr_in c 1 rfl).trans ((A_eq m c 1).trans (V_main_arg1 m c))
theorem same2 : r.2.mem ((c.tc : Thread nD τ).loc main_arg2) = m ((c.tc : Thread nD τ).loc main_arg2) :=
  (h.arr_in c 2 rfl).trans ((A_eq m c 2).trans (V_main_arg2 m c))
theorem same3 : r.2.mem ((c.tc : Thread nD τ).loc main_arg3) = m ((c.tc : Thread nD τ).loc main_arg3) :=
  (h.arr_in c 3 rfl).trans ((A_eq m c 3).trans (V_main_arg3 m c))
theorem same4 : r.2.mem ((c.tc : Thread nD τ).loc main_arg4) = m ((c.tc : Thread nD τ).loc main_arg4) :=
  (h.arr_in c 4 rfl).trans ((A_eq m c 4).trans (V_main_arg4 m c))

omit h

/-- The run with its two results named, the arguments unchanged and every counter at zero. -/
theorem run_values : θ_run defs (onTc (τ := τ) (main (F := F))) ⟨m, fun _ => 0, ρ⟩ (fun r => (∀ c : Dev nD,
      (r.2.mem ((c.tc : Thread nD τ).loc main_v0_0) = GO m c
      ∧ r.2.mem ((c.tc : Thread nD τ).loc main_v0_1) = GE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨⟨end5 m h.1 c, end6 m h.1 c⟩,
    same0 m h.1 c, same1 m h.1 c, same2 m h.1 c, same3 m h.1 c, same4 m h.1 c⟩, h.2⟩) (run_rel m ρ)

end Cert.Kernel11Ideal.Fwd

end
-- ==== Proof.Math.Model.lean ====
module

public import Idealize.ShloMosaic.Lib.Pointwise

@[expose] public section

noncomputable section

namespace Cert.Attn

/-! # One head of the attention's backward pass, over the real numbers

A head has queries `q r`, keys `k c`, values `v c`, and the gradient `g r` of its output, numbered by naturals. What the
forward pass saves of a row is its output `o r` and the logarithm `l r` (to the base two) of its sum of exponentials. -/

/-- The scale the scores are multiplied by. -/
def sc : ℝ := 3424635 / 33554432

/-- The scale over the logarithm of two, which the backward call multiplies the queries by. -/
def qf : ℝ := 3424635 / 33554432 * (Real.log 2)⁻¹

/-- A sum of reals, read as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The weight the backward call recomputes for query `r` and key `c`. -/
def wgt (q k : ℕ → Fin 96 → ℝ) (l : ℕ → ℝ) (r c : ℕ) : ℝ :=
  Real.rpow 2 (∑ e, q r e * qf * k c e - l r)

/-- The gradient of a score as the backward call forms it. -/
def grd (q k : ℕ → Fin 96 → ℝ) (v : ℕ → Fin 64 → ℝ) (o g : ℕ → Fin 64 → ℝ) (l : ℕ → ℝ) (r c : ℕ) : ℝ :=
  wgt q k l r c * (∑ e, g r e * Real.log 2 * v c e - ∑ e, g r e * Real.log 2 * o r e)

/-- What the queries' gradient gets from key `c`. -/
def dqAt (q k : ℕ → Fin 96 → ℝ) (v : ℕ → Fin 64 → ℝ) (o g : ℕ → Fin 64 → ℝ) (l : ℕ → ℝ) (r : ℕ) (d : Fin 96) (c : ℕ) : ℝ :=
  grd q k v o g l r c * k c d * qf

/-- What a key's gradient gets from query `r`. -/
def dkAt (q k : ℕ → Fin 96 → ℝ) (v : ℕ → Fin 64 → ℝ) (o g : ℕ → Fin 64 → ℝ) (l : ℕ → ℝ) (c : ℕ) (d : Fin 96) (r : ℕ) : ℝ :=
  grd q k v o g l r c * (q r d * qf)

/-- What a value's gradient gets from query `r`. -/
def dvAt (q k : ℕ → Fin 96 → ℝ) (g : ℕ → Fin 64 → ℝ) (l : ℕ → ℝ) (c : ℕ) (d : Fin 64) (r : ℕ) : ℝ :=
  wgt q k l r c * g r d

/-- The sum over a range lengthened by `n`, as the sum over the range and one over `Fin n`. -/
theorem sum_range_add_fin {N : Type} [AddCommMonoid N] (f : ℕ → N) (a n : ℕ) : ∑ x ∈ Finset.range (a + n), f x = ∑ x ∈ Finset.range a, f x + ∑ x : Fin n, f (a + x) := by
  rw [Finset.sum_range_add, Finset.sum_range (fun x => f (a + x))]

end Cert.Attn

end
-- ==== Proof.Math.Soft.lean ====
module

public import proofs.«01_k».proof.Proof.Math.Model

@[expose] public section

noncomputable section

namespace Cert.Attn

/-! # The softmax and its gradient, over the real numbers

`M r` is any number taken from each score of row `r` before the exponential; nothing below depends on which. -/

variable (q k : ℕ → Fin 96 → ℝ) (v g : ℕ → Fin 64 → ℝ) (M : ℕ → ℝ)

/-- A score, its exponential, the row's sum of them. -/
def scr (r c : ℕ) : ℝ := (∑ e, q r e * k c e) * sc
def ex (r c : ℕ) : ℝ := Real.exp (scr q k r c - M r)
def row (r : ℕ) : ℝ := ∑ x : Fin 8448, ex q k M r x

/-- The output of the forward pass and the logarithm it saves. -/
def out (r : ℕ) (d : Fin 64) : ℝ := ∑ x : Fin 8448, ex q k M r x / row q k M r * v x d
def lse (r : ℕ) : ℝ := (M r + Real.log (row q k M r)) / Real.log 2

/-- The gradient of a weight, of the row's sum, of a score. -/
def dpr (r c : ℕ) : ℝ := ∑ e, g r e * v c e
def rowG (r : ℕ) : ℝ := -∑ x : Fin 8448, dpr v g r x * (1 / (row q k M r * row q k M r)) * ex q k M r x
def dsc (r c : ℕ) : ℝ := (dpr v g r c / row q k M r + rowG q k v g M r) * ex q k M r c * sc

theorem row_pos (r : ℕ) : 0 < row q k M r :=
  Finset.sum_pos (fun _ _ => Real.exp_pos _) ⟨0, Finset.mem_univ _⟩

theorem log_two_ne : Real.log 2 ≠ 0 := (Real.log_pos (by norm_num)).ne'

theorem qf_log : qf * Real.log 2 = sc := by
  unfold qf sc
  rw [mul_assoc, inv_mul_cancel₀ log_two_ne, mul_one]

/-- The weight recomputed from the saved logarithm is the softmax's. -/
theorem wgt_lse (r c : ℕ) : wgt q k (lse q k M) r c = ex q k M r c / row q k M r := by
  have hs : (∑ e, q r e * qf * k c e) * Real.log 2 = scr q k r c := by
    unfold scr
    rw [← qf_log, ← mul_assoc, Finset.sum_mul, Finset.sum_mul, Finset.sum_mul]
    exact Finset.sum_congr rfl fun e _ => by ring
  have hl : lse q k M r * Real.log 2 = M r + Real.log (row q k M r) := div_mul_cancel₀ _ log_two_ne
  show (2 : ℝ) ^ (∑ e, q r e * qf * k c e - lse q k M r) = _
  rw [Real.rpow_def_of_pos (by norm_num), mul_comm, sub_mul, hs, hl, ← sub_sub, Real.exp_sub, Real.exp_log (row_pos q k M r)]
  rfl

/-- The gradient of the output against the output is the weighted sum of the weights' gradients. -/
theorem sum_out (r : ℕ) : ∑ e, g r e * out q k v M r e = ∑ x : Fin 8448, ex q k M r x / row q k M r * dpr v g r x := by
  unfold out dpr
  simp only [Finset.mul_sum]
  rw [Finset.sum_comm]
  exact Finset.sum_congr rfl fun x _ => Finset.sum_congr rfl fun e _ => by ring

/-- The gradient of a score as the backward call forms it is the softmax's. -/
theorem grd_lse (r c : ℕ) : grd q k v (out q k v M) g (lse q k M) r c * qf = dsc q k v g M r c := by
  have hL := (row_pos q k M r).ne'
  have h1 : ∑ e, g r e * Real.log 2 * v c e = Real.log 2 * dpr v g r c := by
    unfold dpr
    rw [Finset.mul_sum]
    exact Finset.sum_congr rfl fun e _ => by ring
  have h2 : ∑ e, g r e * Real.log 2 * out q k v M r e = Real.log 2 * ∑ x : Fin 8448, ex q k M r x / row q k M r * dpr v g r x := by
    rw [← sum_out, Finset.mul_sum]
    exact Finset.sum_congr rfl fun e _ => by ring
  have h3 : rowG q k v g M r = -(∑ x : Fin 8448, ex q k M r x / row q k M r * dpr v g r x) / row q k M r := by
    unfold rowG
    rw [neg_div, Finset.sum_div]
    exact congrArg Neg.neg (Finset.sum_congr rfl fun x _ => by field_simp)
  unfold grd dsc
  rw [wgt_lse, h1, h2, h3, ← qf_log]
  field_simp
  ring

end Cert.Attn

end
-- ==== Proof.Math.Const.lean ====
module

public import proofs.«01_k».proof.Proof.Math.Soft
public import Idealize.ShloMosaic.Lib.IdealHost

@[expose] public section

noncomputable section

namespace Cert.Attn

open Idealize.ShloMosaic

/-! # Extended reals that are real numbers -/

/-- The scale's constant, minus infinity, infinity and two. -/
theorem bits_scale : Ideal.ofBits .f32 0x3DD105EC#32 = ((sc : ℝ) : EReal) := by
  unfold sc
  simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_two : Ideal.ofBits .f32 0x40000000#32 = ((2 : ℝ) : EReal) := by
  simp [Ideal.ofBits, Ideal.ieee, -EReal.coe_mul]; norm_num

/-- A quotient of reals. -/
theorem div_real (a : ℝ) {b : ℝ} (h : b ≠ 0) : Ideal.div (a : EReal) (b : EReal) = ((a / b : ℝ) : EReal) := by
  rw [Ideal.div_coe h, ← EReal.coe_mul, mul_one_div]

/-- The logarithm of a positive real. -/
theorem log_real {a : ℝ} (h : 0 < a) : Ideal.log (a : EReal) = ((Real.log a : ℝ) : EReal) := by
  rw [Ideal.log_coe, if_neg (not_le.mpr h)]

/-- The largest of finitely many reals, at least one, is a real. -/
theorem fold_max_real {ι : Type} (s : Finset ι) (hs : s.Nonempty) (f : ι → ℝ) :
    ∃ M : ℝ, Finset.fold max (⊥ : EReal) (fun x => ((f x : ℝ) : EReal)) s = ((M : ℝ) : EReal) := by
  classical
  induction s using Finset.induction_on with
  | empty => exact absurd hs Finset.not_nonempty_empty
  | insert a s ha ih =>
    rw [Finset.fold_insert ha]
    rcases s.eq_empty_or_nonempty with h | h
    · subst h
      exact ⟨f a, by simp⟩
    · obtain ⟨M, hM⟩ := ih h
      exact ⟨max (f a) M, by rw [hM]; exact (EReal.coe_strictMono.monotone.map_max).symm⟩

/-- Each row's largest score. -/
def top (q k : ℕ → Fin 96 → ℝ) (r : ℕ) : ℝ :=
  Classical.choose (fold_max_real Finset.univ ⟨(0 : Fin 8448), Finset.mem_univ _⟩ fun x : Fin 8448 => scr q k r x)
theorem top_spec (q k : ℕ → Fin 96 → ℝ) (r : ℕ) :
    Finset.fold max (⊥ : EReal) (fun x : Fin 8448 => ((scr q k r x : ℝ) : EReal)) Finset.univ = ((top q k r : ℝ) : EReal) :=
  Classical.choose_spec (fold_max_real Finset.univ ⟨(0 : Fin 8448), Finset.mem_univ _⟩ fun x : Fin 8448 => scr q k r x)

/-- A number whose absolute value is below infinity is a real. -/
theorem real_of_abs {x : EReal} (h : max x (-x) < ⊤) : x = ((x.toReal : ℝ) : EReal) := by
  refine (EReal.coe_toReal ?_ ?_).symm
  · rintro rfl; simp at h
  · rintro rfl; simp at h

end Cert.Attn

end
-- ==== Proof.Math.Online.lean ====
module

public import proofs.«01_k».proof.Proof.Math.Soft
public import proofs.«01_k».proof.Proof.Math.Const

@[expose] public section

noncomputable section

namespace Cert.Attn

open Idealize.ShloMosaic

/-! # The softmax taken tile by tile

A row's exponentials are summed over a growing range of keys, each less a number `M` that the call raises as it goes.
The quotient of two such sums, and `M` plus the logarithm of one, depend on the keys alone. -/

variable (q k : ℕ → Fin 96 → ℝ) (v : ℕ → Fin 64 → EReal)

/-- A real number that isn't negative, times a sum of extended reals. -/
theorem real_mul_sum {ι : Type} {a : ℝ} (ha : 0 ≤ a) (s : Finset ι) (f : ι → EReal) : (a : EReal) * ∑ x ∈ s, f x = ∑ x ∈ s, (a : EReal) * f x := by
  classical
  induction s using Finset.induction_on with
  | empty => rw [Finset.sum_empty, Finset.sum_empty, mul_zero]
  | insert x s hx ih =>
    rw [Finset.sum_insert hx, Finset.sum_insert hx, EReal.left_distrib_of_nonneg_of_ne_top (EReal.coe_nonneg.mpr ha) (EReal.coe_ne_top a), ih]

/-- A score as the forward call forms it. -/
def fsc (r c : ℕ) : ℝ := ∑ e, q r e * qf * k c e

/-- The values, any extended reals, followed by ones. -/
def beside (c : ℕ) (e : Fin 128) : EReal := if h : e.val < 64 then v c ⟨e.val, h⟩ else 1

/-- The sum over the first `n` keys, each weight less `M`. -/
def acc (M : ℝ) (n r : ℕ) (e : Fin 128) : EReal := ∑ c ∈ Finset.range n, ((Real.rpow 2 (fsc q k r c - M) : ℝ) : EReal) * beside v c e

/-- Raising `M` and adding a tile of `w` keys. -/
theorem acc_step (M M' : ℝ) (n w r : ℕ) (e : Fin 128) :
    ((Real.rpow 2 (M - M') : ℝ) : EReal) * acc q k v M n r e + ∑ x : Fin w, ((Real.rpow 2 (fsc q k r (n + x) - M') : ℝ) : EReal) * beside v (n + x) e
      = acc q k v M' (n + w) r e := by
  unfold acc
  rw [sum_range_add_fin, real_mul_sum (show 0 ≤ Real.rpow 2 (M - M') from Real.rpow_nonneg two_pos.le _)]
  congr 1
  refine Finset.sum_congr rfl fun c _ => ?_
  rw [← mul_assoc, ← EReal.coe_mul]
  congr 2
  show (2 : ℝ) ^ (M - M') * (2 : ℝ) ^ (fsc q k r c - M) = (2 : ℝ) ^ (fsc q k r c - M')
  rw [← Real.rpow_add two_pos]
  congr 1
  ring

/-- The score is the reference's over the logarithm of two. -/
theorem fsc_log (r c : ℕ) : Real.log 2 * fsc q k r c = scr q k r c := by
  unfold fsc scr
  rw [← qf_log, Finset.mul_sum, Finset.sum_mul]
  exact Finset.sum_congr rfl fun e _ => by ring

/-- A weight less `M`, in the terms of the exponentials less `T`. -/
theorem weight_eq (T : ℕ → ℝ) (M : ℝ) (r c : ℕ) : Real.rpow 2 (fsc q k r c - M) = Real.exp (T r - Real.log 2 * M) * ex q k T r c := by
  show (2 : ℝ) ^ (fsc q k r c - M) = _
  unfold ex
  rw [Real.rpow_def_of_pos two_pos, ← Real.exp_add, mul_sub, fsc_log]
  congr 1
  ring

/-- The two sums over all the keys. -/
theorem acc_value (T : ℕ → ℝ) (M : ℝ) (r : ℕ) (e : Fin 128) (d : Fin 64) (h : e.val = d.val) :
    acc q k v M 8448 r e = ((Real.exp (T r - Real.log 2 * M) : ℝ) : EReal) * ∑ x : Fin 8448, ((ex q k T r x : ℝ) : EReal) * v x d := by
  unfold acc
  rw [Finset.sum_range, real_mul_sum (Real.exp_pos _).le]
  refine Finset.sum_congr rfl fun x _ => ?_
  have hb : beside v x e = v x d := by
    unfold beside
    rw [dif_pos (by omega)]
    exact congrArg (v x) (Fin.ext h)
  rw [weight_eq q k T, hb, EReal.coe_mul, mul_assoc]
theorem acc_ones (T : ℕ → ℝ) (M : ℝ) (r : ℕ) (e : Fin 128) (h : 64 ≤ e.val) :
    acc q k v M 8448 r e = ((Real.exp (T r - Real.log 2 * M) * row q k T r : ℝ) : EReal) := by
  unfold acc row
  rw [Finset.sum_range, Finset.mul_sum, coe_sum]
  refine Finset.sum_congr rfl fun x _ => ?_
  have hb : beside v x e = 1 := by
    unfold beside
    rw [dif_neg (by omega)]
  rw [weight_eq q k T, hb, mul_one]

theorem ones_pos (T : ℕ → ℝ) (M : ℝ) (r : ℕ) : 0 < Real.exp (T r - Real.log 2 * M) * row q k T r :=
  mul_pos (Real.exp_pos _) (row_pos q k T r)

/-- The output, and the logarithm. -/
def wout (T : ℕ → ℝ) (r : ℕ) (d : Fin 64) : EReal := ∑ x : Fin 8448, ((ex q k T r x / row q k T r : ℝ) : EReal) * v x d
theorem acc_out (T : ℕ → ℝ) (M : ℝ) (r : ℕ) (e e' : Fin 128) (d : Fin 64) (h : e.val = d.val) (h' : 64 ≤ e'.val) :
    Ideal.div (acc q k v M 8448 r e) (acc q k v M 8448 r e') = wout q k v T r d := by
  have hL := row_pos q k T r
  rw [acc_value q k v T M r e d h, acc_ones q k v T M r e' h', Ideal.div_coe (ones_pos q k T M r).ne', mul_comm, ← mul_assoc, ← EReal.coe_mul,
    show 1 / (Real.exp (T r - Real.log 2 * M) * row q k T r) * Real.exp (T r - Real.log 2 * M) = 1 / row q k T r by field_simp,
    real_mul_sum (one_div_pos.mpr hL).le]
  refine Finset.sum_congr rfl fun x _ => ?_
  rw [← mul_assoc, ← EReal.coe_mul, one_div_mul_eq_div]
theorem acc_lse (T : ℕ → ℝ) (M : ℝ) (r : ℕ) :
    M + Real.log (Real.exp (T r - Real.log 2 * M) * row q k T r) * (Real.log 2)⁻¹ = lse q k T r := by
  rw [Real.log_mul (Real.exp_pos _).ne' (row_pos q k T r).ne', Real.log_exp]
  unfold lse
  have := log_two_ne
  field_simp
  ring

end Cert.Attn

end
-- ==== Proof.Fwd.Value.lean ====
module

public import proofs.«01_k».proof.Proof.Fwd.Run
public import proofs.«01_k».proof.Proof.Math.Online
public import proofs.«01_k».proof.Proof.Math.Const
public import Idealize.ShloMosaic.Lib.Pointwise

@[expose] public section

set_option maxRecDepth 16384

noncomputable section

namespace Cert.Kernel11Ideal.Fwd

open Idealize.ShloMosaic Idealize.ShloMosaic.TcCoe
open Cert.Kernel11Ideal Cert.Kernel11Ideal.Gen Cert.Attn

/-! # What a point computes: real weights, and their sums of values that are any extended reals -/

/-- The two named numbers, the number the running maximum starts from, and one. -/
theorem named_qf : Named.named (F := Ideal) κ "q_factor" (φ := .f32) 0x3E16C740#32 = ((qf : ℝ) : EReal) := rfl
theorem named_inv : Named.named (F := Ideal) κ "inv_ln2" (φ := .f32) 0x3FB8AA3B#32 = (((Real.log 2)⁻¹ : ℝ) : EReal) := rfl
theorem bits_start : Ideal.ofBits .f32 0xF149F2CA#32 = ((-(13234890 * 2 ^ 76) : ℝ) : EReal) := by
  simp [Ideal.ofBits, Ideal.ieee, -EReal.coe_mul, -EReal.coe_neg]
theorem bits_one : Ideal.ofBits .bf16 0x3F80#16 = (1 : EReal) := by
  simp [Ideal.ofBits, Ideal.ieee, -EReal.coe_mul]; norm_num
theorem exp2_real (x : ℝ) : FloatOps.exp2 (F := Ideal) (φ := .f32) (x : EReal) = ((Real.rpow 2 x : ℝ) : EReal) := rfl

variable {q k : ℕ → Fin 96 → ℝ} {v : ℕ → Fin 64 → EReal} {r0 c0 : ℕ}
variable {x0 x1 : Vec Ideal S1x1024x96 .f32} {x2 : Vec Ideal S1x1024x64 .f32} {x3 : Vec Ideal S1x256x96 .f32} {x4 : Vec Ideal S1x256x64 .f32}

/-- The values of a tile with ones beside them. -/
theorem besideM_at (hv : ∀ (c : Fin 1024) (e : Fin 64), x2 (ix3 0 c e) = v (c0 + c) e) (c : Fin 1024) (e : Fin 128) :
    besideM (k0_pay12 x2) (ix2 c e) = beside v (c0 + c) e := by
  unfold besideM beside
  by_cases h : e.val < 64
  · refine (dif_pos h).trans ?_
    rw [dif_pos h, ← hv]
    unfold k0_pay12
    pointwise []
  · refine (dif_neg h).trans ?_
    rw [dif_neg h]
    exact bits_one
theorem besideC_at (hv : ∀ (c : Fin 256) (e : Fin 64), x4 (ix3 0 c e) = v (c0 + c) e) (c : Fin 256) (e : Fin 128) :
    besideC (k0_pay8 x4) (ix2 c e) = beside v (c0 + c) e := by
  unfold besideC beside
  by_cases h : e.val < 64
  · refine (dif_pos h).trans ?_
    rw [dif_pos h, ← hv]
    unfold k0_pay8
    pointwise []
  · refine (dif_neg h).trans ?_
    rw [dif_neg h]
    exact bits_one

/-- The scores. -/
theorem scoreM_at (hq : ∀ (r : Fin 1024) (e : Fin 96), x0 (ix3 0 r e) = ((q (r0 + r) e : ℝ) : EReal))
    (hk : ∀ (c : Fin 1024) (e : Fin 96), x1 (ix3 0 c e) = ((k (c0 + c) e : ℝ) : EReal)) (r c : Fin 1024) :
    k0_pay13 x1 x0 (ix2 r c) = ((fsc q k (r0 + r) (c0 + c) : ℝ) : EReal) := by
  unfold k0_pay13
  pointwise []
  simp only [hq, hk, named_qf, ← EReal.coe_mul, ← coe_sum, fsc]
theorem scoreC_at (hq : ∀ (r : Fin 1024) (e : Fin 96), x0 (ix3 0 r e) = ((q (r0 + r) e : ℝ) : EReal))
    (hk : ∀ (c : Fin 256) (e : Fin 96), x3 (ix3 0 c e) = ((k (c0 + c) e : ℝ) : EReal)) (r : Fin 1024) (c : Fin 256) :
    k0_pay9 x3 x0 (ix2 r c) = ((fsc q k (r0 + r) (c0 + c) : ℝ) : EReal) := by
  unfold k0_pay9
  pointwise []
  simp only [hq, hk, named_qf, ← EReal.coe_mul, ← coe_sum, fsc]

/-- The larger of a real and finitely many reals is a real. -/
theorem max_real {n : ℕ} (f : Fin (n + 1) → ℝ) (M : ℝ) :
    ∃ M' : ℝ, max ((M : ℝ) : EReal) (Finset.fold max (Ideal.ofBits .f32 0xFF800000#32) (fun x => ((f x : ℝ) : EReal)) Finset.univ) = ((M' : ℝ) : EReal) := by
  obtain ⟨N, hN⟩ := fold_max_real Finset.univ ⟨0, Finset.mem_univ _⟩ f
  rw [bits_bot, hN]
  exact ⟨max M N, EReal.coe_strictMono.monotone.map_max.symm⟩

/-- The new maximum, entry by entry. -/
theorem topM_at (s0 : Vec Ideal S1024x1 .f32) (r : Fin 1024) :
    k0_pay14 x1 x0 s0 (ix2 r 0) = max (s0 (ix2 r 0) : EReal) (Finset.fold max (Ideal.ofBits .f32 0xFF800000#32) (fun c => k0_pay13 x1 x0 (ix2 r c)) Finset.univ) := by
  unfold k0_pay14
  generalize k0_pay13 x1 x0 = s
  pointwise []
theorem topC_at (s0 : Vec Ideal S1024x1 .f32) (r : Fin 1024) :
    k0_pay10 x3 x0 s0 (ix2 r 0) = max (s0 (ix2 r 0) : EReal) (Finset.fold max (Ideal.ofBits .f32 0xFF800000#32) (fun c => k0_pay9 x3 x0 (ix2 r c)) Finset.univ) := by
  unfold k0_pay10
  generalize k0_pay9 x3 x0 = s
  pointwise []

/-- The new sums. -/
theorem sumM_at (s0 : Vec Ideal S1024x1 .f32) (s1 : Vec Ideal S1024x128 .f32) (w : Vec Ideal S1024x128 .bf16) (r : Fin 1024) (e : Fin 128) :
    k0_pay15 x1 x0 s0 s1 w (ix2 r e)
      = FloatOps.exp2 (F := Ideal) (φ := .f32) (s0 (ix2 r 0) - k0_pay14 x1 x0 s0 (ix2 r 0)) * s1 (ix2 r e)
        + ∑ c, FloatOps.exp2 (F := Ideal) (φ := .f32) (k0_pay13 x1 x0 (ix2 r c) - k0_pay14 x1 x0 s0 (ix2 r 0)) * w (ix2 c e) := by
  unfold k0_pay15
  generalize k0_pay14 x1 x0 s0 = t
  generalize k0_pay13 x1 x0 = s
  pointwise []
theorem sumC_at (s0 : Vec Ideal S1024x1 .f32) (s1 : Vec Ideal S1024x128 .f32) (w : Vec Ideal S256x128 .bf16) (r : Fin 1024) (e : Fin 128) :
    k0_pay11 x3 x0 s0 s1 w (ix2 r e)
      = FloatOps.exp2 (F := Ideal) (φ := .f32) (s0 (ix2 r 0) - k0_pay10 x3 x0 s0 (ix2 r 0)) * s1 (ix2 r e)
        + ∑ c, FloatOps.exp2 (F := Ideal) (φ := .f32) (k0_pay9 x3 x0 (ix2 r c) - k0_pay10 x3 x0 s0 (ix2 r 0)) * w (ix2 c e) := by
  unfold k0_pay11
  generalize k0_pay10 x3 x0 s0 = t
  generalize k0_pay9 x3 x0 = s
  pointwise []

/-- The outputs. -/
theorem outO_at (s1 : Vec Ideal S1024x128 .f32) (r : Fin 1024) (d : Fin 64) :
    outO s1 (ix3 0 r d) = Ideal.div (s1 (ix2 r ⟨d.val, by omega⟩)) (s1 (ix2 r 64)) := by
  have h1 : VecWindow.window s1 ![0, 64] ![1024, 1] mid_inb (ix2 r 0) = s1 (ix2 r 64) := congrArg s1 (funext fun a => Fin.ext (by
    match a with
    | ⟨0, _⟩ => show 0 + 1 * r.val = r.val; omega
    | ⟨1, _⟩ => rfl))
  have h2 : VecWindow.window s1 ![0, 0] ![1024, 64] left_inb (ix2 r d) = s1 (ix2 r ⟨d.val, by omega⟩) := congrArg s1 (funext fun a => Fin.ext (by
    match a with
    | ⟨0, _⟩ => show 0 + 1 * r.val = r.val; omega
    | ⟨1, _⟩ => show 0 + 1 * d.val = d.val; omega))
  rw [← h1, ← h2]
  unfold outO k0_pay6
  generalize VecWindow.window s1 ![0, 64] ![1024, 1] mid_inb = a
  generalize VecWindow.window s1 ![0, 0] ![1024, 64] left_inb = b
  pointwise []
theorem outL_at (s0 : Vec Ideal S1024x1 .f32) (s1 : Vec Ideal S1024x128 .f32) (r : Fin 1024) :
    outL s0 s1 (ix3 0 r 0) = (s0 (ix2 r 0) : EReal) + Ideal.log (s1 (ix2 r 64)) * (((Real.log 2)⁻¹ : ℝ) : EReal) := by
  have h1 : VecWindow.window s1 ![0, 64] ![1024, 1] mid_inb (ix2 r 0) = s1 (ix2 r 64) := congrArg s1 (funext fun a => Fin.ext (by
    match a with
    | ⟨0, _⟩ => show 0 + 1 * r.val = r.val; omega
    | ⟨1, _⟩ => rfl))
  rw [← h1, ← named_inv]
  unfold outL k0_pay7
  generalize VecWindow.window s1 ![0, 64] ![1024, 1] mid_inb = a
  pointwise []

/-- A row's state: the number its weights are taken less, and its sums over the first `n` keys. -/
def Row (q k : ℕ → Fin 96 → ℝ) (v : ℕ → Fin 64 → EReal) (n R : ℕ) (s0 : Vec Ideal S1024x1 .f32) (s1 : Vec Ideal S1024x128 .f32) (r : Fin 1024) : Prop :=
  ∃ M : ℝ, s0 (ix2 r 0) = ((M : ℝ) : EReal) ∧ ∀ e : Fin 128, s1 (ix2 r e) = acc q k v M n R e

/-- After the context's keys. -/
theorem row_ctx (hq : ∀ (r : Fin 1024) (e : Fin 96), x0 (ix3 0 r e) = ((q (r0 + r) e : ℝ) : EReal))
    (hk : ∀ (c : Fin 256) (e : Fin 96), x3 (ix3 0 c e) = ((k (0 + c) e : ℝ) : EReal))
    (hv : ∀ (c : Fin 256) (e : Fin 64), x4 (ix3 0 c e) = v (0 + c) e) (r : Fin 1024) :
    Row q k v 256 (r0 + r) (topC x0 x3) (sumC x0 x3 x4) r := by
  have h0 : (k0_pay1 (F := Ideal)) (ix2 r 0) = ((-(13234890 * 2 ^ 76) : ℝ) : EReal) := by
    rw [← bits_start]
    unfold k0_pay1
    pointwise []
  obtain ⟨M, hM⟩ := max_real (fun c : Fin 256 => fsc q k (r0 + r) (0 + c)) (-(13234890 * 2 ^ 76))
  have ht : k0_pay10 x3 x0 (k0_pay1 (F := Ideal)) (ix2 r 0) = ((M : ℝ) : EReal) := by
    rw [topC_at, h0, ← hM]
    simp only [scoreC_at hq hk]
  refine ⟨M, ?_, fun e => ?_⟩
  · rw [← ht]
    unfold topC k0_pay4
    generalize k0_pay10 x3 x0 (k0_pay1 (F := Ideal)) = t
    pointwise []
  · have hz : (k0_pay2 (F := Ideal)) (ix2 r e) = 0 := by
      unfold k0_pay2
      pointwise []
    have := acc_step q k v (-(13234890 * 2 ^ 76)) M 0 256 (r0 + r) e
    unfold sumC
    rw [sumC_at, ht, h0, hz, mul_zero, zero_add]
    simp only [scoreC_at hq hk, besideC_at hv, ← EReal.coe_sub, exp2_real]
    rw [← show acc q k v M (0 + 256) (r0 + r) e = acc q k v M 256 (r0 + r) e from rfl, ← this, show acc q k v (-(13234890 * 2 ^ 76)) 0 (r0 + r) e = 0 from Finset.sum_range_zero _,
      mul_zero, zero_add]

/-- After a tile of keys. -/
theorem row_main (hq : ∀ (r : Fin 1024) (e : Fin 96), x0 (ix3 0 r e) = ((q (r0 + r) e : ℝ) : EReal))
    (hk : ∀ (c : Fin 1024) (e : Fin 96), x1 (ix3 0 c e) = ((k (c0 + c) e : ℝ) : EReal))
    (hv : ∀ (c : Fin 1024) (e : Fin 64), x2 (ix3 0 c e) = v (c0 + c) e) {s0 : Vec Ideal S1024x1 .f32} {s1 : Vec Ideal S1024x128 .f32} {r : Fin 1024}
    (h : Row q k v c0 (r0 + r) s0 s1 r) : Row q k v (c0 + 1024) (r0 + r) (topM x0 x1 s0) (sumM x0 x1 s0 s1 (besideM (k0_pay12 x2))) r := by
  obtain ⟨N, h0, h1⟩ := h
  obtain ⟨M, hM⟩ := max_real (fun c : Fin 1024 => fsc q k (r0 + r) (c0 + c)) N
  have ht : k0_pay14 x1 x0 s0 (ix2 r 0) = ((M : ℝ) : EReal) := by
    rw [topM_at, h0, ← hM]
    simp only [scoreM_at hq hk]
  refine ⟨M, ?_, fun e => ?_⟩
  · rw [← ht]
    unfold topM k0_pay5
    generalize k0_pay14 x1 x0 s0 = t
    pointwise []
  · unfold sumM
    rw [sumM_at, ht, h0, h1]
    simp only [scoreM_at hq hk, besideM_at hv, ← EReal.coe_sub, exp2_real]
    rw [acc_step]

/-! # The blocks a point reads, as parts of their arrays -/

theorem idx0 : ∀ t : Fin grid0.N, win0_0.index t = ![t.val / 72, t.val / 9 % 8, 0] := by decide +kernel
theorem idx1 : ∀ t : Fin grid0.N, win0_1.index t = ![t.val / 72, t.val % 9 - 1, 0] := by decide +kernel
theorem idx2 : ∀ t : Fin grid0.N, win0_2.index t = ![t.val / 72, t.val % 9 - 1, 0] := by decide +kernel
theorem idx3 : ∀ t : Fin grid0.N, win0_3.index t = ![t.val / 72, 0, 0] := by decide +kernel
theorem idx4 : ∀ t : Fin grid0.N, win0_4.index t = ![t.val / 72, 0, 0] := by decide +kernel

variable {m : (ℓ : Loc nD τ sig) → Buf (Elt Ideal) ℓ} {c : Dev nD} {h : Fin 8}

/-- The program's arguments hold, for head `h`, the reals `q k` and the extended reals `v`. -/
structure Args (m : (ℓ : Loc nD τ sig) → Buf (Elt Ideal) ℓ) (c : Dev nD) (h : Fin 8) (q k : ℕ → Fin 96 → ℝ) (v : ℕ → Fin 64 → EReal) : Prop where
  hq : ∀ (r : Fin 8192) (e : Fin 96), V m c main_arg0 (ix3 h r e) = ((q r e : ℝ) : EReal)
  hk : ∀ (r : Fin 8192) (e : Fin 96), V m c main_arg1 (ix3 h r e) = ((k (256 + r) e : ℝ) : EReal)
  hv : ∀ (r : Fin 8192) (e : Fin 64), V m c main_arg2 (ix3 h r e) = v (256 + r) e
  hkc : ∀ (r : Fin 256) (e : Fin 96), V m c main_arg3 (ix3 h r e) = ((k r e : ℝ) : EReal)
  hvc : ∀ (r : Fin 256) (e : Fin 64), V m c main_arg4 (ix3 h r e) = v r e

variable (A : Args m c h q k v) (t : Fin cfg0.N) (ht : t.val / 72 = h.val)
include A ht

theorem q_at (r : Fin 1024) (e : Fin 96) : X0 m c t (ix3 0 r e) = ((q (1024 * (t.val / 9 % 8) + r) e : ℝ) : EReal) := by
  rw [← A.hq ⟨1024 * (t.val / 9 % 8) + r, by omega⟩ e]
  unfold X0
  blk_ext [iblk, idx0 t]
theorem k_at (hj : ¬ t.val % 9 = 0) (r : Fin 1024) (e : Fin 96) : X1 m c t (ix3 0 r e) = ((k (256 + 1024 * (t.val % 9 - 1) + r) e : ℝ) : EReal) := by
  rw [Nat.add_assoc, ← A.hk ⟨1024 * (t.val % 9 - 1) + r, by omega⟩ e]
  unfold X1
  blk_ext [iblk, idx1 t]
theorem v_at (hj : ¬ t.val % 9 = 0) (r : Fin 1024) (e : Fin 64) : X2 m c t (ix3 0 r e) = v (256 + 1024 * (t.val % 9 - 1) + r) e := by
  rw [Nat.add_assoc, ← A.hv ⟨1024 * (t.val % 9 - 1) + r, by omega⟩ e]
  unfold X2
  blk_ext [iblk, idx2 t]
theorem kc_at (r : Fin 256) (e : Fin 96) : X3 m c t (ix3 0 r e) = ((k (0 + r) e : ℝ) : EReal) := by
  rw [Nat.zero_add, ← A.hkc r e]
  unfold X3
  blk_ext [iblk, idx3 t]
theorem vc_at (r : Fin 256) (e : Fin 64) : X4 m c t (ix3 0 r e) = v (0 + r) e := by
  rw [Nat.zero_add, ← A.hvc r e]
  unfold X4
  blk_ext [iblk, idx4 t]

omit ht t

/-- After each point, each row of its tile. -/
theorem st_row (n : ℕ) (hn : n / 72 = h.val) (r : Fin 1024) :
    Row q k v (256 + 1024 * (n % 9)) (1024 * (n / 9 % 8) + r) (st m c n).1 (st m c n).2 r := by
  induction n using Nat.strong_induction_on with
  | _ n ih =>
    have hv : (pt n).val = n := Nat.mod_eq_of_lt (by omega)
    have hN : (pt n).val / 72 = h.val := by rw [hv]; exact hn
    by_cases hj : n % 9 = 0
    · have e := st_ctx m c (pt n) (by rw [hv]; exact hj)
      have R := row_ctx (q_at A (pt n) hN) (kc_at A (pt n) hN) (vc_at A (pt n) hN) r
      rw [hv] at e R
      rw [e, hj]
      exact R
    · have hj' : ¬ (pt n).val % 9 = 0 := by rw [hv]; exact hj
      have e := st_tile m c (pt n) hj'
      have p := ih (n - 1) (by omega) (by omega)
      rw [show 256 + 1024 * ((n - 1) % 9) = 256 + 1024 * ((pt n).val % 9 - 1) by rw [hv]; omega,
        show (n - 1) / 9 % 8 = (pt n).val / 9 % 8 by rw [hv]; omega] at p
      have R := row_main (q_at A (pt n) hN) (k_at A (pt n) hN hj') (v_at A (pt n) hN hj') p
      rw [hv] at e R
      rw [e]
      rw [show 256 + 1024 * (n % 9 - 1) + 1024 = 256 + 1024 * (n % 9) by omega] at R
      exact R

/-- The two results, the softmax's weights taken less any number `T`. -/
theorem GO_real (T : ℕ → ℝ) (r : Fin 8192) (d : Fin 64) : GO m c (ix3 h r d) = wout q k v T r d := by
  have e : GO m c (ix3 h r d) = outO (st m c (lastOf h.val r.val)).2 (ix3 0 ⟨r.val % 1024, Nat.mod_lt _ (by decide)⟩ d) := rfl
  have h1 : lastOf h.val r.val / 72 = h.val := by unfold lastOf; omega
  have h2 : lastOf h.val r.val % 9 = 8 := by unfold lastOf; omega
  have h3 : lastOf h.val r.val / 9 % 8 = r.val / 1024 := by unfold lastOf; omega
  obtain ⟨M, -, hS⟩ := st_row A _ h1 ⟨r.val % 1024, Nat.mod_lt _ (by decide)⟩
  rw [h2, h3, show 1024 * (r.val / 1024) + r.val % 1024 = r.val by omega] at hS
  rw [e, outO_at, hS, hS, acc_out q k v T M r _ 64 d rfl (by decide)]
theorem GE_real (T : ℕ → ℝ) (r : Fin 8192) : GE m c (ix3 h r 0) = ((lse q k T r : ℝ) : EReal) := by
  have e : GE m c (ix3 h r 0) = outL (st m c (lastOf h.val r.val)).1 (st m c (lastOf h.val r.val)).2 (ix3 0 ⟨r.val % 1024, Nat.mod_lt _ (by decide)⟩ 0) := rfl
  have h1 : lastOf h.val r.val / 72 = h.val := by unfold lastOf; omega
  have h2 : lastOf h.val r.val % 9 = 8 := by unfold lastOf; omega
  have h3 : lastOf h.val r.val / 9 % 8 = r.val / 1024 := by unfold lastOf; omega
  obtain ⟨M, hM, hS⟩ := st_row A _ h1 ⟨r.val % 1024, Nat.mod_lt _ (by decide)⟩
  rw [h2, h3, show 1024 * (r.val / 1024) + r.val % 1024 = r.val by omega] at hS
  rw [e, outL_at, hM, hS, acc_ones q k v T M r 64 (by decide), log_real (ones_pos q k T M r), ← EReal.coe_mul, ← EReal.coe_add, acc_lse]

end Cert.Kernel11Ideal.Fwd

end
-- ==== Proof.Ref.Terms.lean ====
module

public import proofs.«01_k».proof.Proof.Gen.ReferenceIdeal.Run

@[expose] public section

noncomputable section

namespace Cert.ReferenceIdeal.Attn

open Cert.ReferenceIdeal Cert.ReferenceIdeal.Gen Idealize.ShloMosaic Idealize.ShloMosaic.TcCoe Idealize.SL.Sem Idealize.ShloMosaic.StableHlo

variable {F : FTy → Type} [FloatOps F]

/-! # The reference's results, step by step -/

/-- The context's keys followed by the sequence's, and the values likewise. -/
def keysT (kc : Vec F S8x256x96 .f32) (k : Vec F S8x8192x96 .f32) : Vec F S8x8448x96 .f32 :=
  concatenate S8x8448x96 1 [⟨S8x256x96, kc⟩, ⟨S8x8192x96, k⟩] concatenates_S8x256x96_S8x8192x96_S8x8448x96_d1
def valsT (vc : Vec F S8x256x64 .f32) (v : Vec F S8x8192x64 .f32) : Vec F S8x8448x64 .f32 :=
  concatenate S8x8448x64 1 [⟨S8x256x64, vc⟩, ⟨S8x8192x64, v⟩] concatenates_S8x256x64_S8x8192x64_S8x8448x64_d1

/-- The scores. -/
def scoreT (q : Vec F S8x8192x96 .f32) (kk : Vec F S8x8448x96 .f32) : Vec F S8x8192x8448 .f32 :=
  mulf (Host.dotGeneral dot_S8x8192x96_S8x8448x96_S8x8192x8448_2_2_1_1_0_0 none q kk) (broadcastInDim S8x8192x8448 ![] bcast_S_S8x8192x8448 (constant S_ .f32 0x3DD105EC#32))

/-- Each row's largest score. -/
def maxT (s : Vec F S8x8192x8448 .f32) : Vec F S8x8192 .f32 :=
  Host.reduce FloatOps.maximumf s (constant S_ .f32 0xFF800000#32) reducesTo_S8x8192x8448_S8x8192_d2 h_S_

/-- The same after the comparison with minus infinity. -/
def topT (s : Vec F S8x8192x8448 .f32) : Vec F S8x8192 .f32 :=
  maximumf (broadcastInDim S8x8192 ![] bcast_S_S8x8192 (constant S_ .f32 0xFF800000#32)) (maxT s)

/-- The exponentials of the scores less the row's largest. -/
def expT (s : Vec F S8x8192x8448 .f32) : Vec F S8x8192x8448 .f32 :=
  Host.exp (subf s (broadcastInDim S8x8192x8448 ![0, 1, 2] bcast_S8x8192x1_S8x8192x8448_0_1_2 (broadcastInDim S8x8192x1 ![0, 1] bcast_S8x8192_S8x8192x1_0_1 (topT s))))

/-- Each row's sum of exponentials. -/
def rowT (e : Vec F S8x8192x8448 .f32) : Vec F S8x8192x1 .f32 :=
  broadcastInDim S8x8192x1 ![0, 1] bcast_S8x8192_S8x8192x1_0_1 (Host.reduceAdd e (constant S_ .f32 0x00000000#32) reducesTo_S8x8192x8448_S8x8192_d2 h_S_)

/-- The weights. -/
def probT (e : Vec F S8x8192x8448 .f32) : Vec F S8x8192x8448 .f32 :=
  Host.divf e (broadcastInDim S8x8192x8448 ![0, 1, 2] bcast_S8x8192x1_S8x8192x8448_0_1_2 (rowT e))

/-- The weights' gradient. -/
def dpT (g : Vec F S8x8192x64 .f32) (vv : Vec F S8x8448x64 .f32) : Vec F S8x8192x8448 .f32 :=
  Host.dotGeneral dot_S8x8192x64_S8x8448x64_S8x8192x8448_2_2_1_1_0_0 none g vv

/-- The gradient of each row's sum of exponentials. -/
def rowGradT (dp e : Vec F S8x8192x8448 .f32) : Vec F S8x8192 .f32 :=
  Host.reduceAdd (Host.negf (shapeCast S8x8192x1 (Host.reduceAdd (mulf (mulf dp (broadcastInDim S8x8192x8448 ![0, 1, 2] bcast_S8x8192x1_S8x8192x8448_0_1_2 (Host.divf (broadcastInDim S8x8192x1 ![] bcast_S_S8x8192x1 (constant S_ .f32 0x3F800000#32)) (mulf (rowT e) (rowT e))))) e) (constant S_ .f32 0x00000000#32) reducesTo_S8x8192x8448_S8x8192_d2 h_S_) shapeCasts_S8x8192_S8x8192x1)) (constant S_ .f32 0x00000000#32) reducesTo_S8x8192x1_S8x8192_d2 h_S_

/-- The scores' gradient, times the scale. -/
def dsT (dp e : Vec F S8x8192x8448 .f32) : Vec F S8x8192x8448 .f32 :=
  mulf (mulf (addf (Host.divf dp (broadcastInDim S8x8192x8448 ![0, 1, 2] bcast_S8x8192x1_S8x8192x8448_0_1_2 (rowT e))) (broadcastInDim S8x8192x8448 ![0, 1] bcast_S8x8192_S8x8192x8448_0_1 (rowGradT dp e))) e) (broadcastInDim S8x8192x8448 ![] bcast_S_S8x8192x8448 (constant S_ .f32 0x3DD105EC#32))

/-- The queries' gradient, the keys' and the values'. -/
def dqT (ds : Vec F S8x8192x8448 .f32) (kk : Vec F S8x8448x96 .f32) : Vec F S8x8192x96 .f32 :=
  Host.dotGeneral dot_S8x8192x8448_S8x8448x96_S8x8192x96_2_1_1_2_0_0 none ds kk
def dkT (ds : Vec F S8x8192x8448 .f32) (q : Vec F S8x8192x96 .f32) : Vec F S8x8448x96 .f32 :=
  Host.dotGeneral dot_S8x8192x8448_S8x8192x96_S8x8448x96_1_1_2_2_0_0 none ds q
def dvT (g : Vec F S8x8192x64 .f32) (p : Vec F S8x8192x8448 .f32) : Vec F S8x8448x64 .f32 :=
  transpose S8x8448x64 [0, 2, 1] (Host.dotGeneral dot_S8x8192x64_S8x8192x8448_S8x64x8448_1_1_2_2_0_0 none g p) transposes_S8x64x8448_S8x8448x64_0_2_1

section Whole

variable (m : (ℓ : Loc nD τ sig) → Buf (Elt F) ℓ) (c : Dev nD)

/-- The joined keys and values, the exponentials and the scores' gradient, of the program's arguments. -/
abbrev KK : Vec F S8x8448x96 .f32 := keysT (m ((c.tc : Thread nD τ).loc main_arg3)) (m ((c.tc : Thread nD τ).loc main_arg1))
abbrev VV : Vec F S8x8448x64 .f32 := valsT (m ((c.tc : Thread nD τ).loc main_arg4)) (m ((c.tc : Thread nD τ).loc main_arg2))
abbrev EE : Vec F S8x8192x8448 .f32 := expT (scoreT (m ((c.tc : Thread nD τ).loc main_arg0)) (KK m c))
abbrev DS : Vec F S8x8192x8448 .f32 := dsT (dpT (m ((c.tc : Thread nD τ).loc main_arg5)) (VV m c)) (EE m c)

/-- What the program returns, in these terms. -/
theorem run_terms (ρ : Dev nD → PrngReg) :
    θ_run defs (onTc (τ := τ) (main (F := F))) ⟨m, fun _ => 0, ρ⟩ fun r => ∀ c : Dev nD,
      r.2.mem ((c.tc : Thread nD τ).loc main_v52) = dqT (DS m c) (KK m c)
      ∧ r.2.mem ((c.tc : Thread nD τ).loc main_v56) = extractStridedSlice S8x8192x96 ![0, 256, 0] (dkT (DS m c) (m ((c.tc : Thread nD τ).loc main_arg0))) slices_S8x8448x96_S8x8192x96_0_256_0
      ∧ r.2.mem ((c.tc : Thread nD τ).loc main_v54) = extractStridedSlice S8x8192x64 ![0, 256, 0] (dvT (m ((c.tc : Thread nD τ).loc main_arg5)) (probT (EE m c))) slices_S8x8448x64_S8x8192x64_0_256_0
      ∧ r.2.mem ((c.tc : Thread nD τ).loc main_v55) = extractStridedSlice S8x256x96 ![0, 0, 0] (dkT (DS m c) (m ((c.tc : Thread nD τ).loc main_arg0))) slices_S8x8448x96_S8x256x96_0_0_0
      ∧ r.2.mem ((c.tc : Thread nD τ).loc main_v53) = extractStridedSlice S8x256x64 ![0, 0, 0] (dvT (m ((c.tc : Thread nD τ).loc main_arg5)) (probT (EE m c))) slices_S8x8448x64_S8x256x64_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Whole

end Cert.ReferenceIdeal.Attn

end
-- ==== Proof.Ref.At.lean ====
module

public import proofs.«01_k».proof.Proof.Ref.Terms
public import proofs.«01_k».proof.Proof.Math.Model

@[expose] public section

noncomputable section

namespace Cert.ReferenceIdeal.Attn

open Cert.ReferenceIdeal Cert.ReferenceIdeal.Gen Idealize.ShloMosaic Idealize.ShloMosaic.TcCoe Idealize.ShloMosaic.StableHlo

/-! # The reference's steps, entry by entry -/

/-- The joined keys: the context's first. -/
theorem keys_at (kc : Vec Ideal S8x256x96 .f32) (k : Vec Ideal S8x8192x96 .f32) (h : Fin 8) (c : Fin 8448) (d : Fin 96) :
    keysT kc k (ix3 h c d) = if hc : c.val < 256 then kc (ix3 h ⟨c.val, hc⟩ d) else k (ix3 h ⟨c.val - 256, by omega⟩ d) := by
  unfold keysT
  pointwise []
theorem vals_at (vc : Vec Ideal S8x256x64 .f32) (v : Vec Ideal S8x8192x64 .f32) (h : Fin 8) (c : Fin 8448) (d : Fin 64) :
    valsT vc v (ix3 h c d) = if hc : c.val < 256 then vc (ix3 h ⟨c.val, hc⟩ d) else v (ix3 h ⟨c.val - 256, by omega⟩ d) := by
  unfold valsT
  pointwise []

/-- A score. -/
theorem score_at (q : Vec Ideal S8x8192x96 .f32) (kk : Vec Ideal S8x8448x96 .f32) (h : Fin 8) (r : Fin 8192) (c : Fin 8448) :
    scoreT q kk (ix3 h r c) = (∑ x, q (ix3 h r x) * kk (ix3 h c x)) * Ideal.ofBits .f32 0x3DD105EC#32 := by
  unfold scoreT
  pointwise []

/-- A row's largest score. -/
theorem max_at (s : Vec Ideal S8x8192x8448 .f32) (h : Fin 8) (r : Fin 8192) :
    maxT s (ix2 h r) = Finset.fold max (Ideal.ofBits .f32 0xFF800000#32) (fun x => s (ix3 h r x)) Finset.univ := by
  unfold maxT
  pointwise []

/-- The larger of two entries, and a constant's entry. -/
theorem max_entry (x y : Vec Ideal S8x8192 .f32) (i : S8x8192.Idx) : maximumf (F := Ideal) (φ := .f32) x y i = max (x i : EReal) (y i) := rfl
theorem const_entry (b : BitVec 32) (i : S8x8192.Idx) :
    (broadcastInDim S8x8192 ![] bcast_S_S8x8192 (constant (F := Ideal) S_ .f32 b)) i = Ideal.ofBits .f32 b := rfl

/-- A row's largest score after the comparison with minus infinity. -/
theorem top_at (s : Vec Ideal S8x8192x8448 .f32) (h : Fin 8) (r : Fin 8192) :
    topT s (ix2 h r) = max (Ideal.ofBits .f32 0xFF800000#32) (maxT s (ix2 h r)) := by
  unfold topT
  generalize maxT s = t
  rw [max_entry, const_entry]

/-- An exponential. -/
theorem exp_at (s : Vec Ideal S8x8192x8448 .f32) (h : Fin 8) (r : Fin 8192) (c : Fin 8448) :
    expT s (ix3 h r c) = Ideal.exp (s (ix3 h r c) - topT s (ix2 h r)) := by
  unfold expT
  generalize topT s = t
  pointwise []

/-- A row's sum of exponentials. -/
theorem row_at (e : Vec Ideal S8x8192x8448 .f32) (h : Fin 8) (r : Fin 8192) :
    rowT e (ix3 h r 0) = ∑ x, e (ix3 h r x) := by
  unfold rowT
  pointwise []

/-- A weight. -/
theorem prob_at (e : Vec Ideal S8x8192x8448 .f32) (h : Fin 8) (r : Fin 8192) (c : Fin 8448) :
    probT e (ix3 h r c) = Ideal.div (e (ix3 h r c)) (rowT e (ix3 h r 0)) := by
  unfold probT
  pointwise []

/-- A weight's gradient. -/
theorem dp_at (g : Vec Ideal S8x8192x64 .f32) (vv : Vec Ideal S8x8448x64 .f32) (h : Fin 8) (r : Fin 8192) (c : Fin 8448) :
    dpT g vv (ix3 h r c) = ∑ x, g (ix3 h r x) * vv (ix3 h c x) := by
  unfold dpT
  pointwise []

/-- The gradient of a row's sum of exponentials. -/
theorem rowGrad_at (dp e : Vec Ideal S8x8192x8448 .f32) (h : Fin 8) (r : Fin 8192) :
    rowGradT dp e (ix2 h r)
      = ∑ _ : Fin 1, -∑ x, dp (ix3 h r x) * Ideal.div 1 (rowT e (ix3 h r 0) * rowT e (ix3 h r 0)) * e (ix3 h r x) := by
  unfold rowGradT
  pointwise []

/-- A score's gradient. -/
theorem ds_at (dp e : Vec Ideal S8x8192x8448 .f32) (h : Fin 8) (r : Fin 8192) (c : Fin 8448) :
    dsT dp e (ix3 h r c)
      = (Ideal.div (dp (ix3 h r c)) (rowT e (ix3 h r 0)) + rowGradT dp e (ix2 h r)) * e (ix3 h r c) * Ideal.ofBits .f32 0x3DD105EC#32 := by
  unfold dsT
  pointwise []

/-- The queries' gradient. -/
theorem dq_at (ds : Vec Ideal S8x8192x8448 .f32) (kk : Vec Ideal S8x8448x96 .f32) (h : Fin 8) (r : Fin 8192) (d : Fin 96) :
    dqT ds kk (ix3 h r d) = ∑ x, ds (ix3 h r x) * kk (ix3 h x d) := by
  unfold dqT
  pointwise []

/-- The keys' gradient. -/
theorem dk_at (ds : Vec Ideal S8x8192x8448 .f32) (q : Vec Ideal S8x8192x96 .f32) (h : Fin 8) (c : Fin 8448) (d : Fin 96) :
    dkT ds q (ix3 h c d) = ∑ x, ds (ix3 h x c) * q (ix3 h x d) := by
  unfold dkT
  pointwise []

/-- The values' gradient. -/
theorem dv_at (g : Vec Ideal S8x8192x64 .f32) (p : Vec Ideal S8x8192x8448 .f32) (h : Fin 8) (c : Fin 8448) (d : Fin 64) :
    dvT g p (ix3 h c d) = ∑ x, g (ix3 h x d) * p (ix3 h x c) := by
  unfold dvT
  pointwise []

/-- The parts of the joined gradients: the context's rows first. -/
theorem seq96_at (x : Vec Ideal S8x8448x96 .f32) (h : Fin 8) (r : Fin 8192) (d : Fin 96) :
    extractStridedSlice S8x8192x96 ![0, 256, 0] x slices_S8x8448x96_S8x8192x96_0_256_0 (ix3 h r d) = x (ix3 h ⟨256 + r.val, by omega⟩ d) := by
  pointwise []
theorem seq64_at (x : Vec Ideal S8x8448x64 .f32) (h : Fin 8) (r : Fin 8192) (d : Fin 64) :
    extractStridedSlice S8x8192x64 ![0, 256, 0] x slices_S8x8448x64_S8x8192x64_0_256_0 (ix3 h r d) = x (ix3 h ⟨256 + r.val, by omega⟩ d) := by
  pointwise []
theorem ctx96_at (x : Vec Ideal S8x8448x96 .f32) (h : Fin 8) (r : Fin 256) (d : Fin 96) :
    extractStridedSlice S8x256x96 ![0, 0, 0] x slices_S8x8448x96_S8x256x96_0_0_0 (ix3 h r d) = x (ix3 h ⟨r.val, by omega⟩ d) := by
  pointwise []
theorem ctx64_at (x : Vec Ideal S8x8448x64 .f32) (h : Fin 8) (r : Fin 256) (d : Fin 64) :
    extractStridedSlice S8x256x64 ![0, 0, 0] x slices_S8x8448x64_S8x256x64_0_0_0 (ix3 h r d) = x (ix3 h ⟨r.val, by omega⟩ d) := by
  pointwise []

end Cert.ReferenceIdeal.Attn

end
-- ==== Proof.Ref.Real.lean ====
module

public import proofs.«01_k».proof.Proof.Ref.At
public import proofs.«01_k».proof.Proof.Math.Const

@[expose] public section

noncomputable section

namespace Cert.ReferenceIdeal.Attn

open Cert.ReferenceIdeal Cert.ReferenceIdeal.Gen Idealize.ShloMosaic Idealize.ShloMosaic.TcCoe Idealize.ShloMosaic.StableHlo
open Cert.Attn

/-! # The reference's results for one head, as real numbers -/

variable {Q K : Vec Ideal S8x8192x96 .f32} {V G : Vec Ideal S8x8192x64 .f32} {Kc : Vec Ideal S8x256x96 .f32} {Vc : Vec Ideal S8x256x64 .f32}
variable {h : Fin 8} {q k : ℕ → Fin 96 → ℝ} {v g : ℕ → Fin 64 → ℝ}

/-- The arguments hold, for head `h`, the reals `q k v g`. -/
structure Args (Q K : Vec Ideal S8x8192x96 .f32) (V G : Vec Ideal S8x8192x64 .f32) (Kc : Vec Ideal S8x256x96 .f32) (Vc : Vec Ideal S8x256x64 .f32)
    (h : Fin 8) (q k : ℕ → Fin 96 → ℝ) (v g : ℕ → Fin 64 → ℝ) : Prop where
  hq : ∀ (r : Fin 8192) (e : Fin 96), Q (ix3 h r e) = ((q r e : ℝ) : EReal)
  hk : ∀ (r : Fin 8192) (e : Fin 96), K (ix3 h r e) = ((k (256 + r) e : ℝ) : EReal)
  hv : ∀ (r : Fin 8192) (e : Fin 64), V (ix3 h r e) = ((v (256 + r) e : ℝ) : EReal)
  hkc : ∀ (r : Fin 256) (e : Fin 96), Kc (ix3 h r e) = ((k r e : ℝ) : EReal)
  hvc : ∀ (r : Fin 256) (e : Fin 64), Vc (ix3 h r e) = ((v r e : ℝ) : EReal)
  hg : ∀ (r : Fin 8192) (e : Fin 64), G (ix3 h r e) = ((g r e : ℝ) : EReal)

variable (A : Args Q K V G Kc Vc h q k v g)
include A

/-- The joined keys and values. -/
theorem keys_real (c : Fin 8448) (d : Fin 96) : keysT Kc K (ix3 h c d) = ((k c d : ℝ) : EReal) := by
  rw [keys_at]
  split
  · exact A.hkc _ d
  · rw [A.hk]
    simp only []
    rw [show 256 + (c.val - 256) = c.val by omega]
theorem vals_real (c : Fin 8448) (d : Fin 64) : valsT Vc V (ix3 h c d) = ((v c d : ℝ) : EReal) := by
  rw [vals_at]
  split
  · exact A.hvc _ d
  · rw [A.hv]
    simp only []
    rw [show 256 + (c.val - 256) = c.val by omega]

/-- A score, the row's largest, an exponential, the row's sum, a weight. -/
theorem score_real (r : Fin 8192) (c : Fin 8448) : scoreT Q (keysT Kc K) (ix3 h r c) = ((scr q k r c : ℝ) : EReal) := by
  rw [score_at]
  simp only [A.hq, keys_real A, ← EReal.coe_mul, ← coe_sum, bits_scale]
  rfl
theorem top_real (r : Fin 8192) : topT (scoreT Q (keysT Kc K)) (ix2 h r) = ((top q k r : ℝ) : EReal) := by
  rw [top_at, max_at]
  simp only [score_real A, bits_bot]
  rw [top_spec]
  exact max_eq_right bot_le
theorem exp_real (r : Fin 8192) (c : Fin 8448) : expT (scoreT Q (keysT Kc K)) (ix3 h r c) = ((ex q k (top q k) r c : ℝ) : EReal) := by
  rw [exp_at, top_real A, score_real A, ← EReal.coe_sub, Ideal.exp_coe]
  rfl
theorem row_real (r : Fin 8192) : rowT (expT (scoreT Q (keysT Kc K))) (ix3 h r 0) = ((row q k (top q k) r : ℝ) : EReal) := by
  rw [row_at]
  simp only [exp_real A, ← coe_sum]
  rfl
theorem prob_real (r : Fin 8192) (c : Fin 8448) :
    probT (expT (scoreT Q (keysT Kc K))) (ix3 h r c) = ((ex q k (top q k) r c / row q k (top q k) r : ℝ) : EReal) := by
  rw [prob_at, exp_real A, row_real A, div_real _ (row_pos q k (top q k) r).ne']

/-- The gradients of a weight, of the row's sum and of a score. -/
theorem dp_real (r : Fin 8192) (c : Fin 8448) : dpT G (valsT Vc V) (ix3 h r c) = ((dpr v g r c : ℝ) : EReal) := by
  rw [dp_at]
  simp only [A.hg, vals_real A, ← EReal.coe_mul, ← coe_sum]
  rfl
theorem rowGrad_real (r : Fin 8192) :
    rowGradT (dpT G (valsT Vc V)) (expT (scoreT Q (keysT Kc K))) (ix2 h r) = ((rowG q k v g (top q k) r : ℝ) : EReal) := by
  have hL := (row_pos q k (top q k) r).ne'
  rw [rowGrad_at, Fin.sum_univ_one]
  simp only [dp_real A, exp_real A, row_real A, ← EReal.coe_mul, ← EReal.coe_one, div_real _ (mul_ne_zero hL hL), ← coe_sum, ← EReal.coe_neg]
  rfl
theorem ds_real (r : Fin 8192) (c : Fin 8448) :
    dsT (dpT G (valsT Vc V)) (expT (scoreT Q (keysT Kc K))) (ix3 h r c) = ((dsc q k v g (top q k) r c : ℝ) : EReal) := by
  have hL := (row_pos q k (top q k) r).ne'
  rw [ds_at, dp_real A, row_real A, rowGrad_real A, exp_real A, div_real _ hL, bits_scale, ← EReal.coe_add, ← EReal.coe_mul, ← EReal.coe_mul]
  rfl

/-- The gradients of the queries, the keys and the values. -/
theorem dq_real (r : Fin 8192) (d : Fin 96) :
    dqT (dsT (dpT G (valsT Vc V)) (expT (scoreT Q (keysT Kc K)))) (keysT Kc K) (ix3 h r d)
      = ((∑ x : Fin 8448, dsc q k v g (top q k) r x * k x d : ℝ) : EReal) := by
  rw [dq_at]
  simp only [ds_real A, keys_real A, ← EReal.coe_mul, ← coe_sum]
theorem dk_real (c : Fin 8448) (d : Fin 96) :
    dkT (dsT (dpT G (valsT Vc V)) (expT (scoreT Q (keysT Kc K)))) Q (ix3 h c d)
      = ((∑ x : Fin 8192, dsc q k v g (top q k) x c * q x d : ℝ) : EReal) := by
  rw [dk_at]
  simp only [ds_real A, A.hq, ← EReal.coe_mul, ← coe_sum]
theorem dv_real (c : Fin 8448) (d : Fin 64) :
    dvT G (probT (expT (scoreT Q (keysT Kc K)))) (ix3 h c d)
      = ((∑ x : Fin 8192, g x d * (ex q k (top q k) x c / row q k (top q k) x) : ℝ) : EReal) := by
  rw [dv_at]
  simp only [prob_real A, A.hg, ← EReal.coe_mul, ← coe_sum]

end Cert.ReferenceIdeal.Attn

end
-- ==== Proof.Bwd.Steps.lean ====
module

public import proofs.«01_k».proof.Proof.Gen.KernelIdeal.Frame
public import proofs.«01_k».proof.Proof.Gen.KernelIdeal.Skeleton
public import Idealize.ShloMosaic.Lib.VecWindow
public import Idealize.ShloMosaic.Lib.Pipeline.ReadBack
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! # What one grid point of the attention's backward call computes

A point of the grid handles one tile of the queries against one tile of the keys. It adds to three running sums: the
gradient of the tile's queries (rows of the output block), of the keys (a scratch buffer) and of the values (another
scratch buffer). The functions below give each sum after the point from what it was before, once for a tile of the
keys proper (`…M`) and once for the context's keys (`…C`). -/

/-- The query gradient's rows of this tile, after a tile of keys: `d` are the rows before. -/
def dqM (x0 x1 : Vec F S1x1024x96 .f32) (x2 x5 : Vec F S1x1024x64 .f32) (x6 : Vec F S1x1024x1 .f32) (x7 : Vec F S1x1024x64 .f32)
    (d : Vec F S1x1024x96 .f32) : Vec F S1x1024x96 .f32 :=
  k0_pay9 (k0_pay21 x1) (k0_pay24 x1 x0 x6) (k0_pay26 x7) (k0_pay27 x2 x7) x5 d

/-- The key gradient's running sum after a tile of keys. -/
def dkM (x0 x1 : Vec F S1x1024x96 .f32) (x2 x5 : Vec F S1x1024x64 .f32) (x6 : Vec F S1x1024x1 .f32) (x7 : Vec F S1x1024x64 .f32)
    (s : Vec F S1024x96 .f32) : Vec F S1024x96 .f32 :=
  k0_pay8 (k0_pay22 x0) (k0_pay24 x1 x0 x6) (k0_pay26 x7) (k0_pay27 x2 x7) x5 s

/-- The value gradient's running sum after a tile of keys. -/
def dvM (x0 x1 : Vec F S1x1024x96 .f32) (x6 : Vec F S1x1024x1 .f32) (x7 : Vec F S1x1024x64 .f32)
    (s : Vec F S1024x64 .f32) : Vec F S1024x64 .f32 :=
  k0_pay25 x1 x0 x7 x6 s

/-- The query gradient's rows of this tile, after the context's keys. -/
def dqC (x0 : Vec F S1x1024x96 .f32) (x3 : Vec F S1x256x96 .f32) (x4 : Vec F S1x256x64 .f32) (x5 : Vec F S1x1024x64 .f32)
    (x6 : Vec F S1x1024x1 .f32) (x7 : Vec F S1x1024x64 .f32) (d : Vec F S1x1024x96 .f32) : Vec F S1x1024x96 .f32 :=
  k0_pay6 (k0_pay14 x3) (k0_pay17 x3 x0 x6) (k0_pay19 x7) (k0_pay20 x4 x7) x5 d

/-- The context keys' gradient after this tile of queries. -/
def dkC (x0 : Vec F S1x1024x96 .f32) (x3 : Vec F S1x256x96 .f32) (x4 : Vec F S1x256x64 .f32) (x5 : Vec F S1x1024x64 .f32)
    (x6 : Vec F S1x1024x1 .f32) (x7 : Vec F S1x1024x64 .f32) (s : Vec F S256x96 .f32) : Vec F S256x96 .f32 :=
  k0_pay5 (k0_pay15 x0) (k0_pay17 x3 x0 x6) (k0_pay19 x7) (k0_pay20 x4 x7) x5 s

/-- The context values' gradient after this tile of queries. -/
def dvC (x0 : Vec F S1x1024x96 .f32) (x3 : Vec F S1x256x96 .f32) (x6 : Vec F S1x1024x1 .f32) (x7 : Vec F S1x1024x64 .f32)
    (s : Vec F S256x64 .f32) : Vec F S256x64 .f32 :=
  k0_pay18 x3 x0 x7 x6 s

/-- The offsets of a tile's rows within the query gradient's block. -/
def offQ (i : grid0.Coords) : Fin 3 → ℕ := ![0, 1024 * (i 2).val, 0]

/-- The tile's rows lie within the block. -/
theorem offQ_inb (i : grid0.Coords) : ∀ a, offQ i a + (![1, 1024, 96] : Fin 3 → ℕ) a ≤ S1x8192x96.size a := by
  have h : (i 2).val < 8 := (i 2).isLt
  intro a; fin_cases a <;> simp [offQ] <;> omega

/-- The first 256 rows of a scratch buffer of 1024 rows. -/
theorem top96_inb : ∀ a, (![0, 0] : Fin 2 → ℕ) a + (![256, 96] : Fin 2 → ℕ) a ≤ S1024x96.size a := by decide
theorem top64_inb : ∀ a, (![0, 0] : Fin 2 → ℕ) a + (![256, 64] : Fin 2 → ℕ) a ≤ S1024x64.size a := by decide

/-- A load of the whole of a buffer reads its contents. -/
theorem readAt_all {sp : Space} {s : Shape} {e : EltTy} (v : View sig .tc sp s e) (f : v.ty.Contents (Elt F)) {off : Fin s.rank → ℕ}
    (inb : ∀ a, off a + s.size a ≤ s.size a) :
    v.readAt (Elt F) (Rect.unit off (no_index s.size) inb).toLoadRect f = v.read (Elt F) f :=
  View.readAt_full v f inb

/-- A store over the whole of a buffer leaves what it stored. -/
theorem writes_all {sp : Space} {s : Shape} {e : EltTy} (v : View sig .tc sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f ((⟨Rect.unit off (no_index s.size) inb, w⟩ : View.Piece (Elt F) s e) :: L)) = w :=
  View.read_writes_full v f inb w L

/-- A load of the whole of a buffer after a store over the whole of it reads what was stored. -/
theorem readCov_all {sp : Space} {s : Shape} {e : EltTy} (v : View sig .tc sp s e) {off off' : Fin s.rank → ℕ}
    (inb : ∀ a, off a + s.size a ≤ s.size a) (inb' : ∀ a, off' a + s.size a ≤ s.size a) (w : s.Idx → Elt F e) (L : List (View.Piece (Elt F) s e)) :
    v.readCov ((⟨Rect.unit off' (no_index s.size) inb', w⟩ : View.Piece (Elt F) s e) :: L) (Rect.unit off (no_index s.size) inb).toLoadRect = w :=
  View.readCov_full v inb inb' w L

/-- A store into part of a buffer, of a function of what that part held: the buffer with the part put in. -/
theorem read_step {sp : Space} {s : Shape} {e : EltTy} (v : View sig .tc sp s e) (f : v.ty.Contents (Elt F)) {off off' size : Fin s.rank → ℕ}
    (inb : ∀ a, off a + size a ≤ s.size a) (h : off = off') (inb' : ∀ a, off' a + size a ≤ s.size a)
    (g : (((a : Fin s.rank) → Fin (size a)) → Elt F e) → ((a : Fin s.rank) → Fin (size a)) → Elt F e) :
    v.read (Elt F) (v.writes (Elt F) f [(⟨Rect.unit off size inb, g (v.readAt (Elt F) (Rect.unit off size inb).toLoadRect f)⟩ : View.Piece (Elt F) s e)])
      = VecWindow.put (v.read (Elt F) f) off' size (g (VecWindow.window (v.read (Elt F) f) off' size inb')) := by
  subst h
  exact View.read_writes_cons_put v f inb _ [] rfl

/-- The same after a store over the whole of the buffer. -/
theorem read_step_after {sp : Space} {s : Shape} {e : EltTy} (v : View sig .tc sp s e) (f : v.ty.Contents (Elt F)) {off off' size o : Fin s.rank → ℕ}
    (inb : ∀ a, off a + size a ≤ s.size a) (h : off = off') (inb' : ∀ a, off' a + size a ≤ s.size a)
    (inbo : ∀ a, o a + s.size a ≤ s.size a) (ho : ∀ a, o a = 0) (Z : s.Idx → Elt F e)
    (g : (((a : Fin s.rank) → Fin (size a)) → Elt F e) → ((a : Fin s.rank) → Fin (size a)) → Elt F e) :
    v.read (Elt F) (v.writes (Elt F) f [(⟨Rect.unit off size inb, g (v.readCov [(⟨Rect.unit o s.size inbo, Z⟩ : View.Piece (Elt F) s e)] (Rect.unit off size inb).toLoadRect)⟩ : View.Piece (Elt F) s e), ⟨Rect.unit o s.size inbo, Z⟩])
      = VecWindow.put Z off' size (g (VecWindow.window Z off' size inb')) := by
  subst h
  rw [View.read_writes_cons_put v f inb _ _ rfl, View.read_writes_full, View.readCov_fill v inbo Z [] _ ho]
  rfl

/-- The second test of the body: the point is the first of its row of query tiles. -/
abbrev isFirst (i : grid0.Coords) : Prop :=
  (Scalar.cmpi .ne (Scalar.extui (Scalar.cmpi .eq (BitVec.ofNat 32 (i 2).val) 0#32)) 0#32) = 1#1

/-- The fifteen buffers of the body at given contents: eight inputs, five outputs, two scratch buffers. -/
def bufs (c : Thread nD τ)
    (arg3 : Memref sig c.2.kind .vmem S1x1024x96 .f32)
    (arg4 : Memref sig c.2.kind .vmem S1x1024x96 .f32)
    (arg5 : Memref sig c.2.kind .vmem S1x1024x64 .f32)
    (arg6 : Memref sig c.2.kind .vmem S1x256x96 .f32)
    (arg7 : Memref sig c.2.kind .vmem S1x256x64 .f32)
    (arg8 : Memref sig c.2.kind .vmem S1x1024x64 .f32)
    (arg9 : Memref sig c.2.kind .vmem S1x1024x1 .f32)
    (arg10 : Memref sig c.2.kind .vmem S1x1024x64 .f32)
    (arg11 : Memref sig c.2.kind .vmem S1x8192x96 .f32)
    (arg12 : Memref sig c.2.kind .vmem S1x1024x96 .f32)
    (arg13 : Memref sig c.2.kind .vmem S1x1024x64 .f32)
    (arg14 : Memref sig c.2.kind .vmem S1x256x96 .f32)
    (arg15 : Memref sig c.2.kind .vmem S1x256x64 .f32)
    (arg16 : Memref sig c.2.kind .vmem S1024x96 .f32)
    (arg17 : Memref sig c.2.kind .vmem S1024x64 .f32)
    (x0 : Vec F S1x1024x96 .f32)
    (x1 : Vec F S1x1024x96 .f32)
    (x2 : Vec F S1x1024x64 .f32)
    (x3 : Vec F S1x256x96 .f32)
    (x4 : Vec F S1x256x64 .f32)
    (x5 : Vec F S1x1024x64 .f32)
    (x6 : Vec F S1x1024x1 .f32)
    (x7 : Vec F S1x1024x64 .f32)
    (y8 : Vec F S1x8192x96 .f32) (y9 : Vec F S1x1024x96 .f32) (y10 : Vec F S1x1024x64 .f32) (y11 : Vec F S1x256x96 .f32) (y12 : Vec F S1x256x64 .f32) (s0 : Vec F S1024x96 .f32) (s1 : Vec F S1024x64 .f32) : sProp 𝕄 :=
  iprop(owns c arg3 fullShare x0 ∗ owns c arg4 fullShare x1 ∗ owns c arg5 fullShare x2 ∗ owns c arg6 fullShare x3 ∗ owns c arg7 fullShare x4 ∗ owns c arg8 fullShare x5 ∗ owns c arg9 fullShare x6 ∗ owns c arg10 fullShare x7 ∗ owns c arg11 fullShare y8 ∗ owns c arg12 fullShare y9 ∗ owns c arg13 fullShare y10 ∗ owns c arg14 fullShare y11 ∗ owns c arg15 fullShare y12 ∗ owns c arg16 fullShare s0 ∗ owns c arg17 fullShare s1)

end Cert.KernelIdeal.Bwd

end
-- ==== Proof.Bwd.State.lean ====
module

public import proofs.«01_k».proof.Proof.Bwd.Steps

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! # Where each test of the body holds, and the running sums point by point -/

/-- The point's place along the key tiles. -/
theorem coord1 (t : Fin grid0.N) : (grid0.coords t 1).val = t.val / 8 % 9 := Pipeline.Grid.coords_val t 1 (by decide) rfl

/-- The point's place along the query tiles. -/
theorem coord2 (t : Fin grid0.N) : (grid0.coords t 2).val = t.val % 8 := by
  have h : (grid0.coords t 2).val = t.val / 1 % 8 := Pipeline.Grid.coords_val t 2 (by decide) rfl
  rw [h, Nat.div_one]

/-- The first point of a head. -/
theorem cond1_iff : ∀ t : Fin grid0.N, k0_cond1 (grid0.coords t) = 1#1 ↔ t.val % 72 = 0 := fun t => by
  have ht : t.val < 576 := Nat.lt_of_lt_of_eq t.isLt N_0
  have e1 := coord1 t
  have e2 := coord2 t
  simp only [k0_cond1, e1, e2]
  word_cmp

/-- The first tile of queries. -/
theorem first_iff : ∀ t : Fin grid0.N, isFirst (grid0.coords t) ↔ t.val % 8 = 0 := fun t => by
  have ht : t.val < 576 := Nat.lt_of_lt_of_eq t.isLt N_0
  have e1 := coord1 t
  have e2 := coord2 t
  simp only [isFirst, e1, e2]
  word_cmp

/-- The context's keys. -/
theorem cond3_iff : ∀ t : Fin grid0.N, k0_cond3 (grid0.coords t) = 1#1 ↔ t.val / 8 % 9 = 0 := fun t => by
  have ht : t.val < 576 := Nat.lt_of_lt_of_eq t.isLt N_0
  have e1 := coord1 t
  have e2 := coord2 t
  simp only [k0_cond3, e1, e2]
  word_cmp

/-- A tile of keys proper. -/
theorem cond4_iff : ∀ t : Fin grid0.N, k0_cond4 (grid0.coords t) = 1#1 ↔ ¬ t.val / 8 % 9 = 0 := by decide +kernel

/-- The last tile of queries against the context's keys. -/
theorem cond5_iff : ∀ t : Fin grid0.N, k0_cond5 (grid0.coords t) = 1#1 ↔ t.val % 72 = 7 := fun t => by
  have ht : t.val < 576 := Nat.lt_of_lt_of_eq t.isLt N_0
  have e1 := coord1 t
  have e2 := coord2 t
  simp only [k0_cond5, e1, e2]
  word_cmp

/-- The last tile of queries against a tile of keys proper. -/
theorem cond6_iff : ∀ t : Fin grid0.N, k0_cond6 (grid0.coords t) = 1#1 ↔ (t.val % 8 = 7 ∧ ¬ t.val / 8 % 9 = 0) := by decide +kernel

variable (m : (ℓ : Loc nD τ sig) → Buf (Elt F) ℓ) (c : Dev nD)

/-- The grid's point of a number (points are numbered head by head, key tile by key tile, query tile by query tile). -/
def pt (n : ℕ) : Fin cfg0.N := ⟨n % 576, lt_of_lt_of_eq (Nat.mod_lt n (by decide)) N_0.symm⟩

theorem pt_val (t : Fin cfg0.N) : pt t.val = t :=
  Fin.ext (Nat.mod_eq_of_lt (lt_of_lt_of_eq t.isLt N_0))

/-- The blocks of the eight inputs at a point. -/
def X0 (t : Fin cfg0.N) : Vec F S1x1024x96 .f32 := iblk m c 0 t
def X1 (t : Fin cfg0.N) : Vec F S1x1024x96 .f32 := iblk m c 1 t
def X2 (t : Fin cfg0.N) : Vec F S1x1024x64 .f32 := iblk m c 2 t
def X3 (t : Fin cfg0.N) : Vec F S1x256x96 .f32 := iblk m c 3 t
def X4 (t : Fin cfg0.N) : Vec F S1x256x64 .f32 := iblk m c 4 t
def X5 (t : Fin cfg0.N) : Vec F S1x1024x64 .f32 := iblk m c 5 t
def X6 (t : Fin cfg0.N) : Vec F S1x1024x1 .f32 := iblk m c 6 t
def X7 (t : Fin cfg0.N) : Vec F S1x1024x64 .f32 := iblk m c 7 t

/-- The query gradient's block after a point, from the block before it. -/
def stepD (t : Fin cfg0.N) (D : Vec F S1x8192x96 .f32) : Vec F S1x8192x96 .f32 :=
  VecWindow.put D (offQ (grid0.coords t)) ![1, 1024, 96]
    (if t.val / 8 % 9 = 0 then
      dqC (X0 m c t) (X3 m c t) (X4 m c t) (X5 m c t) (X6 m c t) (X7 m c t)
        (VecWindow.window D (offQ (grid0.coords t)) ![1, 1024, 96] (offQ_inb _))
    else
      dqM (X0 m c t) (X1 m c t) (X2 m c t) (X5 m c t) (X6 m c t) (X7 m c t)
        (VecWindow.window D (offQ (grid0.coords t)) ![1, 1024, 96] (offQ_inb _)))

/-- The context keys' gradient after a point over the context's keys. -/
def ctxA (t : Fin cfg0.N) (A : Vec F S1024x96 .f32) : Vec F S256x96 .f32 :=
  dkC (X0 m c t) (X3 m c t) (X4 m c t) (X5 m c t) (X6 m c t) (X7 m c t) (VecWindow.window A ![0, 0] ![256, 96] top96_inb)

/-- The context values' gradient after a point over the context's keys. -/
def ctxB (t : Fin cfg0.N) (B : Vec F S1024x64 .f32) : Vec F S256x64 .f32 :=
  dvC (X0 m c t) (X3 m c t) (X6 m c t) (X7 m c t) (VecWindow.window B ![0, 0] ![256, 64] top64_inb)

/-- The scratch sum of the key gradient after a point, from what it was before. -/
def stepA (t : Fin cfg0.N) (A : Vec F S1024x96 .f32) : Vec F S1024x96 .f32 :=
  if t.val / 8 % 9 = 0 then VecWindow.put A ![0, 0] ![256, 96] (ctxA m c t A)
  else dkM (X0 m c t) (X1 m c t) (X2 m c t) (X5 m c t) (X6 m c t) (X7 m c t) A

/-- The scratch sum of the value gradient after a point, from what it was before. -/
def stepB (t : Fin cfg0.N) (B : Vec F S1024x64 .f32) : Vec F S1024x64 .f32 :=
  if t.val / 8 % 9 = 0 then VecWindow.put B ![0, 0] ![256, 64] (ctxB m c t B)
  else dvM (X0 m c t) (X1 m c t) (X6 m c t) (X7 m c t) B

/-- The query gradient's block after point `n`: zero before a head's first point. -/
def stD : ℕ → Vec F S1x8192x96 .f32
  | 0 => stepD m c (pt 0) k0_pay1
  | n + 1 => stepD m c (pt (n + 1)) (if (n + 1) % 72 = 0 then k0_pay1 else stD n)

/-- The scratch sum of the key gradient before point `n`'s own step: zero at the first tile of queries. -/
def stA : ℕ → Vec F S1024x96 .f32
  | 0 => stepA m c (pt 0) k0_pay2
  | n + 1 => stepA m c (pt (n + 1)) (if (n + 1) % 8 = 0 then k0_pay2 else stA n)

/-- The scratch sum of the value gradient after point `n`: zero before the first tile of queries. -/
def stB : ℕ → Vec F S1024x64 .f32
  | 0 => stepB m c (pt 0) k0_pay3
  | n + 1 => stepB m c (pt (n + 1)) (if (n + 1) % 8 = 0 then k0_pay3 else stB n)

/-- What the scratch sums and the block are before a point's step. -/
def preD (n : ℕ) : Vec F S1x8192x96 .f32 := if n % 72 = 0 then k0_pay1 else stD m c (n - 1)
def preA (n : ℕ) : Vec F S1024x96 .f32 := if n % 8 = 0 then k0_pay2 else stA m c (n - 1)
def preB (n : ℕ) : Vec F S1024x64 .f32 := if n % 8 = 0 then k0_pay3 else stB m c (n - 1)

theorem stD_pt (n : ℕ) : stD m c n = stepD m c (pt n) (preD m c n) := by
  cases n <;> rfl
theorem stD_eq (t : Fin cfg0.N) : stD m c t.val = stepD m c t (preD m c t.val) := by
  rw [stD_pt, pt_val]
theorem stA_pt (n : ℕ) : stA m c n = stepA m c (pt n) (preA m c n) := by
  cases n <;> rfl
theorem stA_eq (t : Fin cfg0.N) : stA m c t.val = stepA m c t (preA m c t.val) := by
  rw [stA_pt, pt_val]
theorem stB_pt (n : ℕ) : stB m c n = stepB m c (pt n) (preB m c n) := by
  cases n <;> rfl
theorem stB_eq (t : Fin cfg0.N) : stB m c t.val = stepB m c t (preB m c t.val) := by
  rw [stB_pt, pt_val]

/-- The last point over the context's keys of the head that a point belongs to. -/
def ctxLast (n : ℕ) : ℕ := n / 72 * 72 + 7

end Cert.KernelIdeal.Bwd

end
-- ==== Proof.Bwd.Point.lean ====
module

public import proofs.«01_k».proof.Proof.Bwd.State
public import proofs.«01_k».proof.Proof.Math.Model
public import Idealize.ShloMosaic.Lib.Pointwise

@[expose] public section

set_option maxRecDepth 16384

noncomputable section

namespace Cert.KernelIdeal.Bwd

open Idealize.ShloMosaic
open Cert.KernelIdeal.Gen Cert.Attn

/-! # The sums a point adds, over the reals

The blocks a point reads hold finite numbers: rows `r0 …` of the queries and of what goes with them, rows `c0 …` of the
keys and values. Each running sum grows by the point's share of the head's gradient. -/

/-- The two named numbers. -/
theorem named_qf : Named.named (F := Ideal) κ "q_factor" (φ := .f32) 0x3E16C740#32 = ((qf : ℝ) : EReal) := rfl
theorem named_ln2 : Named.named (F := Ideal) κ "ln2" (φ := .f32) 0x3F317218#32 = ((Real.log 2 : ℝ) : EReal) := rfl

/-- A power of two, of a real exponent. -/
theorem exp2_real (x : ℝ) : FloatOps.exp2 (F := Ideal) (φ := .f32) (x : EReal) = ((Real.rpow 2 x : ℝ) : EReal) := rfl

/-- The queries' side of a point: its blocks hold rows `r0 …` of a head. -/
structure Rows (q : ℕ → Fin 96 → ℝ) (o g : ℕ → Fin 64 → ℝ) (l : ℕ → ℝ) (r0 : ℕ)
    (x0 : Vec Ideal S1x1024x96 .f32) (x5 : Vec Ideal S1x1024x64 .f32) (x6 : Vec Ideal S1x1024x1 .f32) (x7 : Vec Ideal S1x1024x64 .f32) : Prop where
  q : ∀ (r : Fin 1024) (e : Fin 96), x0 (ix3 0 r e) = ((q (r0 + r) e : ℝ) : EReal)
  o : ∀ (r : Fin 1024) (e : Fin 64), x5 (ix3 0 r e) = ((o (r0 + r) e : ℝ) : EReal)
  l : ∀ r : Fin 1024, x6 (ix3 0 r 0) = ((l (r0 + r) : ℝ) : EReal)
  g : ∀ (r : Fin 1024) (e : Fin 64), x7 (ix3 0 r e) = ((g (r0 + r) e : ℝ) : EReal)

variable {q k : ℕ → Fin 96 → ℝ} {v o g : ℕ → Fin 64 → ℝ} {l : ℕ → ℝ} {r0 c0 : ℕ}
variable {x0 x1 : Vec Ideal S1x1024x96 .f32} {x2 x5 : Vec Ideal S1x1024x64 .f32} {x3 : Vec Ideal S1x256x96 .f32} {x4 : Vec Ideal S1x256x64 .f32}
variable {x6 : Vec Ideal S1x1024x1 .f32} {x7 : Vec Ideal S1x1024x64 .f32}

theorem dqM_at (hr : Rows q o g l r0 x0 x5 x6 x7) (hk : ∀ (c : Fin 1024) (e : Fin 96), x1 (ix3 0 c e) = ((k (c0 + c) e : ℝ) : EReal))
    (hv : ∀ (c : Fin 1024) (e : Fin 64), x2 (ix3 0 c e) = ((v (c0 + c) e : ℝ) : EReal)) (D : Vec Ideal S1x1024x96 .f32) (r : Fin 1024) (d : Fin 96) :
    dqM x0 x1 x2 x5 x6 x7 D (ix3 0 r d) = D (ix3 0 r d) + ((∑ c : Fin 1024, dqAt q k v o g l (r0 + r) d (c0 + c) : ℝ) : EReal) := by
  unfold dqM
  pointwise [k0_pay9, k0_pay7, k0_pay21, k0_pay22, k0_pay23, k0_pay24, k0_pay26, k0_pay27]
  simp only [hr.q, hr.o, hr.l, hr.g, hk, hv, named_qf, named_ln2, ← EReal.coe_mul, ← coe_sum, ← EReal.coe_sub, exp2_real, dqAt, grd, wgt, Finset.sum_mul]

theorem dkM_at (hr : Rows q o g l r0 x0 x5 x6 x7) (hk : ∀ (c : Fin 1024) (e : Fin 96), x1 (ix3 0 c e) = ((k (c0 + c) e : ℝ) : EReal))
    (hv : ∀ (c : Fin 1024) (e : Fin 64), x2 (ix3 0 c e) = ((v (c0 + c) e : ℝ) : EReal)) (D : Vec Ideal S1024x96 .f32) (c : Fin 1024) (d : Fin 96) :
    dkM x0 x1 x2 x5 x6 x7 D (ix2 c d) = D (ix2 c d) + ((∑ r : Fin 1024, dkAt q k v o g l (c0 + c) d (r0 + r) : ℝ) : EReal) := by
  unfold dkM
  pointwise [k0_pay8, k0_pay7, k0_pay21, k0_pay22, k0_pay23, k0_pay24, k0_pay26, k0_pay27]
  simp only [hr.q, hr.o, hr.l, hr.g, hk, hv, named_qf, named_ln2, ← EReal.coe_mul, ← coe_sum, ← EReal.coe_sub, exp2_real, dkAt, grd, wgt]

theorem dvM_at (hr : Rows q o g l r0 x0 x5 x6 x7) (hk : ∀ (c : Fin 1024) (e : Fin 96), x1 (ix3 0 c e) = ((k (c0 + c) e : ℝ) : EReal))
    (D : Vec Ideal S1024x64 .f32) (c : Fin 1024) (d : Fin 64) :
    dvM x0 x1 x6 x7 D (ix2 c d) = D (ix2 c d) + ((∑ r : Fin 1024, dvAt q k g l (c0 + c) d (r0 + r) : ℝ) : EReal) := by
  unfold dvM
  pointwise [k0_pay25, k0_pay21, k0_pay22, k0_pay23, k0_pay24]
  simp only [hr.q, hr.l, hr.g, hk, named_qf, ← EReal.coe_mul, ← coe_sum, ← EReal.coe_sub, exp2_real, dvAt, wgt]

theorem dqC_at (hr : Rows q o g l r0 x0 x5 x6 x7) (hk : ∀ (c : Fin 256) (e : Fin 96), x3 (ix3 0 c e) = ((k (c0 + c) e : ℝ) : EReal))
    (hv : ∀ (c : Fin 256) (e : Fin 64), x4 (ix3 0 c e) = ((v (c0 + c) e : ℝ) : EReal)) (D : Vec Ideal S1x1024x96 .f32) (r : Fin 1024) (d : Fin 96) :
    dqC x0 x3 x4 x5 x6 x7 D (ix3 0 r d) = D (ix3 0 r d) + ((∑ c : Fin 256, dqAt q k v o g l (r0 + r) d (c0 + c) : ℝ) : EReal) := by
  unfold dqC
  pointwise [k0_pay6, k0_pay4, k0_pay14, k0_pay15, k0_pay16, k0_pay17, k0_pay19, k0_pay20]
  simp only [hr.q, hr.o, hr.l, hr.g, hk, hv, named_qf, named_ln2, ← EReal.coe_mul, ← coe_sum, ← EReal.coe_sub, exp2_real, dqAt, grd, wgt, Finset.sum_mul]

theorem dkC_at (hr : Rows q o g l r0 x0 x5 x6 x7) (hk : ∀ (c : Fin 256) (e : Fin 96), x3 (ix3 0 c e) = ((k (c0 + c) e : ℝ) : EReal))
    (hv : ∀ (c : Fin 256) (e : Fin 64), x4 (ix3 0 c e) = ((v (c0 + c) e : ℝ) : EReal)) (D : Vec Ideal S256x96 .f32) (c : Fin 256) (d : Fin 96) :
    dkC x0 x3 x4 x5 x6 x7 D (ix2 c d) = D (ix2 c d) + ((∑ r : Fin 1024, dkAt q k v o g l (c0 + c) d (r0 + r) : ℝ) : EReal) := by
  unfold dkC
  pointwise [k0_pay5, k0_pay4, k0_pay14, k0_pay15, k0_pay16, k0_pay17, k0_pay19, k0_pay20]
  simp only [hr.q, hr.o, hr.l, hr.g, hk, hv, named_qf, named_ln2, ← EReal.coe_mul, ← coe_sum, ← EReal.coe_sub, exp2_real, dkAt, grd, wgt]

theorem dvC_at (hr : Rows q o g l r0 x0 x5 x6 x7) (hk : ∀ (c : Fin 256) (e : Fin 96), x3 (ix3 0 c e) = ((k (c0 + c) e : ℝ) : EReal))
    (D : Vec Ideal S256x64 .f32) (c : Fin 256) (d : Fin 64) :
    dvC x0 x3 x6 x7 D (ix2 c d) = D (ix2 c d) + ((∑ r : Fin 1024, dvAt q k g l (c0 + c) d (r0 + r) : ℝ) : EReal) := by
  unfold dvC
  pointwise [k0_pay18, k0_pay14, k0_pay15, k0_pay16, k0_pay17]
  simp only [hr.q, hr.l, hr.g, hk, named_qf, ← EReal.coe_mul, ← coe_sum, ← EReal.coe_sub, exp2_real, dvAt, wgt]

end Cert.KernelIdeal.Bwd

end
-- ==== Proof.Bwd.Blocks.lean ====
module

public import proofs.«01_k».proof.Proof.Bwd.Point
public import Idealize.ShloMosaic.Lib.Pipeline.ValueKit

@[expose] public section

set_option maxRecDepth 16384

noncomputable section

namespace Cert.KernelIdeal.Bwd

open Idealize.ShloMosaic Idealize.ShloMosaic.TcCoe
open Cert.KernelIdeal.Gen Cert.Attn

/-! # The blocks a point reads, as parts of their arrays -/

/-- Which block each window reads at a point: a head's tile of queries, or tile of keys, or the whole context. -/
theorem idx0 : ∀ t : Fin grid0.N, win0_0.index t = ![t.val / 72, t.val % 8, 0] := by decide +kernel
theorem idx1 : ∀ t : Fin grid0.N, win0_1.index t = ![t.val / 72, t.val / 8 % 9 - 1, 0] := by decide +kernel
theorem idx2 : ∀ t : Fin grid0.N, win0_2.index t = ![t.val / 72, t.val / 8 % 9 - 1, 0] := by decide +kernel
theorem idx3 : ∀ t : Fin grid0.N, win0_3.index t = ![t.val / 72, 0, 0] := by decide +kernel
theorem idx4 : ∀ t : Fin grid0.N, win0_4.index t = ![t.val / 72, 0, 0] := by decide +kernel
theorem idx5 : ∀ t : Fin grid0.N, win0_5.index t = ![t.val / 72, t.val % 8, 0] := by decide +kernel
theorem idx6 : ∀ t : Fin grid0.N, win0_6.index t = ![t.val / 72, t.val % 8, 0] := by decide +kernel
theorem idx7 : ∀ t : Fin grid0.N, win0_7.index t = ![t.val / 72, t.val % 8, 0] := by decide +kernel

variable (m : (ℓ : Loc nD τ sig) → Buf (Elt Ideal) ℓ) (c : Dev nD)

/-- The arrays the call reads hold, for head `h`, the numbers of one head's backward pass. -/
structure Head (h : Fin 8) (q k : ℕ → Fin 96 → ℝ) (v o g : ℕ → Fin 64 → ℝ) (l : ℕ → ℝ) : Prop where
  hq : ∀ (r : Fin 8192) (e : Fin 96), V m c main_arg0 (ix3 h r e) = ((q r e : ℝ) : EReal)
  hk : ∀ (r : Fin 8192) (e : Fin 96), V m c main_arg1 (ix3 h r e) = ((k (256 + r) e : ℝ) : EReal)
  hv : ∀ (r : Fin 8192) (e : Fin 64), V m c main_arg2 (ix3 h r e) = ((v (256 + r) e : ℝ) : EReal)
  hkc : ∀ (r : Fin 256) (e : Fin 96), V m c main_arg3 (ix3 h r e) = ((k r e : ℝ) : EReal)
  hvc : ∀ (r : Fin 256) (e : Fin 64), V m c main_arg4 (ix3 h r e) = ((v r e : ℝ) : EReal)
  ho : ∀ (r : Fin 8192) (e : Fin 64), V m c main_v14 (ix3 h r e) = ((o r e : ℝ) : EReal)
  hl : ∀ r : Fin 8192, V m c main_v19 (ix3 h r 0) = ((l r : ℝ) : EReal)
  hg : ∀ (r : Fin 8192) (e : Fin 64), V m c main_arg5 (ix3 h r e) = ((g r e : ℝ) : EReal)

variable {m c} {q k : ℕ → Fin 96 → ℝ} {v o g : ℕ → Fin 64 → ℝ} {l : ℕ → ℝ}

/-- The queries' side of a point. -/
theorem rows_at {h : Fin 8} (H : Head m c h q k v o g l) (t : Fin cfg0.N) (ht : t.val / 72 = h.val) :
    Rows q o g l (1024 * (t.val % 8)) (X0 m c t) (X5 m c t) (X6 m c t) (X7 m c t) where
  q r e := by
    rw [← H.hq ⟨1024 * (t.val % 8) + r, by omega⟩ e]
    unfold X0
    blk_ext [iblk, idx0 t]
  o r e := by
    rw [← H.ho ⟨1024 * (t.val % 8) + r, by omega⟩ e]
    unfold X5
    blk_ext [iblk, idx5 t]
  l r := by
    rw [← H.hl ⟨1024 * (t.val % 8) + r, by omega⟩]
    unfold X6
    blk_ext [iblk, idx6 t]
  g r e := by
    rw [← H.hg ⟨1024 * (t.val % 8) + r, by omega⟩ e]
    unfold X7
    blk_ext [iblk, idx7 t]

/-- The tile of keys of a point. -/
theorem keys_at {h : Fin 8} (H : Head m c h q k v o g l) (t : Fin cfg0.N) (ht : t.val / 72 = h.val) (hj : ¬ t.val / 8 % 9 = 0) (r : Fin 1024) (e : Fin 96) :
    X1 m c t (ix3 0 r e) = ((k (256 + 1024 * (t.val / 8 % 9 - 1) + r) e : ℝ) : EReal) := by
  rw [Nat.add_assoc, ← H.hk ⟨1024 * (t.val / 8 % 9 - 1) + r, by omega⟩ e]
  unfold X1
  blk_ext [iblk, idx1 t]

/-- The tile of values of a point. -/
theorem vals_at {h : Fin 8} (H : Head m c h q k v o g l) (t : Fin cfg0.N) (ht : t.val / 72 = h.val) (hj : ¬ t.val / 8 % 9 = 0) (r : Fin 1024) (e : Fin 64) :
    X2 m c t (ix3 0 r e) = ((v (256 + 1024 * (t.val / 8 % 9 - 1) + r) e : ℝ) : EReal) := by
  rw [Nat.add_assoc, ← H.hv ⟨1024 * (t.val / 8 % 9 - 1) + r, by omega⟩ e]
  unfold X2
  blk_ext [iblk, idx2 t]

/-- The context's keys and values. -/
theorem ctxk_at {h : Fin 8} (H : Head m c h q k v o g l) (t : Fin cfg0.N) (ht : t.val / 72 = h.val) (r : Fin 256) (e : Fin 96) :
    X3 m c t (ix3 0 r e) = ((k (0 + r) e : ℝ) : EReal) := by
  rw [Nat.zero_add, ← H.hkc r e]
  unfold X3
  blk_ext [iblk, idx3 t]
theorem ctxv_at {h : Fin 8} (H : Head m c h q k v o g l) (t : Fin cfg0.N) (ht : t.val / 72 = h.val) (r : Fin 256) (e : Fin 64) :
    X4 m c t (ix3 0 r e) = ((v (0 + r) e : ℝ) : EReal) := by
  rw [Nat.zero_add, ← H.hvc r e]
  unfold X4
  blk_ext [iblk, idx4 t]

end Cert.KernelIdeal.Bwd

end
-- ==== Proof.Bwd.Saved.lean ====
module

public import proofs.«01_k».proof.Proof.Bwd.Blocks
public import Idealize.ShloMosaic.Lib.StableHlo.RunRead

@[expose] public section

set_option maxRecDepth 16384

noncomputable section

namespace Cert.KernelIdeal.Bwd

open Idealize.ShloMosaic Idealize.ShloMosaic.TcCoe Idealize.ShloMosaic.StableHlo
open Cert.KernelIdeal Cert.KernelIdeal.Gen

variable {F : FTy → Type} [FloatOps F]

/-! # What the forward pass saved: the output and the logarithm of the row's sum, step by step -/

/-- The context's keys followed by the sequence's, and the values likewise. -/
def joinK (kc : Vec F S8x256x96 .f32) (k : Vec F S8x8192x96 .f32) : Vec F S8x8448x96 .f32 :=
  concatenate S8x8448x96 1 [⟨S8x256x96, kc⟩, ⟨S8x8192x96, k⟩] concatenates_S8x256x96_S8x8192x96_S8x8448x96_d1
def joinV (vc : Vec F S8x256x64 .f32) (v : Vec F S8x8192x64 .f32) : Vec F S8x8448x64 .f32 :=
  concatenate S8x8448x64 1 [⟨S8x256x64, vc⟩, ⟨S8x8192x64, v⟩] concatenates_S8x256x64_S8x8192x64_S8x8448x64_d1

/-- The scores. -/
def scores (q : Vec F S8x8192x96 .f32) (kk : Vec F S8x8448x96 .f32) : Vec F S8x8192x8448 .f32 :=
  mulf (Host.dotGeneral dot_S8x8192x96_S8x8448x96_S8x8192x8448_2_2_1_1_0_0 none q kk) (broadcastInDim S8x8192x8448 ![] bcast_S_S8x8192x8448 (constant S_ .f32 0x3DD105EC#32))

/-- Each row's largest score. -/
def tops (s : Vec F S8x8192x8448 .f32) : Vec F S8x8192x1 .f32 :=
  broadcastInDim S8x8192x1 ![0, 1] bcast_S8x8192_S8x8192x1_0_1 (Host.reduce FloatOps.maximumf s (constant S_ .f32 0xFF800000#32) reducesTo_S8x8192x8448_S8x8192_d2 h_S_)

/-- The exponentials of the scores less the row's largest. -/
def exps (s : Vec F S8x8192x8448 .f32) : Vec F S8x8192x8448 .f32 :=
  Host.exp (subf s (broadcastInDim S8x8192x8448 ![0, 1, 2] bcast_S8x8192x1_S8x8192x8448_0_1_2 (tops s)))

/-- Each row's sum of exponentials. -/
def sums (e : Vec F S8x8192x8448 .f32) : Vec F S8x8192x1 .f32 :=
  broadcastInDim S8x8192x1 ![0, 1] bcast_S8x8192_S8x8192x1_0_1 (Host.reduceAdd e (constant S_ .f32 0x00000000#32) reducesTo_S8x8192x8448_S8x8192_d2 h_S_)

/-- The weights. -/
def weights (e : Vec F S8x8192x8448 .f32) : Vec F S8x8192x8448 .f32 :=
  Host.divf e (broadcastInDim S8x8192x8448 ![0, 1, 2] bcast_S8x8192x1_S8x8192x8448_0_1_2 (sums e))

/-- The output, and the logarithm to the base two of the row's sum. -/
def outs (p : Vec F S8x8192x8448 .f32) (vv : Vec F S8x8448x64 .f32) : Vec F S8x8192x64 .f32 :=
  Host.dotGeneral dot_S8x8192x8448_S8x8448x64_S8x8192x64_2_1_1_2_0_0 none p vv
def logs (t l : Vec F S8x8192x1 .f32) : Vec F S8x8192x1 .f32 :=
  Host.divf (addf t (Host.log l)) (broadcastInDim S8x8192x1 ![] bcast_S_S8x8192x1 (Host.log (constant S_ .f32 0x40000000#32)))

variable (m : (ℓ : Loc nD τ sig) → Buf (Elt Ideal) ℓ) (c : Dev nD)

/-- The scores of the program's arguments. -/
def SS : Vec Ideal S8x8192x8448 .f32 :=
  scores (m ((c.tc : Thread nD τ).loc main_arg0)) (joinK (m ((c.tc : Thread nD τ).loc main_arg3)) (m ((c.tc : Thread nD τ).loc main_arg1)))

/-- The two arrays the call reads beside the arguments. -/
theorem saved_o : V m c main_v14 = outs (weights (exps (SS m c))) (joinV (m ((c.tc : Thread nD τ).loc main_arg4)) (m ((c.tc : Thread nD τ).loc main_arg2))) := by
  unfold V
  after_reads_simp
  rfl
theorem saved_l : V m c main_v19 = logs (tops (SS m c)) (sums (exps (SS m c))) := by
  unfold V
  after_reads_simp
  rfl

/-! # The same, entry by entry -/

/-- The joined keys and values: the context's first. -/
theorem joinK_at (kc : Vec Ideal S8x256x96 .f32) (k : Vec Ideal S8x8192x96 .f32) (h : Fin 8) (c : Fin 8448) (d : Fin 96) :
    joinK kc k (ix3 h c d) = if hc : c.val < 256 then kc (ix3 h ⟨c.val, hc⟩ d) else k (ix3 h ⟨c.val - 256, by omega⟩ d) := by
  unfold joinK
  pointwise []
theorem joinV_at (vc : Vec Ideal S8x256x64 .f32) (v : Vec Ideal S8x8192x64 .f32) (h : Fin 8) (c : Fin 8448) (d : Fin 64) :
    joinV vc v (ix3 h c d) = if hc : c.val < 256 then vc (ix3 h ⟨c.val, hc⟩ d) else v (ix3 h ⟨c.val - 256, by omega⟩ d) := by
  unfold joinV
  pointwise []

/-- A score. -/
theorem scores_at (q : Vec Ideal S8x8192x96 .f32) (kk : Vec Ideal S8x8448x96 .f32) (h : Fin 8) (r : Fin 8192) (c : Fin 8448) :
    scores q kk (ix3 h r c) = (∑ x, q (ix3 h r x) * kk (ix3 h c x)) * Ideal.ofBits .f32 0x3DD105EC#32 := by
  unfold scores
  pointwise []

/-- A row's largest score. -/
theorem tops_at (s : Vec Ideal S8x8192x8448 .f32) (h : Fin 8) (r : Fin 8192) :
    tops s (ix3 h r 0) = Finset.fold max (Ideal.ofBits .f32 0xFF800000#32) (fun x => s (ix3 h r x)) Finset.univ := by
  unfold tops
  pointwise []

/-- An exponential. -/
theorem exps_at (s : Vec Ideal S8x8192x8448 .f32) (h : Fin 8) (r : Fin 8192) (c : Fin 8448) :
    exps s (ix3 h r c) = Ideal.exp (s (ix3 h r c) - tops s (ix3 h r 0)) := by
  unfold exps
  pointwise []

/-- A row's sum of exponentials. -/
theorem sums_at (e : Vec Ideal S8x8192x8448 .f32) (h : Fin 8) (r : Fin 8192) :
    sums e (ix3 h r 0) = ∑ x, e (ix3 h r x) := by
  unfold sums
  pointwise []

/-- A weight. -/
theorem weights_at (e : Vec Ideal S8x8192x8448 .f32) (h : Fin 8) (r : Fin 8192) (c : Fin 8448) :
    weights e (ix3 h r c) = Ideal.div (e (ix3 h r c)) (sums e (ix3 h r 0)) := by
  unfold weights
  pointwise []

/-- An output, and the logarithm of a row's sum. -/
theorem outs_at (p : Vec Ideal S8x8192x8448 .f32) (vv : Vec Ideal S8x8448x64 .f32) (h : Fin 8) (r : Fin 8192) (d : Fin 64) :
    outs p vv (ix3 h r d) = ∑ x, p (ix3 h r x) * vv (ix3 h x d) := by
  unfold outs
  pointwise []
theorem logs_at (t l : Vec Ideal S8x8192x1 .f32) (h : Fin 8) (r : Fin 8192) :
    logs t l (ix3 h r 0) = Ideal.div (t (ix3 h r 0) + Ideal.log (l (ix3 h r 0))) (Ideal.log (Ideal.ofBits .f32 0x40000000#32)) := by
  unfold logs
  pointwise []

end Cert.KernelIdeal.Bwd

end
-- ==== Proof.Bwd.RunMain.lean ====
module

public import proofs.«01_k».proof.Proof.Bwd.Steps

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- The body at a point over a tile of keys: the three sums each take their step (the two in scratch from zero at the
    first tile of queries), and at the last tile of queries the two in scratch are stored. -/
theorem run_main (c : Dev nD) (i : grid0.Coords)
    (arg3 : Memref sig .tc .vmem S1x1024x96 .f32) (harg3 : arg3.IsWhole)
    (arg4 : Memref sig .tc .vmem S1x1024x96 .f32) (harg4 : arg4.IsWhole)
    (arg5 : Memref sig .tc .vmem S1x1024x64 .f32) (harg5 : arg5.IsWhole)
    (arg6 : Memref sig .tc .vmem S1x256x96 .f32) (harg6 : arg6.IsWhole)
    (arg7 : Memref sig .tc .vmem S1x256x64 .f32) (harg7 : arg7.IsWhole)
    (arg8 : Memref sig .tc .vmem S1x1024x64 .f32) (harg8 : arg8.IsWhole)
    (arg9 : Memref sig .tc .vmem S1x1024x1 .f32) (harg9 : arg9.IsWhole)
    (arg10 : Memref sig .tc .vmem S1x1024x64 .f32) (harg10 : arg10.IsWhole)
    (arg11 : Memref sig .tc .vmem S1x8192x96 .f32) (harg11 : arg11.IsWhole)
    (arg12 : Memref sig .tc .vmem S1x1024x96 .f32) (harg12 : arg12.IsWhole)
    (arg13 : Memref sig .tc .vmem S1x1024x64 .f32) (harg13 : arg13.IsWhole)
    (arg14 : Memref sig .tc .vmem S1x256x96 .f32) (harg14 : arg14.IsWhole)
    (arg15 : Memref sig .tc .vmem S1x256x64 .f32) (harg15 : arg15.IsWhole)
    (arg16 : Memref sig .tc .vmem S1024x96 .f32) (harg16 : arg16.IsWhole)
    (arg17 : Memref sig .tc .vmem S1024x64 .f32) (harg17 : arg17.IsWhole)
    (h1 : ¬ k0_cond1 i = 1#1) (h3 : ¬ k0_cond3 i = 1#1) (h4 : k0_cond4 i = 1#1) (h5 : ¬ k0_cond5 i = 1#1)
    (x0 : Vec F S1x1024x96 .f32)
    (x1 : Vec F S1x1024x96 .f32)
    (x2 : Vec F S1x1024x64 .f32)
    (x3 : Vec F S1x256x96 .f32)
    (x4 : Vec F S1x256x64 .f32)
    (x5 : Vec F S1x1024x64 .f32)
    (x6 : Vec F S1x1024x1 .f32)
    (x7 : Vec F S1x1024x64 .f32)
    (y8 : Vec F S1x8192x96 .f32) (y9 : Vec F S1x1024x96 .f32) (y10 : Vec F S1x1024x64 .f32) (y11 : Vec F S1x256x96 .f32) (y12 : Vec F S1x256x64 .f32) (s0 : Vec F S1024x96 .f32) (s1 : Vec F S1024x64 .f32)
    (E : Set ℕ) (K : PUnit → sProp 𝕄) :
    iprop(bufs (c : Thread nD τ) arg3 arg4 arg5 arg6 arg7 arg8 arg9 arg10 arg11 arg12 arg13 arg14 arg15 arg16 arg17 x0 x1 x2 x3 x4 x5 x6 x7 y8 y9 y10 y11 y12 s0 s1
        ∗ (bufs (c : Thread nD τ) arg3 arg4 arg5 arg6 arg7 arg8 arg9 arg10 arg11 arg12 arg13 arg14 arg15 arg16 arg17 x0 x1 x2 x3 x4 x5 x6 x7 (VecWindow.put y8 (offQ i) ![1, 1024, 96] (dqM x0 x1 x2 x5 x6 x7 (VecWindow.window y8 (offQ i) ![1, 1024, 96] (offQ_inb i)))) (if k0_cond6 i = 1#1 then k0_pay12 (dkM x0 x1 x2 x5 x6 x7 (if isFirst i then k0_pay2 else s0)) else y9) (if k0_cond6 i = 1#1 then k0_pay13 (dvM x0 x1 x6 x7 (if isFirst i then k0_pay3 else s1)) else y10) y11 y12 (dkM x0 x1 x2 x5 x6 x7 (if isFirst i then k0_pay2 else s0)) (dvM x0 x1 x6 x7 (if isFirst i then k0_pay3 else s1)) -∗ K ⟨⟩))
      ⊢ wp frame (wpE (defs₀ (F := F)) Variants.none c none) E (cc0_mla_lat_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_lat_bwd_eq_skeleton]; unfold cc0_mla_lat_bwd_skel
  simp only [k0_part1_eq_skeleton, k0_part2_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hfs0; obtain rfl := harg17.eq_unread hfs1
  by_cases h2 : isFirst i <;> by_cases h6 : k0_cond6 i = 1#1
  all_goals
    sl_exec (disch := first | sl_exact h1 | sl_exact h2 | sl_exact h3 | sl_exact h4 | sl_exact h5 | sl_exact h6)
    sl_step
    iapply Hk
    sl_unfold_words
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg10.read_unread _
    isplitl [H8]
    · iexists _; isplitr; swap; · iexact H8
      ipureintro; (try simp only [readAt_all, Memref.IsWhole.read_unread]); refine (read_step arg11.view (harg11.unread y8) _ (k0_off2_eq i) (offQ_inb i) (dqM x0 x1 x2 x5 x6 x7)).trans ?_; rw [hf8]; rfl
    isplitl [H9]
    · iexists _; isplitr; swap; · iexact H9
      ipureintro; (try simp only [writes_all, readAt_all, readCov_all, Memref.IsWhole.read_unread, h6, ↓reduceIte]); (try first | rw [if_pos h2] | rw [if_neg h2]); try rfl
    isplitl [H10]
    · iexists _; isplitr; swap; · iexact H10
      ipureintro; (try simp only [writes_all, readAt_all, readCov_all, Memref.IsWhole.read_unread, h6, ↓reduceIte]); (try first | rw [if_pos h2] | rw [if_neg h2]); try rfl
    isplitl [H11]
    · iexists _; isplitr; swap; · iexact H11
      ipureintro; (try simp only [writes_all, readAt_all, readCov_all, Memref.IsWhole.read_unread, h6, ↓reduceIte]); (try first | rw [if_pos h2] | rw [if_neg h2]); try rfl
    isplitl [H12]
    · iexists _; isplitr; swap; · iexact H12
      ipureintro; (try simp only [writes_all, readAt_all, readCov_all, Memref.IsWhole.read_unread, h6, ↓reduceIte]); (try first | rw [if_pos h2] | rw [if_neg h2]); try rfl
    isplitl [HS0]
    · iexists _; isplitr; swap; · iexact HS0
      ipureintro; (try simp only [writes_all, readAt_all, readCov_all, Memref.IsWhole.read_unread, h6, ↓reduceIte]); (try first | rw [if_pos h2] | rw [if_neg h2]); try rfl
    iexists _; isplitr; swap; · iexact HS1
    ipureintro; (try simp only [writes_all, readAt_all, readCov_all, Memref.IsWhole.read_unread, h6, ↓reduceIte]); (try first | rw [if_pos h2] | rw [if_neg h2]); try rfl

end Cert.KernelIdeal.Bwd

end
-- ==== Proof.Bwd.RunCtx.lean ====
module

public import proofs.«01_k».proof.Proof.Bwd.Steps

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- A store into part of a buffer, of a function of what that part held after a store over the whole of it. -/
theorem read_step_over {sp : Space} {s : Shape} {e : EltTy} (v : View sig .tc sp s e) (f : v.ty.Contents (Elt F)) {off off' size o : Fin s.rank → ℕ}
    (inb : ∀ a, off a + size a ≤ s.size a) (h : off = off') (inb' : ∀ a, off' a + size a ≤ s.size a)
    (inbo : ∀ a, o a + s.size a ≤ s.size a) (Z : s.Idx → Elt F e)
    (g : (((a : Fin s.rank) → Fin (size a)) → Elt F e) → ((a : Fin s.rank) → Fin (size a)) → Elt F e) :
    v.read (Elt F) (v.writes (Elt F) f [(⟨Rect.unit off size inb, g (v.readAt (Elt F) (Rect.unit off size inb).toLoadRect (v.writes (Elt F) f [(⟨Rect.unit o s.size inbo, Z⟩ : View.Piece (Elt F) s e)]))⟩ : View.Piece (Elt F) s e), ⟨Rect.unit o s.size inbo, Z⟩])
      = VecWindow.put Z off' size (g (VecWindow.window Z off' size inb')) := by
  subst h
  rw [View.read_writes_cons_put v f inb _ _ rfl, View.read_writes_full, View.readAt_unit v _ inb rfl inb, View.read_writes_full]

set_option maxHeartbeats 8000000 in
/-- The body at a point over the context's keys: the query gradient's rows and the first 256 rows of the two scratch
    sums take their step (the whole block and the scratch from zero at the first tile of queries), and at the last tile
    of queries the scratch sums are stored. -/
theorem run_ctx (c : Dev nD) (i : grid0.Coords)
    (arg3 : Memref sig .tc .vmem S1x1024x96 .f32) (harg3 : arg3.IsWhole)
    (arg4 : Memref sig .tc .vmem S1x1024x96 .f32) (harg4 : arg4.IsWhole)
    (arg5 : Memref sig .tc .vmem S1x1024x64 .f32) (harg5 : arg5.IsWhole)
    (arg6 : Memref sig .tc .vmem S1x256x96 .f32) (harg6 : arg6.IsWhole)
    (arg7 : Memref sig .tc .vmem S1x256x64 .f32) (harg7 : arg7.IsWhole)
    (arg8 : Memref sig .tc .vmem S1x1024x64 .f32) (harg8 : arg8.IsWhole)
    (arg9 : Memref sig .tc .vmem S1x1024x1 .f32) (harg9 : arg9.IsWhole)
    (arg10 : Memref sig .tc .vmem S1x1024x64 .f32) (harg10 : arg10.IsWhole)
    (arg11 : Memref sig .tc .vmem S1x8192x96 .f32) (harg11 : arg11.IsWhole)
    (arg12 : Memref sig .tc .vmem S1x1024x96 .f32) (harg12 : arg12.IsWhole)
    (arg13 : Memref sig .tc .vmem S1x1024x64 .f32) (harg13 : arg13.IsWhole)
    (arg14 : Memref sig .tc .vmem S1x256x96 .f32) (harg14 : arg14.IsWhole)
    (arg15 : Memref sig .tc .vmem S1x256x64 .f32) (harg15 : arg15.IsWhole)
    (arg16 : Memref sig .tc .vmem S1024x96 .f32) (harg16 : arg16.IsWhole)
    (arg17 : Memref sig .tc .vmem S1024x64 .f32) (harg17 : arg17.IsWhole)
    (h1 : k0_cond1 i = 1#1 ↔ isFirst i) (h3 : k0_cond3 i = 1#1) (h4 : ¬ k0_cond4 i = 1#1) (h6 : ¬ k0_cond6 i = 1#1) (h25 : isFirst i → ¬ k0_cond5 i = 1#1)
    (x0 : Vec F S1x1024x96 .f32)
    (x1 : Vec F S1x1024x96 .f32)
    (x2 : Vec F S1x1024x64 .f32)
    (x3 : Vec F S1x256x96 .f32)
    (x4 : Vec F S1x256x64 .f32)
    (x5 : Vec F S1x1024x64 .f32)
    (x6 : Vec F S1x1024x1 .f32)
    (x7 : Vec F S1x1024x64 .f32)
    (y8 : Vec F S1x8192x96 .f32) (y9 : Vec F S1x1024x96 .f32) (y10 : Vec F S1x1024x64 .f32) (y11 : Vec F S1x256x96 .f32) (y12 : Vec F S1x256x64 .f32) (s0 : Vec F S1024x96 .f32) (s1 : Vec F S1024x64 .f32)
    (E : Set ℕ) (K : PUnit → sProp 𝕄) :
    iprop(bufs (c : Thread nD τ) arg3 arg4 arg5 arg6 arg7 arg8 arg9 arg10 arg11 arg12 arg13 arg14 arg15 arg16 arg17 x0 x1 x2 x3 x4 x5 x6 x7 y8 y9 y10 y11 y12 s0 s1
        ∗ (bufs (c : Thread nD τ) arg3 arg4 arg5 arg6 arg7 arg8 arg9 arg10 arg11 arg12 arg13 arg14 arg15 arg16 arg17 x0 x1 x2 x3 x4 x5 x6 x7 (VecWindow.put (if isFirst i then k0_pay1 else y8) (offQ i) ![1, 1024, 96] (dqC x0 x3 x4 x5 x6 x7 (VecWindow.window (if isFirst i then k0_pay1 else y8) (offQ i) ![1, 1024, 96] (offQ_inb i)))) y9 y10 (if k0_cond5 i = 1#1 then k0_pay10 (dkC x0 x3 x4 x5 x6 x7 (VecWindow.window (if isFirst i then k0_pay2 else s0) ![0, 0] ![256, 96] top96_inb)) else y11) (if k0_cond5 i = 1#1 then k0_pay11 (dvC x0 x3 x6 x7 (VecWindow.window (if isFirst i then k0_pay3 else s1) ![0, 0] ![256, 64] top64_inb)) else y12) (VecWindow.put (if isFirst i then k0_pay2 else s0) ![0, 0] ![256, 96] (dkC x0 x3 x4 x5 x6 x7 (VecWindow.window (if isFirst i then k0_pay2 else s0) ![0, 0] ![256, 96] top96_inb))) (VecWindow.put (if isFirst i then k0_pay3 else s1) ![0, 0] ![256, 64] (dvC x0 x3 x6 x7 (VecWindow.window (if isFirst i then k0_pay3 else s1) ![0, 0] ![256, 64] top64_inb))) -∗ K ⟨⟩))
      ⊢ wp frame (wpE (defs₀ (F := F)) Variants.none c none) E (cc0_mla_lat_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_lat_bwd_eq_skeleton]; unfold cc0_mla_lat_bwd_skel
  simp only [k0_part1_eq_skeleton, k0_part2_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hfs0; obtain rfl := harg17.eq_unread hfs1
  by_cases h2 : isFirst i <;> by_cases h5 : k0_cond5 i = 1#1
  · exact absurd h5 (h25 h2)
  all_goals
    first
    | have h1' : k0_cond1 i = 1#1 := h1.mpr h2
    | have h1' : ¬ k0_cond1 i = 1#1 := fun h => h2 (h1.mp h)
    sl_exec (disch := first | sl_exact h1' | sl_exact h2 | sl_exact h3 | sl_exact h4 | sl_exact h5 | sl_exact h6)
    sl_step
    iapply Hk
    sl_unfold_words
    isplitl [H0]
    · iexists _; isplitr; swap; · iexact H0
      ipureintro; exact harg3.read_unread _
    isplitl [H1]
    · iexists _; isplitr; swap; · iexact H1
      ipureintro; exact harg4.read_unread _
    isplitl [H2]
    · iexists _; isplitr; swap; · iexact H2
      ipureintro; exact harg5.read_unread _
    isplitl [H3]
    · iexists _; isplitr; swap; · iexact H3
      ipureintro; exact harg6.read_unread _
    isplitl [H4]
    · iexists _; isplitr; swap; · iexact H4
      ipureintro; exact harg7.read_unread _
    isplitl [H5]
    · iexists _; isplitr; swap; · iexact H5
      ipureintro; exact harg8.read_unread _
    isplitl [H6]
    · iexists _; isplitr; swap; · iexact H6
      ipureintro; exact harg9.read_unread _
    isplitl [H7]
    · iexists _; isplitr; swap; · iexact H7
      ipureintro; exact harg10.read_unread _
    isplitl [H8]
    · iexists _; isplitr; swap; · iexact H8
      ipureintro; (try simp only [readAt_all, Memref.IsWhole.read_unread]); first | (rw [if_pos h2]; exact read_step_over arg11.view arg11.view.junk _ (k0_off1_eq i) (offQ_inb i) _ k0_pay1 (dqC x0 x3 x4 x5 x6 x7)) | (rw [if_neg h2]; refine (read_step arg11.view (harg11.unread y8) _ (k0_off1_eq i) (offQ_inb i) (dqC x0 x3 x4 x5 x6 x7)).trans ?_; rw [hf8] <;> rfl)
    isplitl [H9]
    · iexists _; isplitr; swap; · iexact H9
      ipureintro; (try simp only [writes_all, readAt_all, View.readCov_cons_toLoadRect, Memref.IsWhole.read_unread, h5, ↓reduceIte]); (try first | rw [if_pos h2] | rw [if_neg h2]); try first | (rw [View.readAt_unit arg16.view (harg16.unread s0) _ rfl top96_inb, hfs0]; rfl) | (rw [View.readAt_unit arg17.view (harg17.unread s1) _ rfl top64_inb, hfs1]; rfl) | rfl
    isplitl [H10]
    · iexists _; isplitr; swap; · iexact H10
      ipureintro; (try simp only [writes_all, readAt_all, View.readCov_cons_toLoadRect, Memref.IsWhole.read_unread, h5, ↓reduceIte]); (try first | rw [if_pos h2] | rw [if_neg h2]); try first | (rw [View.readAt_unit arg16.view (harg16.unread s0) _ rfl top96_inb, hfs0]; rfl) | (rw [View.readAt_unit arg17.view (harg17.unread s1) _ rfl top64_inb, hfs1]; rfl) | rfl
    isplitl [H11]
    · iexists _; isplitr; swap; · iexact H11
      ipureintro; (try simp only [writes_all, readAt_all, View.readCov_cons_toLoadRect, Memref.IsWhole.read_unread, h5, ↓reduceIte]); (try first | rw [if_pos h2] | rw [if_neg h2]); try first | (rw [View.readAt_unit arg16.view (harg16.unread s0) _ rfl top96_inb, hfs0]; rfl) | (rw [View.readAt_unit arg17.view (harg17.unread s1) _ rfl top64_inb, hfs1]; rfl) | rfl
    isplitl [H12]
    · iexists _; isplitr; swap; · iexact H12
      ipureintro; (try simp only [writes_all, readAt_all, View.readCov_cons_toLoadRect, Memref.IsWhole.read_unread, h5, ↓reduceIte]); (try first | rw [if_pos h2] | rw [if_neg h2]); try first | (rw [View.readAt_unit arg16.view (harg16.unread s0) _ rfl top96_inb, hfs0]; rfl) | (rw [View.readAt_unit arg17.view (harg17.unread s1) _ rfl top64_inb, hfs1]; rfl) | rfl
    isplitl [HS0]
    · iexists _; isplitr; swap; · iexact HS0
      ipureintro; (try simp only [readAt_all, Memref.IsWhole.read_unread]); first | (rw [if_pos h2]; exact read_step_after arg16.view (harg16.unread s0) _ rfl top96_inb _ (by intro a; fin_cases a <;> rfl) k0_pay2 (dkC x0 x3 x4 x5 x6 x7)) | (rw [if_neg h2]; refine (read_step arg16.view (harg16.unread s0) _ rfl top96_inb (dkC x0 x3 x4 x5 x6 x7)).trans ?_; rw [hfs0] <;> rfl)
    iexists _; isplitr; swap; · iexact HS1
    ipureintro; (try simp only [readAt_all, Memref.IsWhole.read_unread]); first | (rw [if_pos h2]; exact read_step_after arg17.view (harg17.unread s1) _ rfl top64_inb _ (by intro a; fin_cases a <;> rfl) k0_pay3 (dvC x0 x3 x6 x7)) | (rw [if_neg h2]; refine (read_step arg17.view (harg17.unread s1) _ rfl top64_inb (dvC x0 x3 x6 x7)).trans ?_; rw [hfs1] <;> rfl)

end Cert.KernelIdeal.Bwd

end
-- ==== Proof.Bwd.Data.lean ====
module

public import proofs.«01_k».proof.Proof.Bwd.State
public import proofs.«01_k».proof.Proof.Bwd.RunMain
public import proofs.«01_k».proof.Proof.Bwd.RunCtx
public import Idealize.ShloMosaic.Lib.Pipeline.DatRel
public import Idealize.ShloMosaic.Lib.Pipeline.ArrRel

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat RDat Cfg)

variable {F : FTy → Type} [FloatOps F] [Named F]

local notation "𝕄" => MT nD τ sig Unit (Elt F) ℕ (UR sig nD τ) ℕ

/-! # What holds at each point, and the body's obligation -/

variable (m : (ℓ : Loc nD τ sig) → Buf (Elt F) ℓ) (c : Dev nD)

/-- The windows' buffers at a point. -/
abbrev ms0 (t : Fin cfg0.N) : Memref sig .tc .vmem S1x1024x96 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x96 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1024x64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8192x96 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1024x96 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1024x64 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x256x96 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x256x64 .f32 := win0_12.stage (cfg0.slots t 12)
abbrev hs12 (t : Fin cfg0.N) : (ms12 t).IsWhole := hstage0_12 ((cfg0.slots t 12).cast nbuf0_12)
abbrev sc0 : Memref sig .tc .vmem S1024x96 .f32 := Memref.whole cc0_scratch0
abbrev sc1 : Memref sig .tc .vmem S1024x64 .f32 := Memref.whole cc0_scratch1

/-- What the context keys' gradient output holds once it is stored, for the head a point belongs to. -/
def outK (n : ℕ) : Vec F S1x256x96 .f32 := k0_pay10 (ctxA m c (pt (ctxLast n)) (preA m c (ctxLast n)))

/-- What the context values' gradient output holds once it is stored. -/
def outV (n : ℕ) : Vec F S1x256x64 .f32 := k0_pay11 (ctxB m c (pt (ctxLast n)) (preB m c (ctxLast n)))

/-- What the body leaves in each output's buffer at a point, where that is fixed: the query gradient's block at every
    point, a key tile's gradients at the last tile of queries, the context's from its last tile of queries on. -/
def Rl (w : Fin cfg0.W) (t : Fin cfg0.N) (X : (cfg0.win w).block.Idx → Elt F (cfg0.win w).elt) : Prop :=
  match w, X with
  | ⟨8, _⟩, X => X = stD m c t.val
  | ⟨9, _⟩, X => (t.val % 8 = 7 ∧ ¬ t.val / 8 % 9 = 0) → X = k0_pay12 (stA m c t.val)
  | ⟨10, _⟩, X => (t.val % 8 = 7 ∧ ¬ t.val / 8 % 9 = 0) → X = k0_pay13 (stB m c t.val)
  | ⟨11, _⟩, X => 7 ≤ t.val % 72 → X = outK m c t.val
  | ⟨12, _⟩, X => 7 ≤ t.val % 72 → X = outV m c t.val
  | _, _ => True

/-- The five outputs. -/
def isOut (w : Fin cfg0.W) : Bool := decide (8 ≤ w.val)

/-- Between points: the two scratch sums are those of the point before, unless the next point starts them anew. -/
def Held (n : ℕ) : sProp 𝕄 :=
  iprop(∃ s0 s1, ⌜n % 8 ≠ 0 → s0 = stA m c (n - 1) ∧ s1 = stB m c (n - 1)⌝
    ∗ owns (c : Thread nD τ) sc0 fullShare s0 ∗ owns (c : Thread nD τ) sc1 fullShare s1 ∗ (∃ r, prngReg c r))

/-- The data of the pipeline: each input's buffer holds its block; between points the two scratch sums are those of
    the point before, unless the next point starts them anew. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | w => Pipeline.Dat.unnamed (cfg := cfg0) w t
  Φ t := Held m c t.val
  q _ := fullShare
  owed _ := 0

/-- The same data with the outputs held to `Rl`. -/
abbrev rel : RDat τ (Elt F) Unit ℕ (UR sig nD τ) ℕ cfg0 c := (dat m c).toRRel isOut (Rl m c)

theorem A_eq (w : Fin cfg0.W) : (dat m c).A w = V m c (Pipeline.arrRef spec0 w) := by dsimp only [dat]

variable {m c}

/-- The point before. -/
def prev (t : Fin cfg0.N) : Fin cfg0.N := ⟨t.val - 1, Nat.lt_of_le_of_lt (Nat.sub_le _ _) t.isLt⟩

/-- Within a head the query gradient's block is found as the point before left it. -/
theorem found8 {t : Fin cfg0.N} {Y} (h : (rel m c).Finds 8 t Y) (ht : t.val % 72 ≠ 0) : Y = stD m c (t.val - 1) := by
  rcases ((rel m c).finds_of_pos (w := 8) rfl (fun h0 => ht (by rw [h0])) Y).mp h with hf | hl
  · have := (flush0_8 _).mp hf
    simp only at this; omega
  · exact (dat m c).toRRel_leaves (w := 8) rfl hl

/-- Once stored the context's gradients stay to the end of the head. -/
theorem found11 {t : Fin cfg0.N} {Y} (h : (rel m c).Finds 11 t Y) (ht : 8 ≤ t.val % 72) : Y = outK m c t.val := by
  rcases ((rel m c).finds_of_pos (w := 11) rfl (fun h0 => by rw [h0] at ht; omega) Y).mp h with hf | hl
  · have := (flush0_11 _).mp hf
    simp only at this; omega
  · have h1 := (dat m c).toRRel_leaves (w := 11) rfl hl
    have h2 : Y = outK m c (t.val - 1) := h1 (show 7 ≤ (t.val - 1) % 72 by omega)
    rw [h2]; unfold outK ctxLast
    rw [show (t.val - 1) / 72 = t.val / 72 by omega]

theorem found12 {t : Fin cfg0.N} {Y} (h : (rel m c).Finds 12 t Y) (ht : 8 ≤ t.val % 72) : Y = outV m c t.val := by
  rcases ((rel m c).finds_of_pos (w := 12) rfl (fun h0 => by rw [h0] at ht; omega) Y).mp h with hf | hl
  · have := (flush0_12 _).mp hf
    simp only at this; omega
  · have h1 := (dat m c).toRRel_leaves (w := 12) rfl hl
    have h2 : Y = outV m c (t.val - 1) := h1 (show 7 ≤ (t.val - 1) % 72 by omega)
    rw [h2]; unfold outV ctxLast
    rw [show (t.val - 1) / 72 = t.val / 72 by omega]

/-- What the first tile of queries starts from, and what a later one goes on from. -/
theorem pre_A {t : Fin cfg0.N} {s : Vec F S1024x96 .f32} (h : t.val % 8 ≠ 0 → s = stA m c (t.val - 1)) :
    (if isFirst (grid0.coords t) then k0_pay2 else s) = preA m c t.val := by
  unfold preA
  by_cases h8 : t.val % 8 = 0
  · rw [if_pos ((first_iff t).mpr h8), if_pos h8]
  · rw [if_neg (fun h' => h8 ((first_iff t).mp h')), if_neg h8, h h8]
theorem pre_B {t : Fin cfg0.N} {s : Vec F S1024x64 .f32} (h : t.val % 8 ≠ 0 → s = stB m c (t.val - 1)) :
    (if isFirst (grid0.coords t) then k0_pay3 else s) = preB m c t.val := by
  unfold preB
  by_cases h8 : t.val % 8 = 0
  · rw [if_pos ((first_iff t).mpr h8), if_pos h8]
  · rw [if_neg (fun h' => h8 ((first_iff t).mp h')), if_neg h8, h h8]
theorem pre_D {t : Fin cfg0.N} (hj : t.val / 8 % 9 = 0) {Y : Vec F S1x8192x96 .f32} (h : t.val % 72 ≠ 0 → Y = stD m c (t.val - 1)) :
    (if isFirst (grid0.coords t) then k0_pay1 else Y) = preD m c t.val := by
  unfold preD
  by_cases h8 : t.val % 8 = 0
  · rw [if_pos ((first_iff t).mpr h8), if_pos (by omega)]
  · rw [if_neg (fun h' => h8 ((first_iff t).mp h')), if_neg (by omega), h (by omega)]

theorem after_main_D {t : Fin cfg0.N} (hj : ¬ t.val / 8 % 9 = 0) {Y : Vec F S1x8192x96 .f32} (h : t.val % 72 ≠ 0 → Y = stD m c (t.val - 1)) :
    VecWindow.put Y (offQ (grid0.coords t)) ![1, 1024, 96] (dqM (X0 m c t) (X1 m c t) (X2 m c t) (X5 m c t) (X6 m c t) (X7 m c t)
      (VecWindow.window Y (offQ (grid0.coords t)) ![1, 1024, 96] (offQ_inb _))) = stD m c t.val := by
  have h72 : t.val % 72 ≠ 0 := by omega
  rw [stD_eq, stepD, if_neg hj, preD, if_neg h72, h h72]
theorem after_main_A {t : Fin cfg0.N} (hj : ¬ t.val / 8 % 9 = 0) {s : Vec F S1024x96 .f32} (h : t.val % 8 ≠ 0 → s = stA m c (t.val - 1)) :
    dkM (X0 m c t) (X1 m c t) (X2 m c t) (X5 m c t) (X6 m c t) (X7 m c t) (if isFirst (grid0.coords t) then k0_pay2 else s) = stA m c t.val := by
  rw [stA_eq, stepA, if_neg hj, pre_A h]
theorem after_main_B {t : Fin cfg0.N} (hj : ¬ t.val / 8 % 9 = 0) {s : Vec F S1024x64 .f32} (h : t.val % 8 ≠ 0 → s = stB m c (t.val - 1)) :
    dvM (X0 m c t) (X1 m c t) (X6 m c t) (X7 m c t) (if isFirst (grid0.coords t) then k0_pay3 else s) = stB m c t.val := by
  rw [stB_eq, stepB, if_neg hj, pre_B h]
theorem after_ctx_D {t : Fin cfg0.N} (hj : t.val / 8 % 9 = 0) {Y : Vec F S1x8192x96 .f32} (h : t.val % 72 ≠ 0 → Y = stD m c (t.val - 1)) :
    VecWindow.put (if isFirst (grid0.coords t) then k0_pay1 else Y) (offQ (grid0.coords t)) ![1, 1024, 96] (dqC (X0 m c t) (X3 m c t) (X4 m c t) (X5 m c t) (X6 m c t) (X7 m c t)
      (VecWindow.window (if isFirst (grid0.coords t) then k0_pay1 else Y) (offQ (grid0.coords t)) ![1, 1024, 96] (offQ_inb _))) = stD m c t.val := by
  rw [stD_eq, stepD, if_pos hj, pre_D hj h]
theorem after_ctx_A {t : Fin cfg0.N} (hj : t.val / 8 % 9 = 0) {s : Vec F S1024x96 .f32} (h : t.val % 8 ≠ 0 → s = stA m c (t.val - 1)) :
    VecWindow.put (if isFirst (grid0.coords t) then k0_pay2 else s) ![0, 0] ![256, 96] (dkC (X0 m c t) (X3 m c t) (X4 m c t) (X5 m c t) (X6 m c t) (X7 m c t)
      (VecWindow.window (if isFirst (grid0.coords t) then k0_pay2 else s) ![0, 0] ![256, 96] top96_inb)) = stA m c t.val := by
  rw [stA_eq, stepA, if_pos hj, pre_A h, ctxA]
theorem after_ctx_B {t : Fin cfg0.N} (hj : t.val / 8 % 9 = 0) {s : Vec F S1024x64 .f32} (h : t.val % 8 ≠ 0 → s = stB m c (t.val - 1)) :
    VecWindow.put (if isFirst (grid0.coords t) then k0_pay3 else s) ![0, 0] ![256, 64] (dvC (X0 m c t) (X3 m c t) (X6 m c t) (X7 m c t)
      (VecWindow.window (if isFirst (grid0.coords t) then k0_pay3 else s) ![0, 0] ![256, 64] top64_inb)) = stB m c t.val := by
  rw [stB_eq, stepB, if_pos hj, pre_B h, ctxB]

/-- The context's gradients as stored at its last tile of queries, and as they stay. -/
theorem after_ctx_K {t : Fin cfg0.N} (hj : t.val / 8 % 9 = 0) {s : Vec F S1024x96 .f32} (h : t.val % 8 ≠ 0 → s = stA m c (t.val - 1)) (Y : Vec F S1x256x96 .f32) :
    7 ≤ t.val % 72 → (if k0_cond5 (grid0.coords t) = 1#1 then k0_pay10 (dkC (X0 m c t) (X3 m c t) (X4 m c t) (X5 m c t) (X6 m c t) (X7 m c t)
      (VecWindow.window (if isFirst (grid0.coords t) then k0_pay2 else s) ![0, 0] ![256, 96] top96_inb)) else Y) = outK m c t.val := fun h7 => by
  have e : t.val % 72 = 7 := by omega
  have ec : ctxLast t.val = t.val := by unfold ctxLast; omega
  rw [if_pos ((cond5_iff t).mpr e), pre_A h, outK, ec, pt_val, ctxA]
theorem after_ctx_V {t : Fin cfg0.N} (hj : t.val / 8 % 9 = 0) {s : Vec F S1024x64 .f32} (h : t.val % 8 ≠ 0 → s = stB m c (t.val - 1)) (Y : Vec F S1x256x64 .f32) :
    7 ≤ t.val % 72 → (if k0_cond5 (grid0.coords t) = 1#1 then k0_pay11 (dvC (X0 m c t) (X3 m c t) (X6 m c t) (X7 m c t)
      (VecWindow.window (if isFirst (grid0.coords t) then k0_pay3 else s) ![0, 0] ![256, 64] top64_inb)) else Y) = outV m c t.val := fun h7 => by
  have e : t.val % 72 = 7 := by omega
  have ec : ctxLast t.val = t.val := by unfold ctxLast; omega
  rw [if_pos ((cond5_iff t).mpr e), pre_B h, outV, ec, pt_val, ctxB]

variable (m c)

/-- What the body is handed at a point, window by window. -/
def bodyPre (t : Fin cfg0.N) : sProp 𝕄 := iprop((dat m c).Φ t.castSucc ∗ (dat m c).owesAt () t.castSucc ∗ (∃ d, owns (c : Thread nD τ) (ms0 t) fullShare ((dat m c).before 0 t d)) ∗ (∃ d, owns (c : Thread nD τ) (ms1 t) fullShare ((dat m c).before 1 t d)) ∗ (∃ d, owns (c : Thread nD τ) (ms2 t) fullShare ((dat m c).before 2 t d)) ∗ (∃ d, owns (c : Thread nD τ) (ms3 t) fullShare ((dat m c).before 3 t d)) ∗ (∃ d, owns (c : Thread nD τ) (ms4 t) fullShare ((dat m c).before 4 t d)) ∗ (∃ d, owns (c : Thread nD τ) (ms5 t) fullShare ((dat m c).before 5 t d)) ∗ (∃ d, owns (c : Thread nD τ) (ms6 t) fullShare ((dat m c).before 6 t d)) ∗ (∃ d, owns (c : Thread nD τ) (ms7 t) fullShare ((dat m c).before 7 t d)) ∗ (∃ Y, ⌜(rel m c).Finds 8 t Y⌝ ∗ owns (c : Thread nD τ) (ms8 t) fullShare Y) ∗ (∃ Y, ⌜(rel m c).Finds 9 t Y⌝ ∗ owns (c : Thread nD τ) (ms9 t) fullShare Y) ∗ (∃ Y, ⌜(rel m c).Finds 10 t Y⌝ ∗ owns (c : Thread nD τ) (ms10 t) fullShare Y) ∗ (∃ Y, ⌜(rel m c).Finds 11 t Y⌝ ∗ owns (c : Thread nD τ) (ms11 t) fullShare Y) ∗ (∃ Y, ⌜(rel m c).Finds 12 t Y⌝ ∗ owns (c : Thread nD τ) (ms12 t) fullShare Y))

/-- What it hands back. -/
def bodyPost (t : Fin cfg0.N) : sProp 𝕄 := iprop((dat m c).Φ t.succ ∗ (dat m c).owesAt () t.succ ∗ owns (c : Thread nD τ) (ms0 t) fullShare ((dat m c).after 0 t) ∗ owns (c : Thread nD τ) (ms1 t) fullShare ((dat m c).after 1 t) ∗ owns (c : Thread nD τ) (ms2 t) fullShare ((dat m c).after 2 t) ∗ owns (c : Thread nD τ) (ms3 t) fullShare ((dat m c).after 3 t) ∗ owns (c : Thread nD τ) (ms4 t) fullShare ((dat m c).after 4 t) ∗ owns (c : Thread nD τ) (ms5 t) fullShare ((dat m c).after 5 t) ∗ owns (c : Thread nD τ) (ms6 t) fullShare ((dat m c).after 6 t) ∗ owns (c : Thread nD τ) (ms7 t) fullShare ((dat m c).after 7 t) ∗ (∃ X, ⌜Rl m c 8 t X⌝ ∗ owns (c : Thread nD τ) (ms8 t) fullShare X) ∗ (∃ X, ⌜Rl m c 9 t X⌝ ∗ owns (c : Thread nD τ) (ms9 t) fullShare X) ∗ (∃ X, ⌜Rl m c 10 t X⌝ ∗ owns (c : Thread nD τ) (ms10 t) fullShare X) ∗ (∃ X, ⌜Rl m c 11 t X⌝ ∗ owns (c : Thread nD τ) (ms11 t) fullShare X) ∗ (∃ X, ⌜Rl m c 12 t X⌝ ∗ owns (c : Thread nD τ) (ms12 t) fullShare X))

set_option maxHeartbeats 4000000 in
/-- The body at a point over a tile of keys. -/
theorem body_main (t : Fin cfg0.N) (hj : ¬ t.val / 8 % 9 = 0) :
    bodyPre m c t ⊢ wp frame (wpE (defs₀ (F := F)) Variants.none c none) Set.univ (bodyAt0 t) (fun _ => bodyPost m c t) := by
  unfold bodyPre bodyPost bodyAt0
  simp only [before0_0_of m (dat m c) (A_eq m c 0) (fun _ => rfl), before0_1_of m (dat m c) (A_eq m c 1) (fun _ => rfl), before0_2_of m (dat m c) (A_eq m c 2) (fun _ => rfl), before0_3_of m (dat m c) (A_eq m c 3) (fun _ => rfl), before0_4_of m (dat m c) (A_eq m c 4) (fun _ => rfl), before0_5_of m (dat m c) (A_eq m c 5) (fun _ => rfl), before0_6_of m (dat m c) (A_eq m c 6) (fun _ => rfl), before0_7_of m (dat m c) (A_eq m c 7) (fun _ => rfl)]
  rw [show (dat m c).owesAt () t.succ = (dat m c).owesAt () t.castSucc from rfl,
    show (dat m c).Φ t.castSucc = Held m c t.val from rfl, show (dat m c).Φ t.succ = Held m c (t.val + 1) from rfl]
  unfold Held
  iintro ⟨⟨%s0, %s1, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩, ⟨%Y11, %h11, H11⟩, ⟨%Y12, %h12, H12⟩⟩
  have hA : t.val % 8 ≠ 0 → s0 = stA m c (t.val - 1) := fun h => (hs h).1
  have hB : t.val % 8 ≠ 0 → s1 = stB m c (t.val - 1) := fun h => (hs h).2
  iapply (run_main c (grid0.coords t) _ _ _ _ _ _ _ _ _ _ _ _ _ _ _ _ _ _ _ _ _ _ _ _ _ _ _ _ _ _ (fun h => absurd ((cond1_iff t).mp h) (by omega)) (fun h => hj ((cond3_iff t).mp h)) ((cond4_iff t).mpr hj) (fun h => absurd ((cond5_iff t).mp h) (by omega)) (X0 m c t) (X1 m c t) (X2 m c t) (X3 m c t) (X4 m c t) (X5 m c t) (X6 m c t) (X7 m c t) Y8 Y9 Y10 Y11 Y12 s0 s1 Set.univ _)
  unfold bufs
  isplitr [Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iintro ⟨H0, H1, H2, H3, H4, H5, H6, H7, H8, H9, H10, H11, H12, HS0, HS1⟩
  isplitl [HS0 HS1 Hg]
  · iexists _; iexists _; isplitr; swap
    · isplitl [HS0]; · iexact HS0
      isplitl [HS1]; · iexact HS1
      iexact Hg
    ipureintro
    exact fun _ => ⟨after_main_A hj hA, after_main_B hj hB⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact after_main_D hj (found8 h8)
  isplitl [H9]
  · iexists _; isplitr; swap; · iexact H9
    ipureintro; exact fun h => (if_pos ((cond6_iff t).mpr h)).trans (congrArg k0_pay12 (after_main_A hj hA))
  isplitl [H10]
  · iexists _; isplitr; swap; · iexact H10
    ipureintro; exact fun h => (if_pos ((cond6_iff t).mpr h)).trans (congrArg k0_pay13 (after_main_B hj hB))
  isplitl [H11]
  · iexists _; isplitr; swap; · iexact H11
    ipureintro; exact fun _ => found11 h11 (by omega)
  iexists _; isplitr; swap; · iexact H12
  ipureintro; exact fun _ => found12 h12 (by omega)

set_option maxHeartbeats 4000000 in
/-- The body at a point over the context's keys. -/
theorem body_ctx (t : Fin cfg0.N) (hj : t.val / 8 % 9 = 0) :
    bodyPre m c t ⊢ wp frame (wpE (defs₀ (F := F)) Variants.none c none) Set.univ (bodyAt0 t) (fun _ => bodyPost m c t) := by
  unfold bodyPre bodyPost bodyAt0
  simp only [before0_0_of m (dat m c) (A_eq m c 0) (fun _ => rfl), before0_1_of m (dat m c) (A_eq m c 1) (fun _ => rfl), before0_2_of m (dat m c) (A_eq m c 2) (fun _ => rfl), before0_3_of m (dat m c) (A_eq m c 3) (fun _ => rfl), before0_4_of m (dat m c) (A_eq m c 4) (fun _ => rfl), before0_5_of m (dat m c) (A_eq m c 5) (fun _ => rfl), before0_6_of m (dat m c) (A_eq m c 6) (fun _ => rfl), before0_7_of m (dat m c) (A_eq m c 7) (fun _ => rfl)]
  rw [show (dat m c).owesAt () t.succ = (dat m c).owesAt () t.castSucc from rfl,
    show (dat m c).Φ t.castSucc = Held m c t.val from rfl, show (dat m c).Φ t.succ = Held m c (t.val + 1) from rfl]
  unfold Held
  iintro ⟨⟨%s0, %s1, %hs, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %h8, H8⟩, ⟨%Y9, %h9, H9⟩, ⟨%Y10, %h10, H10⟩, ⟨%Y11, %h11, H11⟩, ⟨%Y12, %h12, H12⟩⟩
  have hA : t.val % 8 ≠ 0 → s0 = stA m c (t.val - 1) := fun h => (hs h).1
  have hB : t.val % 8 ≠ 0 → s1 = stB m c (t.val - 1) := fun h => (hs h).2
  iapply (run_ctx c (grid0.coords t) _ _ _ _ _ _ _ _ _ _ _ _ _ _ _ _ _ _ _ _ _ _ _ _ _ _ _ _ _ _ ⟨fun h => (first_iff t).mpr (by have := (cond1_iff t).mp h; omega), fun h => (cond1_iff t).mpr (by have := (first_iff t).mp h; omega)⟩ ((cond3_iff t).mpr hj) (fun h => (cond4_iff t).mp h hj) (fun h => ((cond6_iff t).mp h).2 hj) (fun h h' => by have := (first_iff t).mp h; have := (cond5_iff t).mp h'; omega) (X0 m c t) (X1 m c t) (X2 m c t) (X3 m c t) (X4 m c t) (X5 m c t) (X6 m c t) (X7 m c t) Y8 Y9 Y10 Y11 Y12 s0 s1 Set.univ _)
  unfold bufs
  isplitr [Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    iexact HS1
  iintro ⟨H0, H1, H2, H3, H4, H5, H6, H7, H8, H9, H10, H11, H12, HS0, HS1⟩
  isplitl [HS0 HS1 Hg]
  · iexists _; iexists _; isplitr; swap
    · isplitl [HS0]; · iexact HS0
      isplitl [HS1]; · iexact HS1
      iexact Hg
    ipureintro
    exact fun _ => ⟨after_ctx_A hj hA, after_ctx_B hj hB⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; · iexact H8
    ipureintro; exact after_ctx_D hj (found8 h8)
  isplitl [H9]
  · iexists _; isplitr; swap; · iexact H9
    ipureintro; exact fun h => absurd hj h.2
  isplitl [H10]
  · iexists _; isplitr; swap; · iexact H10
    ipureintro; exact fun h => absurd hj h.2
  isplitl [H11]
  · iexists _; isplitr; swap; · iexact H11
    ipureintro; exact after_ctx_K hj hA Y11
  iexists _; isplitr; swap; · iexact H12
  ipureintro; exact after_ctx_V hj hB Y12

/-- The body's obligation at every point. -/
theorem body_rel : Pipeline.BodyObligationRel (dat m c) (defs₀ (F := F)) Variants.none () Set.univ isOut (Rl m c) := fun t => by
  rw [bigSep_W0, bigSep_W0, show defs₀ (F := F) .tc cfg0.body (cfg0.bodyArgs t (cfg0.slots t)) = bodyAt0 t by unfold defs₀; rw [Defs.onTc_tc]]
  by_cases hj : t.val / 8 % 9 = 0
  · exact triple_restated (body_ctx m c t hj) rfl .rfl fun _ => .rfl
  · exact triple_restated (body_main m c t hj) rfl .rfl fun _ => .rfl

end Cert.KernelIdeal.Bwd

end
-- ==== Proof.Bwd.Arrays.lean ====
module

public import proofs.«01_k».proof.Proof.Bwd.Data
public import Idealize.ShloMosaic.Lib.Pipeline.ValueKit
public import Idealize.ShloMosaic.Lib.Pointwise

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat RDat Cfg)

variable {F : FTy → Type} [FloatOps F] [Named F]

local notation "𝕄" => MT nD τ sig Unit (Elt F) ℕ (UR sig nD τ) ℕ

/-! # The run of the call, and what its five results hold -/

variable (m : (ℓ : Loc nD τ sig) → Buf (Elt F) ℓ) (ρ : Dev nD → PrngReg) (c : Dev nD)

/-- What the launch hands over besides the windows: the two scratch buffers and the generator's register. -/
theorem held_eq : (Pipeline.ΦA spec0 c : sProp 𝕄) = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The scratch is handed over at any contents, and handed back so. -/
theorem held_in : (Pipeline.ΦA spec0 c : sProp 𝕄) ⊢ Held m c 0 := by
  rw [held_eq]; unfold Held
  iintro ⟨⟨⟨%d0, H0⟩, ⟨%d1, H1⟩⟩, Hg⟩
  iexists d0; iexists d1
  isplitr
  · ipureintro; exact fun h => absurd rfl h
  isplitl [H0]; · iexact H0
  isplitl [H1]; · iexact H1
  iexact Hg
theorem held_out (n : ℕ) : Held m c n ⊢ (Pipeline.ΦA spec0 c : sProp 𝕄) := by
  rw [held_eq]; unfold Held
  iintro ⟨%d0, %d1, %hd, H0, H1, Hg⟩
  isplitl [H0 H1]
  · isplitl [H0]; · iexists d0; iexact H0
    iexists d1; iexact H1
  iexact Hg

-- the statement's data are found by unfolding plain definitions in a metavariable's type
set_option backward.isDefEq.respectTransparency.types false in
/-- The run: each array as the points left it and every counter at zero. -/
theorem run_rel : θ_run defs (onTc (τ := τ) (main (F := F))) (s₀ m ρ) (fun r => (RDat.FramePost (cfgs 0) (fun c => rel m c) (V m)) r ∧ r.2.sem = fun _ => 0) :=
  Pipeline.RDat.θ_run_frame_track (Q' := _) cfgs (0 : Fin 1) launch0 defs₀ Variants.none (fun c => rel m c) m ρ main
    (hbody := fun c => (body_rel m c).toRRel) (hshare := fun c => (dat m c).share_full fun _ => rfl)
    (howed := fun _ _ => rfl) (V := V m) (hmain := hmain m Variants.none) (hA := A_eq m)
    (hin := fun c => held_in m c) (hout := fun c => held_out m c _)

/-! ## The five results as whole arrays -/

/-- Which block of its array each result's window holds at a point. -/
theorem idx8 : ∀ t : Fin grid0.N, win0_8.index t = ![t.val / 72, 0, 0] := by decide +kernel
theorem idx9 : ∀ t : Fin grid0.N, win0_9.index t = ![t.val / 72, t.val / 8 % 9 - 1, 0] := by decide +kernel
theorem idx10 : ∀ t : Fin grid0.N, win0_10.index t = ![t.val / 72, t.val / 8 % 9 - 1, 0] := by decide +kernel
theorem idx11 : ∀ t : Fin grid0.N, win0_11.index t = ![t.val / 72, 0, 0] := by decide +kernel
theorem idx12 : ∀ t : Fin grid0.N, win0_12.index t = ![t.val / 72, 0, 0] := by decide +kernel

/-- A key tile's gradients are copied out at its last tile of queries. -/
theorem flush9 : ∀ t : Fin cfg0.N, (cfg0.win 9).flush t = true → (t.val % 8 = 7 ∧ ¬ t.val / 8 % 9 = 0) := by decide +kernel
theorem flush10 : ∀ t : Fin cfg0.N, (cfg0.win 10).flush t = true → (t.val % 8 = 7 ∧ ¬ t.val / 8 % 9 = 0) := by decide +kernel

/-- The queries' gradient: each head's at its last point. -/
def GD : Vec F S8x8192x96 .f32 := fun i => stD m c (72 * (i 0).val + 71) (ix3 0 (i 1) (i 2))

/-- The point at which the gradients of row `r` of head `h`'s keys are copied out. -/
def lastOf (h r : ℕ) : ℕ := 72 * h + 8 * (r / 1024 + 1) + 7

/-- The keys' and the values' gradients. -/
def GK : Vec F S8x8192x96 .f32 := fun i => k0_pay12 (stA m c (lastOf (i 0).val (i 1).val)) (ix3 0 ⟨(i 1).val % 1024, Nat.mod_lt _ (by decide)⟩ (i 2))
def GV : Vec F S8x8192x64 .f32 := fun i => k0_pay13 (stB m c (lastOf (i 0).val (i 1).val)) (ix3 0 ⟨(i 1).val % 1024, Nat.mod_lt _ (by decide)⟩ (i 2))

/-- The context's. -/
def GKc : Vec F S8x256x96 .f32 := fun i => outK m c (72 * (i 0).val + 71) (ix3 0 (i 1) (i 2))
def GVc : Vec F S8x256x64 .f32 := fun i => outV m c (72 * (i 0).val + 71) (ix3 0 (i 1) (i 2))

variable {m c}

/-- An entry of each, as an entry of what its window holds at the point that copies it out. -/
theorem GD_blk (i : S8x8192x96.Idx) (n : ℕ) (y : S1x8192x96.Idx) (hn : 72 * (i 0).val + 71 = n) (h1 : (i 1).val = (y 1).val) (h2 : (i 2).val = (y 2).val) :
    GD m c i = stD m c n y := by
  have e : (ix3 0 (i 1) (i 2) : S1x8192x96.Idx) = y := by
    funext a
    refine Fin.ext ?_
    match a with
    | ⟨0, _⟩ => exact (Nat.lt_one_iff.mp (y 0).isLt).symm
    | ⟨1, _⟩ => exact h1
    | ⟨2, _⟩ => exact h2
  unfold GD
  rw [hn, e]
theorem GK_blk (i : S8x8192x96.Idx) (n : ℕ) (y : S1x1024x96.Idx) (hn : lastOf (i 0).val (i 1).val = n) (h1 : (i 1).val % 1024 = (y 1).val) (h2 : (i 2).val = (y 2).val) :
    GK m c i = k0_pay12 (stA m c n) y := by
  have e : (ix3 0 ⟨(i 1).val % 1024, Nat.mod_lt _ (by decide)⟩ (i 2) : S1x1024x96.Idx) = y := by
    funext a
    refine Fin.ext ?_
    match a with
    | ⟨0, _⟩ => exact (Nat.lt_one_iff.mp (y 0).isLt).symm
    | ⟨1, _⟩ => exact h1
    | ⟨2, _⟩ => exact h2
  unfold GK
  rw [hn, e]
theorem GV_blk (i : S8x8192x64.Idx) (n : ℕ) (y : S1x1024x64.Idx) (hn : lastOf (i 0).val (i 1).val = n) (h1 : (i 1).val % 1024 = (y 1).val) (h2 : (i 2).val = (y 2).val) :
    GV m c i = k0_pay13 (stB m c n) y := by
  have e : (ix3 0 ⟨(i 1).val % 1024, Nat.mod_lt _ (by decide)⟩ (i 2) : S1x1024x64.Idx) = y := by
    funext a
    refine Fin.ext ?_
    match a with
    | ⟨0, _⟩ => exact (Nat.lt_one_iff.mp (y 0).isLt).symm
    | ⟨1, _⟩ => exact h1
    | ⟨2, _⟩ => exact h2
  unfold GV
  rw [hn, e]
theorem GKc_blk (i : S8x256x96.Idx) (n : ℕ) (y : S1x256x96.Idx) (hn : 72 * (i 0).val + 71 = n) (h1 : (i 1).val = (y 1).val) (h2 : (i 2).val = (y 2).val) :
    GKc m c i = outK m c n y := by
  have e : (ix3 0 (i 1) (i 2) : S1x256x96.Idx) = y := by
    funext a
    refine Fin.ext ?_
    match a with
    | ⟨0, _⟩ => exact (Nat.lt_one_iff.mp (y 0).isLt).symm
    | ⟨1, _⟩ => exact h1
    | ⟨2, _⟩ => exact h2
  unfold GKc
  rw [hn, e]
theorem GVc_blk (i : S8x256x64.Idx) (n : ℕ) (y : S1x256x64.Idx) (hn : 72 * (i 0).val + 71 = n) (h1 : (i 1).val = (y 1).val) (h2 : (i 2).val = (y 2).val) :
    GVc m c i = outV m c n y := by
  have e : (ix3 0 (i 1) (i 2) : S1x256x64.Idx) = y := by
    funext a
    refine Fin.ext ?_
    match a with
    | ⟨0, _⟩ => exact (Nat.lt_one_iff.mp (y 0).isLt).symm
    | ⟨1, _⟩ => exact h1
    | ⟨2, _⟩ => exact h2
  unfold GVc
  rw [hn, e]

variable {after : (w : Fin cfg0.W) → Fin cfg0.N → (cfg0.win w).block.Idx → Elt F (cfg0.win w).elt}

/-- Each result's array, from what the body left in its window at the points that copy it out. -/
theorem arr8 (hL : ∀ w u, (cfg0.win w).flush u = true → (rel m c).Leaves w u (after w u)) :
    ((rel m c).withAfter after).arrAt 8 cfg0.N = GD m c := by
  refine Dat.arrAt_eq_of_covers _ 8 _ (by decide +kernel) (fun t hf y => ?_)
  have hf' := (flush0_8 t).mp hf
  have hl : after 8 t = stD m c t.val := (dat m c).toRRel_leaves (w := 8) rfl (hL 8 t hf)
  blk_simp
  rw [RDat.withAfter_after, hl]
  idx_bounds
  refine (GD_blk _ t.val y ?_ ?_ ?_).symm
  all_goals
    blk_simp [idx8 t]
    try omega
theorem arr9 (hL : ∀ w u, (cfg0.win w).flush u = true → (rel m c).Leaves w u (after w u)) :
    ((rel m c).withAfter after).arrAt 9 cfg0.N = GK m c := by
  refine Dat.arrAt_eq_of_covers _ 9 _ (by decide +kernel) (fun t hf y => ?_)
  have hf' := flush9 t hf
  have hl : after 9 t = k0_pay12 (stA m c t.val) := (dat m c).toRRel_leaves (w := 9) rfl (hL 9 t hf) hf'
  blk_simp
  rw [RDat.withAfter_after, hl]
  idx_bounds
  refine (GK_blk _ t.val y ?_ ?_ ?_).symm
  · unfold lastOf
    blk_simp [idx9 t]
    omega
  all_goals
    blk_simp [idx9 t]
    try omega
theorem arr10 (hL : ∀ w u, (cfg0.win w).flush u = true → (rel m c).Leaves w u (after w u)) :
    ((rel m c).withAfter after).arrAt 10 cfg0.N = GV m c := by
  refine Dat.arrAt_eq_of_covers _ 10 _ (by decide +kernel) (fun t hf y => ?_)
  have hf' := flush10 t hf
  have hl : after 10 t = k0_pay13 (stB m c t.val) := (dat m c).toRRel_leaves (w := 10) rfl (hL 10 t hf) hf'
  blk_simp
  rw [RDat.withAfter_after, hl]
  idx_bounds
  refine (GV_blk _ t.val y ?_ ?_ ?_).symm
  · unfold lastOf
    blk_simp [idx10 t]
    omega
  all_goals
    blk_simp [idx10 t]
    try omega
theorem arr11 (hL : ∀ w u, (cfg0.win w).flush u = true → (rel m c).Leaves w u (after w u)) :
    ((rel m c).withAfter after).arrAt 11 cfg0.N = GKc m c := by
  refine Dat.arrAt_eq_of_covers _ 11 _ (by decide +kernel) (fun t hf y => ?_)
  have hf' := (flush0_11 t).mp hf
  have hl : after 11 t = outK m c t.val := (dat m c).toRRel_leaves (w := 11) rfl (hL 11 t hf) (show 7 ≤ t.val % 72 by rw [hf']; decide)
  blk_simp
  rw [RDat.withAfter_after, hl]
  idx_bounds
  refine (GKc_blk _ t.val y ?_ ?_ ?_).symm
  all_goals
    blk_simp [idx11 t]
    try omega
theorem arr12 (hL : ∀ w u, (cfg0.win w).flush u = true → (rel m c).Leaves w u (after w u)) :
    ((rel m c).withAfter after).arrAt 12 cfg0.N = GVc m c := by
  refine Dat.arrAt_eq_of_covers _ 12 _ (by decide +kernel) (fun t hf y => ?_)
  have hf' := (flush0_12 t).mp hf
  have hl : after 12 t = outV m c t.val := (dat m c).toRRel_leaves (w := 12) rfl (hL 12 t hf) (show 7 ≤ t.val % 72 by rw [hf']; decide)
  blk_simp
  rw [RDat.withAfter_after, hl]
  idx_bounds
  refine (GVc_blk _ t.val y ?_ ?_ ?_).symm
  all_goals
    blk_simp [idx12 t]
    try omega

end Cert.KernelIdeal.Bwd

end
-- ==== Proof.Bwd.Run.lean ====
module

public import proofs.«01_k».proof.Proof.Bwd.Arrays
public import Idealize.ShloMosaic.Lib.Pipeline.ValueKit
public import Idealize.ShloMosaic.Lib.Pointwise

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat RDat Cfg)

variable {F : FTy → Type} [FloatOps F] [Named F]

local notation "𝕄" => MT nD τ sig Unit (Elt F) ℕ (UR sig nD τ) ℕ

/-! # The run with its results named -/

variable (m : (ℓ : Loc nD τ sig) → Buf (Elt F) ℓ) (ρ : Dev nD → PrngReg)

variable {r : PUnit × MemSt nD τ sig (Elt F)} (h : RDat.FramePost cfg0 (fun c => rel m c) (V m) r) (c : Dev nD)
include h

/-- Each result's array at the end. -/
theorem end8 : r.2.mem ((c.tc : Thread nD τ).loc main_v20_0) = GD m c := by
  obtain ⟨after, hL, hA⟩ := RDat.FramePost.exists_exact h c
  have h' := hA 8
  exact h'.trans (arr8 hL)
theorem end9 : r.2.mem ((c.tc : Thread nD τ).loc main_v20_1) = GK m c := by
  obtain ⟨after, hL, hA⟩ := RDat.FramePost.exists_exact h c
  have h' := hA 9
  exact h'.trans (arr9 hL)
theorem end10 : r.2.mem ((c.tc : Thread nD τ).loc main_v20_2) = GV m c := by
  obtain ⟨after, hL, hA⟩ := RDat.FramePost.exists_exact h c
  have h' := hA 10
  exact h'.trans (arr10 hL)
theorem end11 : r.2.mem ((c.tc : Thread nD τ).loc main_v20_3) = GKc m c := by
  obtain ⟨after, hL, hA⟩ := RDat.FramePost.exists_exact h c
  have h' := hA 11
  exact h'.trans (arr11 hL)
theorem end12 : r.2.mem ((c.tc : Thread nD τ).loc main_v20_4) = GVc m c := by
  obtain ⟨after, hL, hA⟩ := RDat.FramePost.exists_exact h c
  have h' := hA 12
  exact h'.trans (arr12 hL)

/-- Each argument's. -/
theorem same0 : r.2.mem ((c.tc : Thread nD τ).loc main_arg0) = m ((c.tc : Thread nD τ).loc main_arg0) :=
  (h.arr_in c 0 rfl).trans ((A_eq m c 0).trans (V_main_arg0 m c))
theorem same1 : r.2.mem ((c.tc : Thread nD τ).loc main_arg1) = m ((c.tc : Thread nD τ).loc main_arg1) :=
  (h.arr_in c 1 rfl).trans ((A_eq m c 1).trans (V_main_arg1 m c))
theorem same2 : r.2.mem ((c.tc : Thread nD τ).loc main_arg2) = m ((c.tc : Thread nD τ).loc main_arg2) :=
  (h.arr_in c 2 rfl).trans ((A_eq m c 2).trans (V_main_arg2 m c))
theorem same3 : r.2.mem ((c.tc : Thread nD τ).loc main_arg3) = m ((c.tc : Thread nD τ).loc main_arg3) :=
  (h.arr_in c 3 rfl).trans ((A_eq m c 3).trans (V_main_arg3 m c))
theorem same4 : r.2.mem ((c.tc : Thread nD τ).loc main_arg4) = m ((c.tc : Thread nD τ).loc main_arg4) :=
  (h.arr_in c 4 rfl).trans ((A_eq m c 4).trans (V_main_arg4 m c))
theorem same5 : r.2.mem ((c.tc : Thread nD τ).loc main_arg5) = m ((c.tc : Thread nD τ).loc main_arg5) :=
  (h.arr_in c 7 rfl).trans ((A_eq m c 7).trans (V_main_arg5 m c))

omit h

/-- The run with its five results named, the arguments unchanged and every counter at zero. -/
theorem run_values : θ_run defs (onTc (τ := τ) (main (F := F))) ⟨m, fun _ => 0, ρ⟩ (fun r => (∀ c : Dev nD,
      (r.2.mem ((c.tc : Thread nD τ).loc main_v20_0) = GD m c
      ∧ r.2.mem ((c.tc : Thread nD τ).loc main_v20_1) = GK m c
      ∧ r.2.mem ((c.tc : Thread nD τ).loc main_v20_2) = GV m c
      ∧ r.2.mem ((c.tc : Thread nD τ).loc main_v20_3) = GKc m c
      ∧ r.2.mem ((c.tc : Thread nD τ).loc main_v20_4) = GVc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨⟨end8 m h.1 c, end9 m h.1 c, end10 m h.1 c, end11 m h.1 c, end12 m h.1 c⟩,
    same0 m h.1 c, same1 m h.1 c, same2 m h.1 c, same3 m h.1 c, same4 m h.1 c, same5 m h.1 c⟩, h.2⟩) (run_rel m ρ)

end Cert.KernelIdeal.Bwd

end
-- ==== Proof.Bwd.Sums.lean ====
module

public import proofs.«01_k».proof.Proof.Bwd.Blocks
public import proofs.«01_k».proof.Proof.Bwd.State

@[expose] public section

set_option maxRecDepth 16384

noncomputable section

namespace Cert.KernelIdeal.Bwd

open Idealize.ShloMosaic Idealize.ShloMosaic.TcCoe
open Cert.KernelIdeal.Gen Cert.Attn

/-! # The running sums in closed form

A sum of the key or value gradients grows by a tile of queries at each point; the query gradient's rows of a tile grow
by a tile of keys each time the tile comes up. -/

section Put

variable (i : grid0.Coords)

/-- A row of the tile just put is the payload's. -/
theorem putQ_in (D : Vec Ideal S1x8192x96 .f32) (W : Vec Ideal S1x1024x96 .f32) (R : Fin 8192) (d : Fin 96) (h : R.val / 1024 = (i 2).val) :
    VecWindow.put (s := S1x8192x96) D (offQ i) ![1, 1024, 96] W (ix3 0 R d) = W (ix3 0 ⟨R.val % 1024, Nat.mod_lt _ (by decide)⟩ d) := by
  have hin : ∀ a : Fin 3, offQ i a ≤ ((ix3 0 R d : S1x8192x96.Idx) a).val ∧ ((ix3 0 R d : S1x8192x96.Idx) a).val < offQ i a + (![1, 1024, 96] : Fin 3 → ℕ) a := by
    intro a
    fin_cases a
    · exact ⟨Nat.le_refl 0, Nat.zero_lt_one⟩
    · show 1024 * (i 2).val ≤ R.val ∧ R.val < 1024 * (i 2).val + 1024
      omega
    · exact ⟨Nat.zero_le _, (Nat.zero_add 96).symm ▸ d.isLt⟩
  refine (dif_pos hin).trans (congrArg W (funext fun a => Fin.ext ?_))
  fin_cases a
  · rfl
  · show R.val - 1024 * (i 2).val = R.val % 1024
    omega
  · rfl

/-- A row of another tile is what it was. -/
theorem putQ_out (D : Vec Ideal S1x8192x96 .f32) (W : Vec Ideal S1x1024x96 .f32) (R : Fin 8192) (d : Fin 96) (h : R.val / 1024 ≠ (i 2).val) :
    VecWindow.put (s := S1x8192x96) D (offQ i) ![1, 1024, 96] W (ix3 0 R d) = D (ix3 0 R d) := by
  refine dif_neg fun hin => ?_
  have h1 : 1024 * (i 2).val ≤ R.val ∧ R.val < 1024 * (i 2).val + 1024 := hin 1
  omega

/-- The tile's rows before the point. -/
theorem winQ (D : Vec Ideal S1x8192x96 .f32) (R : Fin 8192) (d : Fin 96) (h : R.val / 1024 = (i 2).val) :
    VecWindow.window (s := S1x8192x96) D (offQ i) ![1, 1024, 96] (offQ_inb i) (ix3 0 ⟨R.val % 1024, Nat.mod_lt _ (by decide)⟩ d) = D (ix3 0 R d) := by
  refine congrArg D (funext fun a => Fin.ext ?_)
  fin_cases a
  · rfl
  · show 1024 * (i 2).val + 1 * (R.val % 1024) = R.val
    omega
  · show 0 + 1 * d.val = d.val
    omega

/-- The first rows of a scratch sum, put and read. -/
theorem put96 (A : Vec Ideal S1024x96 .f32) (W : Vec Ideal S256x96 .f32) (R : Fin 256) (d : Fin 96) :
    VecWindow.put (s := S1024x96) A ![0, 0] ![256, 96] W (ix2 ⟨R.val, by omega⟩ d) = W (ix2 R d) := by
  refine (dif_pos ?_).trans (congrArg W (funext fun a => Fin.ext ?_))
  · intro a
    fin_cases a
    · exact ⟨Nat.zero_le _, (Nat.zero_add 256).symm ▸ R.isLt⟩
    · exact ⟨Nat.zero_le _, (Nat.zero_add 96).symm ▸ d.isLt⟩
  · fin_cases a <;> rfl
theorem win96 (A : Vec Ideal S1024x96 .f32) (R : Fin 256) (d : Fin 96) :
    VecWindow.window (s := S1024x96) A ![0, 0] ![256, 96] top96_inb (ix2 R d) = A (ix2 ⟨R.val, by omega⟩ d) := by
  refine congrArg A (funext fun a => Fin.ext ?_)
  fin_cases a
  · show 0 + 1 * R.val = R.val
    omega
  · show 0 + 1 * d.val = d.val
    omega
theorem put64 (A : Vec Ideal S1024x64 .f32) (W : Vec Ideal S256x64 .f32) (R : Fin 256) (d : Fin 64) :
    VecWindow.put (s := S1024x64) A ![0, 0] ![256, 64] W (ix2 ⟨R.val, by omega⟩ d) = W (ix2 R d) := by
  refine (dif_pos ?_).trans (congrArg W (funext fun a => Fin.ext ?_))
  · intro a
    fin_cases a
    · exact ⟨Nat.zero_le _, (Nat.zero_add 256).symm ▸ R.isLt⟩
    · exact ⟨Nat.zero_le _, (Nat.zero_add 64).symm ▸ d.isLt⟩
  · fin_cases a <;> rfl
theorem win64 (A : Vec Ideal S1024x64 .f32) (R : Fin 256) (d : Fin 64) :
    VecWindow.window (s := S1024x64) A ![0, 0] ![256, 64] top64_inb (ix2 R d) = A (ix2 ⟨R.val, by omega⟩ d) := by
  refine congrArg A (funext fun a => Fin.ext ?_)
  fin_cases a
  · show 0 + 1 * R.val = R.val
    omega
  · show 0 + 1 * d.val = d.val
    omega

/-- The sums start at zero. -/
theorem zeroD (R : Fin 8192) (d : Fin 96) : k0_pay1 (F := Ideal) (ix3 0 R d) = ((0 : ℝ) : EReal) := by
  pointwise [k0_pay1]
  rfl
theorem zeroA (R : Fin 1024) (d : Fin 96) : k0_pay2 (F := Ideal) (ix2 R d) = ((0 : ℝ) : EReal) := by
  pointwise [k0_pay2]
  rfl
theorem zeroB (R : Fin 1024) (d : Fin 64) : k0_pay3 (F := Ideal) (ix2 R d) = ((0 : ℝ) : EReal) := by
  pointwise [k0_pay3]
  rfl

end Put

/-- How many keys the first `j` tiles hold: the context's 256, then 1024 each. -/
def keysTo (j : ℕ) : ℕ := if j = 0 then 0 else 256 + 1024 * (j - 1)

/-- How many keys row `R`'s gradient has gone through before point `n` of a head, and after it. -/
def seenBefore (n R : ℕ) : ℕ := if R / 1024 < n % 8 then keysTo (n / 8 + 1) else keysTo (n / 8)
def seen (n R : ℕ) : ℕ := if R / 1024 ≤ n % 8 then keysTo (n / 8 + 1) else keysTo (n / 8)

theorem keysTo_succ_ctx {j : ℕ} (h : j = 0) : keysTo (j + 1) = 0 + 256 := by subst h; rfl
theorem keysTo_ctx {j : ℕ} (h : j = 0) : keysTo j = 0 := by subst h; rfl
theorem keysTo_succ {j : ℕ} (h : j ≠ 0) : keysTo (j + 1) = (256 + 1024 * (j - 1)) + 1024 := by
  unfold keysTo; rw [if_neg (by omega)]; omega
theorem keysTo_pos {j : ℕ} (h : j ≠ 0) : keysTo j = 256 + 1024 * (j - 1) := if_neg h

theorem seenBefore_zero (R : ℕ) : seenBefore 0 R = 0 := rfl
theorem seenBefore_succ (n R : ℕ) (hR : R < 8192) : seenBefore (n + 1) R = seen n R := by
  have hR8 : R / 1024 < 8 := by omega
  generalize R / 1024 = q at hR8
  unfold seenBefore seen
  rcases Nat.lt_or_ge (n % 8) 7 with h | h
  · rw [show (n + 1) % 8 = n % 8 + 1 by omega, show (n + 1) / 8 = n / 8 by omega]
    simp only [Nat.lt_succ_iff]
  · rw [show (n + 1) % 8 = 0 by omega, show (n + 1) / 8 = n / 8 + 1 by omega, if_neg (by omega), if_pos (by omega)]

variable {m : (ℓ : Loc nD τ sig) → Buf (Elt Ideal) ℓ} {c : Dev nD} {q k : ℕ → Fin 96 → ℝ} {v o g : ℕ → Fin 64 → ℝ} {l : ℕ → ℝ} {h : Fin 8}

/-- One point's step of the query gradient. -/
theorem stepD_at (H : Head m c h q k v o g l) (t : Fin cfg0.N) (ht : t.val / 72 = h.val) (D : Vec Ideal S1x8192x96 .f32)
    (hD : ∀ (R : Fin 8192) (d : Fin 96), D (ix3 0 R d) = ((∑ x ∈ Finset.range (seenBefore (t.val % 72) R), dqAt q k v o g l R d x : ℝ) : EReal))
    (R : Fin 8192) (d : Fin 96) :
    stepD m c t D (ix3 0 R d) = ((∑ x ∈ Finset.range (seen (t.val % 72) R), dqAt q k v o g l R d x : ℝ) : EReal) := by
  have e2 := coord2 t
  have e8 : t.val % 72 % 8 = t.val % 8 := by omega
  have e9 : t.val % 72 / 8 = t.val / 8 % 9 := by omega
  unfold stepD
  by_cases hR : R.val / 1024 = t.val % 8
  · have hRr : 1024 * (t.val % 8) + R.val % 1024 = R.val := by omega
    have hs : seen (t.val % 72) R = keysTo (t.val / 8 % 9 + 1) := by
      unfold seen; rw [e8, e9, if_pos (le_of_eq hR)]
    have hb : seenBefore (t.val % 72) R = keysTo (t.val / 8 % 9) := by
      unfold seenBefore; rw [e8, e9, if_neg (by omega)]
    have hD' := hD R d
    rw [hb] at hD'
    refine (putQ_in _ D _ R d (hR.trans e2.symm)).trans ?_
    rw [hs]
    by_cases hj : t.val / 8 % 9 = 0
    · rw [if_pos hj]
      refine (dqC_at (rows_at H t ht) (ctxk_at H t ht) (ctxv_at H t ht) _ _ d).trans ?_
      refine (congrArg (· + _) ((winQ _ D R d (hR.trans e2.symm)).trans hD')).trans ?_
      dsimp only
      rw [hRr, keysTo_succ_ctx hj, keysTo_ctx hj, sum_range_add_fin, EReal.coe_add]
    · rw [if_neg hj]
      refine (dqM_at (rows_at H t ht) (keys_at H t ht hj) (vals_at H t ht hj) _ _ d).trans ?_
      refine (congrArg (· + _) ((winQ _ D R d (hR.trans e2.symm)).trans hD')).trans ?_
      dsimp only
      rw [hRr, keysTo_succ hj, keysTo_pos hj, sum_range_add_fin _ (256 + 1024 * (t.val / 8 % 9 - 1)) 1024, EReal.coe_add]
  · refine (putQ_out _ D _ R d (fun hh => hR (hh.trans e2))).trans ?_
    rw [hD R d]
    have : seenBefore (t.val % 72) R = seen (t.val % 72) R := by
      unfold seenBefore seen
      rw [e8]
      exact if_congr (by omega) rfl rfl
    rw [this]

/-- The query gradient's block after point `n` of a head. -/
theorem stD_at (H : Head m c h q k v o g l) (n : ℕ) (hn : n < 72) (R : Fin 8192) (d : Fin 96) :
    stD m c (72 * h.val + n) (ix3 0 R d) = ((∑ x ∈ Finset.range (seen n R), dqAt q k v o g l R d x : ℝ) : EReal) := by
  induction n generalizing R d with
  | zero =>
    rw [stD_pt]
    have hv : (pt (72 * h.val + 0)).val = 72 * h.val := Nat.mod_eq_of_lt (by omega)
    have := stepD_at H (pt (72 * h.val + 0)) (by rw [hv]; omega) (preD m c (72 * h.val + 0)) (fun R d => by
      unfold preD
      rw [if_pos (by omega), hv, show 72 * h.val % 72 = 0 by omega, seenBefore_zero, Finset.sum_range_zero]
      exact zeroD R d) R d
    rw [hv, show 72 * h.val % 72 = 0 by omega] at this
    exact this
  | succ n ih =>
    rw [stD_pt]
    have hv : (pt (72 * h.val + (n + 1))).val = 72 * h.val + (n + 1) := Nat.mod_eq_of_lt (by omega)
    have := stepD_at H (pt (72 * h.val + (n + 1))) (by rw [hv]; omega) (preD m c (72 * h.val + (n + 1))) (fun R d => by
      unfold preD
      rw [if_neg (by omega), hv, show (72 * h.val + (n + 1)) % 72 = n + 1 by omega, seenBefore_succ n R R.isLt]
      exact ih (by omega) R d) R d
    rw [hv, show (72 * h.val + (n + 1)) % 72 = n + 1 by omega] at this
    exact this

/-- The whole query gradient of a head. -/
theorem stD_last (H : Head m c h q k v o g l) (R : Fin 8192) (d : Fin 96) :
    stD m c (72 * h.val + 71) (ix3 0 R d) = ((∑ x ∈ Finset.range 8448, dqAt q k v o g l R d x : ℝ) : EReal) := by
  rw [stD_at H 71 (by decide) R d]
  have : seen 71 R = 8448 := by
    unfold seen
    rw [if_pos (by omega)]; rfl
  rw [this]

/-- The key gradient's sum over the queries gone through, for a tile of keys. -/
theorem stA_at (H : Head m c h q k v o g l) (n : ℕ) (hn : n / 72 = h.val) (hj : n / 8 % 9 ≠ 0) (R : Fin 1024) (d : Fin 96) :
    stA m c n (ix2 R d) = ((∑ r ∈ Finset.range (1024 * (n % 8) + 1024), dkAt q k v o g l (256 + 1024 * (n / 8 % 9 - 1) + R) d r : ℝ) : EReal) := by
  induction n using Nat.strong_induction_on generalizing R d with
  | _ n ih =>
    have hv : (pt n).val = n := Nat.mod_eq_of_lt (by omega)
    have hp : preA m c n (ix2 R d) = ((∑ r ∈ Finset.range (1024 * (n % 8)), dkAt q k v o g l (256 + 1024 * (n / 8 % 9 - 1) + R) d r : ℝ) : EReal) := by
      unfold preA
      by_cases h0 : n % 8 = 0
      · rw [if_pos h0, h0, Finset.sum_range_zero]; exact zeroA R d
      · rw [if_neg h0, ih (n - 1) (by omega) (by omega) (by omega) R d, show (n - 1) / 8 = n / 8 by omega,
          show 1024 * ((n - 1) % 8) + 1024 = 1024 * (n % 8) by omega]
    rw [stA_pt]
    unfold stepA
    rw [hv, if_neg hj]
    refine (dkM_at (rows_at H (pt n) (by rw [hv]; exact hn)) (keys_at H (pt n) (by rw [hv]; exact hn) (by rw [hv]; exact hj))
      (vals_at H (pt n) (by rw [hv]; exact hn) (by rw [hv]; exact hj)) _ R d).trans ?_
    rw [hp, hv, sum_range_add_fin, EReal.coe_add]

/-- The value gradient's sum over the queries gone through, for a tile of keys. -/
theorem stB_at (H : Head m c h q k v o g l) (n : ℕ) (hn : n / 72 = h.val) (hj : n / 8 % 9 ≠ 0) (R : Fin 1024) (d : Fin 64) :
    stB m c n (ix2 R d) = ((∑ r ∈ Finset.range (1024 * (n % 8) + 1024), dvAt q k g l (256 + 1024 * (n / 8 % 9 - 1) + R) d r : ℝ) : EReal) := by
  induction n using Nat.strong_induction_on generalizing R d with
  | _ n ih =>
    have hv : (pt n).val = n := Nat.mod_eq_of_lt (by omega)
    have hp : preB m c n (ix2 R d) = ((∑ r ∈ Finset.range (1024 * (n % 8)), dvAt q k g l (256 + 1024 * (n / 8 % 9 - 1) + R) d r : ℝ) : EReal) := by
      unfold preB
      by_cases h0 : n % 8 = 0
      · rw [if_pos h0, h0, Finset.sum_range_zero]; exact zeroB R d
      · rw [if_neg h0, ih (n - 1) (by omega) (by omega) (by omega) R d, show (n - 1) / 8 = n / 8 by omega,
          show 1024 * ((n - 1) % 8) + 1024 = 1024 * (n % 8) by omega]
    rw [stB_pt]
    unfold stepB
    rw [hv, if_neg hj]
    refine (dvM_at (rows_at H (pt n) (by rw [hv]; exact hn)) (keys_at H (pt n) (by rw [hv]; exact hn) (by rw [hv]; exact hj)) _ R d).trans ?_
    rw [hp, hv, sum_range_add_fin, EReal.coe_add]

/-- The context keys' gradient after a point over the context's keys. -/
theorem ctxA_at (H : Head m c h q k v o g l) (n : ℕ) (hn : n / 72 = h.val) (hj : n / 8 % 9 = 0) (R : Fin 256) (d : Fin 96) :
    ctxA m c (pt n) (preA m c n) (ix2 R d) = ((∑ r ∈ Finset.range (1024 * (n % 8) + 1024), dkAt q k v o g l R d r : ℝ) : EReal) := by
  induction n using Nat.strong_induction_on generalizing R d with
  | _ n ih =>
    have hv : (pt n).val = n := Nat.mod_eq_of_lt (by omega)
    have hp : preA m c n (ix2 ⟨R.val, by omega⟩ d) = ((∑ r ∈ Finset.range (1024 * (n % 8)), dkAt q k v o g l R d r : ℝ) : EReal) := by
      unfold preA
      by_cases h0 : n % 8 = 0
      · rw [if_pos h0, h0, Finset.sum_range_zero]; exact zeroA _ d
      · have hv' : (pt (n - 1)).val = n - 1 := Nat.mod_eq_of_lt (by omega)
        rw [if_neg h0, stA_pt]
        unfold stepA
        rw [hv', if_pos (by omega)]
        refine (put96 _ _ R d).trans ?_
        rw [ih (n - 1) (by omega) (by omega) (by omega) R d, show 1024 * ((n - 1) % 8) + 1024 = 1024 * (n % 8) by omega]
    unfold ctxA
    refine (dkC_at (rows_at H (pt n) (by rw [hv]; exact hn)) (ctxk_at H (pt n) (by rw [hv]; exact hn)) (ctxv_at H (pt n) (by rw [hv]; exact hn)) _ R d).trans ?_
    refine (congrArg (· + _) ((win96 _ R d).trans hp)).trans ?_
    rw [hv, Nat.zero_add, sum_range_add_fin, EReal.coe_add]

/-- The context values' gradient after a point over the context's keys. -/
theorem ctxB_at (H : Head m c h q k v o g l) (n : ℕ) (hn : n / 72 = h.val) (hj : n / 8 % 9 = 0) (R : Fin 256) (d : Fin 64) :
    ctxB m c (pt n) (preB m c n) (ix2 R d) = ((∑ r ∈ Finset.range (1024 * (n % 8) + 1024), dvAt q k g l R d r : ℝ) : EReal) := by
  induction n using Nat.strong_induction_on generalizing R d with
  | _ n ih =>
    have hv : (pt n).val = n := Nat.mod_eq_of_lt (by omega)
    have hp : preB m c n (ix2 ⟨R.val, by omega⟩ d) = ((∑ r ∈ Finset.range (1024 * (n % 8)), dvAt q k g l R d r : ℝ) : EReal) := by
      unfold preB
      by_cases h0 : n % 8 = 0
      · rw [if_pos h0, h0, Finset.sum_range_zero]; exact zeroB _ d
      · have hv' : (pt (n - 1)).val = n - 1 := Nat.mod_eq_of_lt (by omega)
        rw [if_neg h0, stB_pt]
        unfold stepB
        rw [hv', if_pos (by omega)]
        refine (put64 _ _ R d).trans ?_
        rw [ih (n - 1) (by omega) (by omega) (by omega) R d, show 1024 * ((n - 1) % 8) + 1024 = 1024 * (n % 8) by omega]
    unfold ctxB
    refine (dvC_at (rows_at H (pt n) (by rw [hv]; exact hn)) (ctxk_at H (pt n) (by rw [hv]; exact hn)) _ R d).trans ?_
    refine (congrArg (· + _) ((win64 _ R d).trans hp)).trans ?_
    rw [hv, Nat.zero_add, sum_range_add_fin, EReal.coe_add]

end Cert.KernelIdeal.Bwd

end
-- ==== Proof.Bwd.Value.lean ====
module

public import proofs.«01_k».proof.Proof.Bwd.Saved
public import proofs.«01_k».proof.Proof.Bwd.Sums
public import proofs.«01_k».proof.Proof.Bwd.Arrays
public import proofs.«01_k».proof.Proof.Math.Const

@[expose] public section

set_option maxRecDepth 16384

noncomputable section

namespace Cert.KernelIdeal.Bwd

open Idealize.ShloMosaic Idealize.ShloMosaic.TcCoe Idealize.ShloMosaic.StableHlo
open Cert.KernelIdeal Cert.KernelIdeal.Gen Cert.Attn

/-! # The call's results for one head, as real numbers -/

variable {m : (ℓ : Loc nD τ sig) → Buf (Elt Ideal) ℓ} {c : Dev nD}
variable {h : Fin 8} {q k : ℕ → Fin 96 → ℝ} {v g : ℕ → Fin 64 → ℝ}

/-- The program's arguments hold, for head `h`, the reals `q k v g`. -/
structure Args (m : (ℓ : Loc nD τ sig) → Buf (Elt Ideal) ℓ) (c : Dev nD) (h : Fin 8) (q k : ℕ → Fin 96 → ℝ) (v g : ℕ → Fin 64 → ℝ) : Prop where
  hq : ∀ (r : Fin 8192) (e : Fin 96), (m ((c.tc : Thread nD τ).loc main_arg0) : Vec Ideal S8x8192x96 .f32) (ix3 h r e) = ((q r e : ℝ) : EReal)
  hk : ∀ (r : Fin 8192) (e : Fin 96), (m ((c.tc : Thread nD τ).loc main_arg1) : Vec Ideal S8x8192x96 .f32) (ix3 h r e) = ((k (256 + r) e : ℝ) : EReal)
  hv : ∀ (r : Fin 8192) (e : Fin 64), (m ((c.tc : Thread nD τ).loc main_arg2) : Vec Ideal S8x8192x64 .f32) (ix3 h r e) = ((v (256 + r) e : ℝ) : EReal)
  hkc : ∀ (r : Fin 256) (e : Fin 96), (m ((c.tc : Thread nD τ).loc main_arg3) : Vec Ideal S8x256x96 .f32) (ix3 h r e) = ((k r e : ℝ) : EReal)
  hvc : ∀ (r : Fin 256) (e : Fin 64), (m ((c.tc : Thread nD τ).loc main_arg4) : Vec Ideal S8x256x64 .f32) (ix3 h r e) = ((v r e : ℝ) : EReal)
  hg : ∀ (r : Fin 8192) (e : Fin 64), (m ((c.tc : Thread nD τ).loc main_arg5) : Vec Ideal S8x8192x64 .f32) (ix3 h r e) = ((g r e : ℝ) : EReal)

variable (A : Args m c h q k v g)
include A

/-- The joined keys and values. -/
theorem joinK_real (x : Fin 8448) (d : Fin 96) :
    joinK (F := Ideal) (m ((c.tc : Thread nD τ).loc main_arg3)) (m ((c.tc : Thread nD τ).loc main_arg1)) (ix3 h x d) = ((k x d : ℝ) : EReal) := by
  rw [joinK_at]
  split
  · exact A.hkc _ d
  · rw [A.hk]
    simp only []
    rw [show 256 + (x.val - 256) = x.val by omega]
theorem joinV_real (x : Fin 8448) (d : Fin 64) :
    joinV (F := Ideal) (m ((c.tc : Thread nD τ).loc main_arg4)) (m ((c.tc : Thread nD τ).loc main_arg2)) (ix3 h x d) = ((v x d : ℝ) : EReal) := by
  rw [joinV_at]
  split
  · exact A.hvc _ d
  · rw [A.hv]
    simp only []
    rw [show 256 + (x.val - 256) = x.val by omega]

/-- A score, the row's largest, an exponential, the row's sum, a weight. -/
theorem SS_real (r : Fin 8192) (x : Fin 8448) : SS m c (ix3 h r x) = ((scr q k r x : ℝ) : EReal) := by
  unfold SS
  rw [scores_at]
  simp only [A.hq, joinK_real A, ← EReal.coe_mul, ← coe_sum, bits_scale]
  rfl
theorem tops_real (r : Fin 8192) : tops (SS m c) (ix3 h r 0) = ((top q k r : ℝ) : EReal) := by
  rw [tops_at]
  simp only [SS_real A, bits_bot]
  exact top_spec q k r
theorem exps_real (r : Fin 8192) (x : Fin 8448) : exps (SS m c) (ix3 h r x) = ((ex q k (top q k) r x : ℝ) : EReal) := by
  rw [exps_at, tops_real A, SS_real A, ← EReal.coe_sub, Ideal.exp_coe]
  rfl
theorem sums_real (r : Fin 8192) : sums (exps (SS m c)) (ix3 h r 0) = ((row q k (top q k) r : ℝ) : EReal) := by
  rw [sums_at]
  simp only [exps_real A, ← coe_sum]
  rfl
theorem weights_real (r : Fin 8192) (x : Fin 8448) :
    weights (exps (SS m c)) (ix3 h r x) = ((ex q k (top q k) r x / row q k (top q k) r : ℝ) : EReal) := by
  rw [weights_at, exps_real A, sums_real A, div_real _ (row_pos q k (top q k) r).ne']

/-- The saved output and logarithm. -/
theorem outs_real (r : Fin 8192) (d : Fin 64) : V m c main_v14 (ix3 h r d) = ((out q k v (top q k) r d : ℝ) : EReal) := by
  rw [saved_o, outs_at]
  simp only [weights_real A, joinV_real A, ← EReal.coe_mul, ← coe_sum]
  rfl
theorem logs_real (r : Fin 8192) : V m c main_v19 (ix3 h r 0) = ((lse q k (top q k) r : ℝ) : EReal) := by
  rw [saved_l, logs_at, tops_real A, sums_real A, log_real (row_pos q k (top q k) r), bits_two, log_real (by norm_num), ← EReal.coe_add,
    div_real _ log_two_ne]
  rfl

/-- What the call reads for the head. -/
theorem head : Head m c h q k v (out q k v (top q k)) g (lse q k (top q k)) where
  hq r e := by rw [V_main_arg0]; exact A.hq r e
  hk r e := by rw [V_main_arg1]; exact A.hk r e
  hv r e := by rw [V_main_arg2]; exact A.hv r e
  hkc r e := by rw [V_main_arg3]; exact A.hkc r e
  hvc r e := by rw [V_main_arg4]; exact A.hvc r e
  ho r e := outs_real A r e
  hl r := logs_real A r
  hg r e := by rw [V_main_arg5]; exact A.hg r e

omit A

/-- The stored blocks are the sums, a leading axis put before them. -/
theorem pay12_at (x : Vec Ideal S1024x96 .f32) (R : Fin 1024) (d : Fin 96) : k0_pay12 x (ix3 0 R d) = x (ix2 R d) := by
  unfold k0_pay12
  pointwise []
theorem pay13_at (x : Vec Ideal S1024x64 .f32) (R : Fin 1024) (d : Fin 64) : k0_pay13 x (ix3 0 R d) = x (ix2 R d) := by
  unfold k0_pay13
  pointwise []
theorem pay10_at (x : Vec Ideal S256x96 .f32) (R : Fin 256) (d : Fin 96) : k0_pay10 x (ix3 0 R d) = x (ix2 R d) := by
  unfold k0_pay10
  pointwise []
theorem pay11_at (x : Vec Ideal S256x64 .f32) (R : Fin 256) (d : Fin 64) : k0_pay11 x (ix3 0 R d) = x (ix2 R d) := by
  unfold k0_pay11
  pointwise []

/-- What one query's and one key's gradients get, in the softmax's terms. -/
theorem dqAt_eq (r : ℕ) (d : Fin 96) (x : ℕ) :
    dqAt q k v (out q k v (top q k)) g (lse q k (top q k)) r d x = dsc q k v g (top q k) r x * k x d := by
  unfold dqAt
  rw [mul_right_comm, grd_lse]
theorem dkAt_eq (x : ℕ) (d : Fin 96) (r : ℕ) :
    dkAt q k v (out q k v (top q k)) g (lse q k (top q k)) x d r = dsc q k v g (top q k) r x * q r d := by
  unfold dkAt
  rw [mul_comm (q r d), ← mul_assoc, grd_lse]
theorem dvAt_eq (x : ℕ) (d : Fin 64) (r : ℕ) :
    dvAt q k g (lse q k (top q k)) x d r = g r d * (ex q k (top q k) r x / row q k (top q k) r) := by
  unfold dvAt
  rw [wgt_lse, mul_comm]

include A

/-- The five results. -/
theorem GD_real (r : Fin 8192) (d : Fin 96) :
    GD m c (ix3 h r d) = ((∑ x : Fin 8448, dsc q k v g (top q k) r x * k x d : ℝ) : EReal) := by
  have e : GD m c (ix3 h r d) = stD m c (72 * h.val + 71) (ix3 0 r d) := rfl
  rw [e, stD_last (head A), Finset.sum_range]
  simp only [dqAt_eq]

theorem GK_real (r : Fin 8192) (d : Fin 96) :
    GK m c (ix3 h r d) = ((∑ x : Fin 8192, dsc q k v g (top q k) x (256 + r) * q x d : ℝ) : EReal) := by
  have e : GK m c (ix3 h r d) = k0_pay12 (stA m c (lastOf h.val r.val)) (ix3 0 ⟨r.val % 1024, Nat.mod_lt _ (by decide)⟩ d) := rfl
  have h1 : lastOf h.val r.val / 72 = h.val := by unfold lastOf; omega
  have h2 : lastOf h.val r.val / 8 % 9 = r.val / 1024 + 1 := by unfold lastOf; omega
  have h3 : lastOf h.val r.val % 8 = 7 := by unfold lastOf; omega
  rw [e, pay12_at, stA_at (head A) _ h1 (by rw [h2]; omega), h2, h3, Finset.sum_range]
  simp only [dkAt_eq]
  rw [show 256 + 1024 * (r.val / 1024 + 1 - 1) + r.val % 1024 = 256 + r.val by omega]

theorem GV_real (r : Fin 8192) (d : Fin 64) :
    GV m c (ix3 h r d) = ((∑ x : Fin 8192, g x d * (ex q k (top q k) x (256 + r) / row q k (top q k) x) : ℝ) : EReal) := by
  have e : GV m c (ix3 h r d) = k0_pay13 (stB m c (lastOf h.val r.val)) (ix3 0 ⟨r.val % 1024, Nat.mod_lt _ (by decide)⟩ d) := rfl
  have h1 : lastOf h.val r.val / 72 = h.val := by unfold lastOf; omega
  have h2 : lastOf h.val r.val / 8 % 9 = r.val / 1024 + 1 := by unfold lastOf; omega
  have h3 : lastOf h.val r.val % 8 = 7 := by unfold lastOf; omega
  rw [e, pay13_at, stB_at (head A) _ h1 (by rw [h2]; omega), h2, h3, Finset.sum_range]
  simp only [dvAt_eq]
  rw [show 256 + 1024 * (r.val / 1024 + 1 - 1) + r.val % 1024 = 256 + r.val by omega]

theorem GKc_real (r : Fin 256) (d : Fin 96) :
    GKc m c (ix3 h r d) = ((∑ x : Fin 8192, dsc q k v g (top q k) x r * q x d : ℝ) : EReal) := by
  have e : GKc m c (ix3 h r d) = outK m c (72 * h.val + 71) (ix3 0 r d) := rfl
  have h0 : ctxLast (72 * h.val + 71) = 72 * h.val + 7 := by unfold ctxLast; omega
  rw [e, outK, h0, pay10_at, ctxA_at (head A) _ (by omega) (by omega), show 1024 * ((72 * h.val + 7) % 8) + 1024 = 8192 by omega, Finset.sum_range]
  simp only [dkAt_eq]

theorem GVc_real (r : Fin 256) (d : Fin 64) :
    GVc m c (ix3 h r d) = ((∑ x : Fin 8192, g x d * (ex q k (top q k) x r / row q k (top q k) x) : ℝ) : EReal) := by
  have e : GVc m c (ix3 h r d) = outV m c (72 * h.val + 71) (ix3 0 r d) := rfl
  have h0 : ctxLast (72 * h.val + 71) = 72 * h.val + 7 := by unfold ctxLast; omega
  rw [e, outV, h0, pay11_at, ctxB_at (head A) _ (by omega) (by omega), show 1024 * ((72 * h.val + 7) % 8) + 1024 = 8192 by omega, Finset.sum_range]
  simp only [dvAt_eq]

end Cert.KernelIdeal.Bwd

end
-- ==== Proof.Finite.lean ====
module

public import proofs.«01_k».proof.Defs
public import proofs.«01_k».proof.Proof.Gen.Pre_finite
public import proofs.«01_k».proof.Proof.Math.Const
public import Idealize.ShloMosaic.Lib.ReduceAll

@[expose] public section

noncomputable section

namespace Cert.Pre_finite

open Cert.Pre_finite Cert.Pre_finite.Gen Idealize.ShloMosaic Idealize.ShloMosaic.StableHlo Idealize.ShloMosaic.TcCoe
open Cert.Attn

/-! # The precondition read: every entry of every argument is a real number -/

instance : Subsingleton S_.Idx := ⟨fun a b => funext fun x => x.elim0⟩

/-- An entry whose comparison came out true is a real. -/
theorem real_of_lt {x : EReal} (h : FloatOps.cmpf (F := Ideal) (φ := .f32) .olt (max x (-x)) (Ideal.ofBits .f32 0x7F800000#32) = 1#1) :
    x = ((x.toReal : ℝ) : EReal) := by
  refine real_of_abs ?_
  rw [bits_top] at h
  by_contra hn
  have : FloatOps.cmpf (F := Ideal) (φ := .f32) .olt (max x (-x)) (⊤ : EReal) = 0#1 := by
    show Ideal.cmp .olt (max x (-x)) (⊤ : EReal) = 0#1
    simp [Ideal.cmp, hn]
  rw [this] at h
  exact absurd h (by decide)

/-- If the conjunction over an array came out true, so did each entry's comparison. -/
theorem real_of_all {s : Shape} {axes : List (Fin s.rank)} (x : Vec Ideal s .f32) (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : x i = (((x i : EReal).toReal : ℝ) : EReal) :=
  real_of_lt (Host.reduce_andi_all _ _ h hu j e i)

/-- What the precondition says. -/
theorem reals (a0 a1 : Vec Ideal S8x8192x96 .f32) (a2 : Vec Ideal S8x8192x64 .f32) (a3 : Vec Ideal S8x256x96 .f32) (a4 : Vec Ideal S8x256x64 .f32) (a5 : Vec Ideal S8x8192x64 .f32)
    (h : fn (F := Ideal) a0 a1 a2 a3 a4 a5 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal))
      ∧ (∀ i, a4 i = (((a4 i : EReal).toReal : ℝ) : EReal)) ∧ (∀ i, a5 i = (((a5 i : EReal).toReal : ℝ) : EReal)) := by
  have e := congrFun h (Shape.Idx.first h_S_)
  unfold fn fn_part1 at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_all a0 _ _ _ _ h0, real_of_all a1 _ _ _ _ h1, real_of_all a2 _ _ _ _ h2, real_of_all a3 _ _ _ _ h3,
    real_of_all a4 _ _ _ _ h4, real_of_all a5 _ _ _ _ h5⟩

end Cert.Pre_finite

end
-- ==== Proof.Match.lean ====
module

public import proofs.«01_k».proof.Proof.Bwd.Run
public import proofs.«01_k».proof.Proof.Bwd.Value
public import proofs.«01_k».proof.Proof.Ref.Real
public import proofs.«01_k».proof.Proof.Finite

@[expose] public section

set_option maxRecDepth 16384

noncomputable section

namespace Cert.Proof

open Idealize.ShloMosaic Idealize.ShloMosaic.TcCoe
open Cert.KernelIdeal Cert.KernelIdeal.Bwd Cert.Attn

/-! # The two programs' results are equal -/

variable (m : (ℓ : Loc nD τ sig) → Buf (Elt Ideal) ℓ) (c : Dev nD)

/-- The call's six arguments. -/
abbrev aQ : Vec Ideal S8x8192x96 .f32 := m ((c.tc : Thread nD τ).loc main_arg0)
abbrev aK : Vec Ideal S8x8192x96 .f32 := m ((c.tc : Thread nD τ).loc main_arg1)
abbrev aV : Vec Ideal S8x8192x64 .f32 := m ((c.tc : Thread nD τ).loc main_arg2)
abbrev aKc : Vec Ideal S8x256x96 .f32 := m ((c.tc : Thread nD τ).loc main_arg3)
abbrev aVc : Vec Ideal S8x256x64 .f32 := m ((c.tc : Thread nD τ).loc main_arg4)
abbrev aG : Vec Ideal S8x8192x64 .f32 := m ((c.tc : Thread nD τ).loc main_arg5)

/-- The real entries of a head's rows, numbered by naturals; nought past the last row. -/
def rows96 (a : Vec Ideal S8x8192x96 .f32) (h : Fin 8) (r : ℕ) (e : Fin 96) : ℝ := if hr : r < 8192 then (a (ix3 h ⟨r, hr⟩ e) : EReal).toReal else 0
def rows64 (a : Vec Ideal S8x8192x64 .f32) (h : Fin 8) (r : ℕ) (e : Fin 64) : ℝ := if hr : r < 8192 then (a (ix3 h ⟨r, hr⟩ e) : EReal).toReal else 0

/-- The same of the context's rows followed by the sequence's. -/
def both96 (a : Vec Ideal S8x256x96 .f32) (b : Vec Ideal S8x8192x96 .f32) (h : Fin 8) (r : ℕ) (e : Fin 96) : ℝ :=
  if hr : r < 256 then (a (ix3 h ⟨r, hr⟩ e) : EReal).toReal else rows96 b h (r - 256) e
def both64 (a : Vec Ideal S8x256x64 .f32) (b : Vec Ideal S8x8192x64 .f32) (h : Fin 8) (r : ℕ) (e : Fin 64) : ℝ :=
  if hr : r < 256 then (a (ix3 h ⟨r, hr⟩ e) : EReal).toReal else rows64 b h (r - 256) e

variable {m}

/-- Under the precondition the arguments hold these reals. -/
theorem args (hm : Pre_KernelIdeal_finite m) (h : Fin 8) :
    Args m c h (rows96 (aQ m c) h) (both96 (aKc m c) (aK m c) h) (both64 (aVc m c) (aV m c) h) (rows64 (aG m c) h) := by
  obtain ⟨r0, r1, r2, r3, r4, r5⟩ := Cert.Pre_finite.reals _ _ _ _ _ _ (hm c)
  refine ⟨fun r e => (r0 _).trans ?_, fun r e => (r1 _).trans ?_, fun r e => (r2 _).trans ?_, fun r e => (r3 _).trans ?_,
    fun r e => (r4 _).trans ?_, fun r e => (r5 _).trans ?_⟩
  · unfold rows96; rw [dif_pos r.isLt]
  · unfold both96 rows96
    rw [dif_neg (by omega), dif_pos (by omega)]
    simp only [Nat.add_sub_cancel_left]
  · unfold both64 rows64
    rw [dif_neg (by omega), dif_pos (by omega)]
    simp only [Nat.add_sub_cancel_left]
  · unfold both96; rw [dif_pos r.isLt]
  · unfold both64; rw [dif_pos r.isLt]
  · unfold rows64; rw [dif_pos r.isLt]

/-- The same, as the reference's lemmas take them. -/
theorem refArgs (hm : Pre_KernelIdeal_finite m) (h : Fin 8) :
    Cert.ReferenceIdeal.Attn.Args (aQ m c) (aK m c) (aV m c) (aG m c) (aKc m c) (aVc m c) h
      (rows96 (aQ m c) h) (both96 (aKc m c) (aK m c) h) (both64 (aVc m c) (aV m c) h) (rows64 (aG m c) h) :=
  let A := args c hm h
  ⟨A.hq, A.hk, A.hv, A.hkc, A.hvc, A.hg⟩

open Cert.ReferenceIdeal.Attn in
/-- The queries' gradient. -/
theorem match_dq (hm : Pre_KernelIdeal_finite m) :
    dqT (dsT (dpT (aG m c) (valsT (aVc m c) (aV m c))) (expT (scoreT (aQ m c) (keysT (aKc m c) (aK m c))))) (keysT (aKc m c) (aK m c)) = GD m c := by
  funext i
  rw [eq_ix3 i]
  exact (dq_real (refArgs c hm _) _ _).trans (GD_real (args c hm _) _ _).symm

open Cert.ReferenceIdeal.Attn in
/-- The sequence's keys' and values'. -/
theorem match_dk (hm : Pre_KernelIdeal_finite m) :
    extractStridedSlice S8x8192x96 ![0, 256, 0] (dkT (dsT (dpT (aG m c) (valsT (aVc m c) (aV m c))) (expT (scoreT (aQ m c) (keysT (aKc m c) (aK m c))))) (aQ m c)) Cert.ReferenceIdeal.Gen.slices_S8x8448x96_S8x8192x96_0_256_0 = GK m c := by
  funext i
  rw [eq_ix3 i]
  exact ((seq96_at _ _ _ _).trans (dk_real (refArgs c hm _) _ _)).trans (GK_real (args c hm _) _ _).symm

open Cert.ReferenceIdeal.Attn in
theorem match_dv (hm : Pre_KernelIdeal_finite m) :
    extractStridedSlice S8x8192x64 ![0, 256, 0] (dvT (aG m c) (probT (expT (scoreT (aQ m c) (keysT (aKc m c) (aK m c)))))) Cert.ReferenceIdeal.Gen.slices_S8x8448x64_S8x8192x64_0_256_0 = GV m c := by
  funext i
  rw [eq_ix3 i]
  exact ((seq64_at _ _ _ _).trans (dv_real (refArgs c hm _) _ _)).trans (GV_real (args c hm _) _ _).symm

open Cert.ReferenceIdeal.Attn in
/-- The context's. -/
theorem match_dkc (hm : Pre_KernelIdeal_finite m) :
    extractStridedSlice S8x256x96 ![0, 0, 0] (dkT (dsT (dpT (aG m c) (valsT (aVc m c) (aV m c))) (expT (scoreT (aQ m c) (keysT (aKc m c) (aK m c))))) (aQ m c)) Cert.ReferenceIdeal.Gen.slices_S8x8448x96_S8x256x96_0_0_0 = GKc m c := by
  funext i
  rw [eq_ix3 i]
  exact ((ctx96_at _ _ _ _).trans (dk_real (refArgs c hm _) _ _)).trans (GKc_real (args c hm _) _ _).symm

open Cert.ReferenceIdeal.Attn in
theorem match_dvc (hm : Pre_KernelIdeal_finite m) :
    extractStridedSlice S8x256x64 ![0, 0, 0] (dvT (aG m c) (probT (expT (scoreT (aQ m c) (keysT (aKc m c) (aK m c)))))) Cert.ReferenceIdeal.Gen.slices_S8x8448x64_S8x256x64_0_0_0 = GVc m c := by
  funext i
  rw [eq_ix3 i]
  exact ((ctx64_at _ _ _ _).trans (dv_real (refArgs c hm _) _ _)).trans (GVc_real (args c hm _) _ _).symm

end Cert.Proof

end
-- ==== Proof.Printed.lean ====
module

public import Idealize.ShloMosaic.PureOps.Ideal
public import Idealize.ShloMosaic.PureOps.BitExact

@[expose] public section

noncomputable section

namespace Cert

open Idealize.ShloMosaic

/-- Where no name is read, a named number is the number printed. -/
abbrev printed : Named Bits := ⟨fun _ _ {_} b => b⟩

end Cert

end
-- ==== Proof.Fwd.Match.lean ====
module

public import proofs.«01_k».proof.Proof.Fwd.Value
public import proofs.«01_k».proof.Proof.Ref.Real
public import proofs.«01_k».proof.Proof.Bwd.Saved
public import proofs.«01_k».proof.Proof.Match
public import proofs.«01_k».proof.Proof.Printed
public import proofs.«01_k».proof.Proof.Gen.Kernel11
public import proofs.«01_k».proof.Proof.Gen.Reference11Ideal.Run
public import proofs.«01_k».proof.Proof.Gen.Pre_finite_forward
public import Idealize.ShloMosaic.Lib.Claim
public import Idealize.ShloMosaic.Lib.Quiescent

@[expose] public section

set_option maxRecDepth 16384

noncomputable section

namespace Cert.Kernel11Ideal.Fwd

open Idealize.ShloMosaic Idealize.ShloMosaic.TcCoe Idealize.SL.Sem
open Cert.Kernel11Ideal Cert.Kernel11Ideal.Gen Cert.Attn
open Cert.ReferenceIdeal.Attn (keysT valsT scoreT expT probT)
open Cert.KernelIdeal.Bwd (tops exps sums outs logs)
open Cert.Proof (rows96 both96)

/-! # The claims of the attention's forward call -/

/-- The reference's two results, in the terms the backward call's claim is proved with. -/
def outT {F : FTy → Type} [FloatOps F] (q k : Vec F S8x8192x96 .f32) (v : Vec F S8x8192x64 .f32) (kc : Vec F S8x256x96 .f32) (vc : Vec F S8x256x64 .f32) : Vec F S8x8192x64 .f32 :=
  outs (probT (expT (scoreT q (keysT kc k)))) (valsT vc v)
def logT {F : FTy → Type} [FloatOps F] (q k : Vec F S8x8192x96 .f32) (kc : Vec F S8x256x96 .f32) : Vec F S8x8192x1 .f32 :=
  logs (tops (scoreT q (keysT kc k))) (sums (exps (scoreT q (keysT kc k))))

/-- What the reference returns, in these terms. -/
theorem run_terms {F : FTy → Type} [FloatOps F] (m : (ℓ : Loc Cert.Reference11Ideal.nD Cert.Reference11Ideal.τ Cert.Reference11Ideal.sig) → Buf (Elt F) ℓ) (ρ : Dev Cert.Reference11Ideal.nD → PrngReg) :
    θ_run Cert.Reference11Ideal.defs (onTc (τ := Cert.Reference11Ideal.τ) (Cert.Reference11Ideal.main (F := F))) ⟨m, fun _ => 0, ρ⟩ fun r => ∀ c : Dev Cert.Reference11Ideal.nD,
      r.2.mem ((c.tc : Thread Cert.Reference11Ideal.nD Cert.Reference11Ideal.τ).loc Cert.Reference11Ideal.main_v23)
          = outT (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))
      ∧ r.2.mem ((c.tc : Thread Cert.Reference11Ideal.nD Cert.Reference11Ideal.τ).loc Cert.Reference11Ideal.main_v28)
          = logT (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg3))
      ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4) :=
  Cert.Reference11Ideal.Value.run m ρ

section Real

variable {Q K : Vec Ideal S8x8192x96 .f32} {Z : Vec Ideal S8x8192x64 .f32} {Kc : Vec Ideal S8x256x96 .f32} {Zc : Vec Ideal S8x256x64 .f32}
variable {h : Fin 8} {q k : ℕ → Fin 96 → ℝ} {z g : ℕ → Fin 64 → ℝ} {G : Vec Ideal S8x8192x64 .f32}
variable (A : Cert.ReferenceIdeal.Attn.Args Q K Z G Kc Zc h q k z g)
include A

/-- They are the softmax's output and the logarithm of the row's sum. -/
theorem outT_real {v : ℕ → Fin 64 → EReal} {V : Vec Ideal S8x8192x64 .f32} {Vc : Vec Ideal S8x256x64 .f32}
    (hv : ∀ (r : Fin 8192) (e : Fin 64), V (ix3 h r e) = v (256 + r) e) (hvc : ∀ (r : Fin 256) (e : Fin 64), Vc (ix3 h r e) = v r e)
    (r : Fin 8192) (d : Fin 64) : outT Q K V Kc Vc (ix3 h r d) = wout q k v (top q k) r d := by
  have hs : ∀ c : Fin 8448, valsT Vc V (ix3 h c d) = v c d := fun c => by
    rw [Cert.ReferenceIdeal.Attn.vals_at]
    split
    · exact hvc _ d
    · rw [hv]
      simp only []
      rw [show 256 + (c.val - 256) = c.val by omega]
  unfold outT
  rw [Cert.KernelIdeal.Bwd.outs_at]
  simp only [Cert.ReferenceIdeal.Attn.prob_real A, hs]
  rfl
theorem logT_real (r : Fin 8192) : logT Q K Kc (ix3 h r 0) = ((lse q k (top q k) r : ℝ) : EReal) := by
  have ht : tops (scoreT Q (keysT Kc K)) (ix3 h r 0) = ((top q k r : ℝ) : EReal) := by
    rw [Cert.KernelIdeal.Bwd.tops_at]
    simp only [Cert.ReferenceIdeal.Attn.score_real A, bits_bot]
    exact top_spec q k r
  have hs : sums (exps (scoreT Q (keysT Kc K))) (ix3 h r 0) = ((row q k (top q k) r : ℝ) : EReal) := by
    rw [Cert.KernelIdeal.Bwd.sums_at]
    simp only [Cert.KernelIdeal.Bwd.exps_at, ht, Cert.ReferenceIdeal.Attn.score_real A, ← EReal.coe_sub, Ideal.exp_coe, ← coe_sum]
    rfl
  unfold logT
  rw [Cert.KernelIdeal.Bwd.logs_at, ht, hs, log_real (row_pos q k (top q k) r), bits_two, log_real (by norm_num), ← EReal.coe_add, div_real _ log_two_ne]
  rfl

end Real

/-- What the precondition says. -/
theorem reals (a0 a1 : Vec Ideal S8x8192x96 .f32) (a2 : Vec Ideal S8x8192x64 .f32) (a3 : Vec Ideal S8x256x96 .f32) (a4 : Vec Ideal S8x256x64 .f32)
    (h : Cert.Pre_finite_forward.fn (F := Ideal) a0 a1 a2 a3 a4 = fun _ => 1#1) :
    (∀ i, a0 i = (((a0 i : EReal).toReal : ℝ) : EReal)) ∧ (∀ i, a1 i = (((a1 i : EReal).toReal : ℝ) : EReal))
      ∧ (∀ i, a3 i = (((a3 i : EReal).toReal : ℝ) : EReal)) := by
  have e := congrFun h (Shape.Idx.first Cert.Pre_finite_forward.Gen.h_S_)
  unfold Cert.Pre_finite_forward.fn at e
  obtain ⟨e, h3⟩ := IntOp.andi_eq_one.1 e
  obtain ⟨h0, h1⟩ := IntOp.andi_eq_one.1 e
  exact ⟨Cert.Pre_finite.real_of_all a0 _ _ _ _ h0, Cert.Pre_finite.real_of_all a1 _ _ _ _ h1, Cert.Pre_finite.real_of_all a3 _ _ _ _ h3⟩

/-- The values' rows, the context's followed by the sequence's, numbered by naturals; nought past the last one. -/
def vals (a : Vec Ideal S8x256x64 .f32) (b : Vec Ideal S8x8192x64 .f32) (h : Fin 8) (r : ℕ) (e : Fin 64) : EReal :=
  if hr : r < 256 then a (ix3 h ⟨r, hr⟩ e) else if hr : r - 256 < 8192 then b (ix3 h ⟨r - 256, hr⟩ e) else 0

variable {m : (ℓ : Loc nD τ sig) → Buf (Elt Ideal) ℓ} (c : Dev nD)

/-- Under the precondition the queries and the keys hold reals. -/
theorem args (hm : Pre_Kernel11Ideal_finite_forward m) (h : Fin 8) :
    Args m c h (rows96 (V m c main_arg0) h) (both96 (V m c main_arg3) (V m c main_arg1) h) (vals (V m c main_arg4) (V m c main_arg2) h) := by
  obtain ⟨r0, r1, r3⟩ := reals _ _ _ _ _ (hm c)
  refine ⟨fun r e => (r0 _).trans ?_, fun r e => (r1 _).trans ?_, fun r e => ?_, fun r e => (r3 _).trans ?_, fun r e => ?_⟩
  · unfold rows96; rw [dif_pos r.isLt]
  · unfold both96 rows96
    rw [dif_neg (by omega), dif_pos (by omega)]
    simp only [Nat.add_sub_cancel_left]
  · unfold vals
    rw [dif_neg (by omega), dif_pos (by omega)]
    simp only [Nat.add_sub_cancel_left]
  · unfold both96; rw [dif_pos r.isLt]
  · unfold vals; rw [dif_pos r.isLt]

/-- The same, as the reference's lemmas on the weights take them: with values of nought, which the weights don't depend on. -/
theorem refArgs (hm : Pre_Kernel11Ideal_finite_forward m) (h : Fin 8) :
    Cert.ReferenceIdeal.Attn.Args (V m c main_arg0) (V m c main_arg1) (fun _ => (0 : EReal)) (fun _ => (0 : EReal)) (V m c main_arg3) (fun _ => (0 : EReal)) h
      (rows96 (V m c main_arg0) h) (both96 (V m c main_arg3) (V m c main_arg1) h) (fun _ _ => 0) (fun _ _ => 0) :=
  let A := args c hm h
  ⟨A.hq, A.hk, fun _ _ => rfl, A.hkc, fun _ _ => rfl, fun _ _ => rfl⟩

/-- The two programs' results are equal. -/
theorem match_o (hm : Pre_Kernel11Ideal_finite_forward m) :
    outT (V m c main_arg0) (V m c main_arg1) (V m c main_arg2) (V m c main_arg3) (V m c main_arg4) = GO m c := by
  funext i
  rw [eq_ix3 i]
  exact (outT_real (refArgs c hm _) (args c hm _).hv (args c hm _).hvc _ _).trans (GO_real (args c hm _) _ _ _).symm
theorem match_l (hm : Pre_Kernel11Ideal_finite_forward m) :
    logT (V m c main_arg0) (V m c main_arg1) (V m c main_arg3) = GE m c := by
  funext i
  have hi : i = ix3 (i 0) (i 1) (0 : Fin 1) := (eq_ix3 i).trans (congrArg (ix3 (i 0) (i 1)) (Fin.fin_one_eq_zero (i 2)))
  rw [hi]
  exact (logT_real (refArgs c hm _) _).trans (GE_real (args c hm _) _ _).symm

/-- The kernel as printed is the one over the extended reals with its numbers as printed. -/
theorem defs_eq : Cert.Kernel11.defs (F := Bits) = @Cert.Kernel11Ideal.defs Bits _ printed _ :=
  congrArg (Pipeline.defs _) (congrArg Defs.onTc (funext fun l => funext fun a => match l, a with | 0, (_, _) => rfl))

/-- Each runs to its end and leaves its arguments and its counters alone. -/
theorem frame_P : quiescent_Kernel11 := fun m g _ => by
  rw [defs_eq]
  exact (θ_run (@Cert.Kernel11Ideal.defs Bits _ printed _) _ _).mono (fun _ h => ⟨fun c => (h.1 c).2, h.2⟩) (@run_values Bits _ printed m g)
theorem frame_PI : quiescent_Kernel11Ideal := fun m g _ =>
  (θ_run Cert.Kernel11Ideal.defs _ _).mono (fun _ h => ⟨fun c => (h.1 c).2, h.2⟩) (run_values m g)
theorem frame_PI_finite : quiescent_Kernel11Ideal_pre_finite_forward := fun m g _ => frame_PI m g trivial

/-- So does the reference. -/
theorem frame_RI : quiescent_Reference11Ideal := fun m g _ => by
  hlo_run
  · exact fun _ => ⟨trivial, trivial, trivial, trivial, trivial⟩
  · exact sem_eq_zero_of_no_sems (sig := Cert.Reference11Ideal.sig) rfl _
theorem frame_RI_finite : quiescent_Reference11Ideal_pre_finite_forward := fun m g _ => frame_RI m g trivial

/-- The two scalars given names are the ones the names stand for. -/
theorem named : preserves_Kernel11_Kernel11Ideal :=
  ⟨IdealRules.named_const.statement Cert.Kernel11Ideal.κ "q_factor" .f32 0x3E16C740#32 (((3424635 / 33554432) * (Real.log 2)⁻¹ : ℝ) : EReal) rfl,
    IdealRules.named_const.statement Cert.Kernel11Ideal.κ "inv_ln2" .f32 0x3FB8AA3B#32 (((Real.log 2)⁻¹ : ℝ) : EReal) rfl⟩

/-- Where the queries and the keys are finite the kernel's output and its log-sums are the reference's. -/
theorem equal : algebraic_Kernel11Ideal_Reference11Ideal_pre_finite_forward := by
  intro m g m' g' hm agree
  refine ⟨GO m, GE m,
    (θ_run Cert.Kernel11Ideal.defs _ _).mono (fun r h c => ?_) (run_values m g),
    (θ_run Cert.Reference11Ideal.defs _ _).mono (fun r h c => ?_) (run_terms m' g')⟩
  · exact ⟨(h.1 c).1.1, (h.1 c).1.2, (h.1 c).2⟩
  · obtain ⟨e0, e1, args⟩ := h c
    obtain ⟨a0, a1, a2, a3, a4⟩ := agree c
    simp only [a0, a1, a2, a3, a4] at e0 e1
    exact ⟨e0.trans (match_o c hm), e1.trans (match_l c hm), args⟩

end Cert.Kernel11Ideal.Fwd

end
-- ==== Proof.Ref.Frame.lean ====
module

public import proofs.«01_k».proof.Defs
public import proofs.«01_k».proof.Proof.Gen.ReferenceIdeal
public import proofs.«01_k».proof.Proof.Gen.Reference
public import proofs.«01_k».proof.Proof.Gen.Pre_finite
public import Idealize.ShloMosaic.Lib.Claim
public import Idealize.ShloMosaic.Lib.Quiescent

@[expose] public section

noncomputable section

namespace Cert.Proof

open Idealize.ShloMosaic Idealize.SL.Sem

/-! # The reference's frames -/

set_option maxHeartbeats 4000000 in
/-- The reference as it is run ends with its arguments as they were. -/
theorem frame_R : quiescent_Reference := by
  intro m g _
  hlo_run
  · exact fun _ => ⟨trivial, trivial, trivial, trivial, trivial, trivial⟩
  · exact sem_eq_zero_of_no_sems (sig := Cert.Reference.sig) rfl _

set_option maxHeartbeats 4000000 in
/-- So does the reference over the extended reals. -/
theorem frame_RI : quiescent_ReferenceIdeal := by
  intro m g _
  hlo_run
  · exact fun _ => ⟨trivial, trivial, trivial, trivial, trivial, trivial⟩
  · exact sem_eq_zero_of_no_sems (sig := Cert.ReferenceIdeal.sig) rfl _

/-- And under the precondition. -/
theorem frame_RI_finite : quiescent_ReferenceIdeal_pre_finite := fun m g _ => frame_RI m g trivial

end Cert.Proof

end
-- ==== Proof.lean ====
module

public import proofs.«01_k».proof.Proof.Lin.W13Dx
public import proofs.«01_k».proof.Proof.Lin.W13Dw
public import proofs.«01_k».proof.Proof.Lin.W2Dx
public import proofs.«01_k».proof.Proof.Lin.W2Dw
public import proofs.«01_k».proof.Proof.Lin.WInDx
public import proofs.«01_k».proof.Proof.Lin.WInDw
public import proofs.«01_k».proof.Proof.Lin.W13
public import proofs.«01_k».proof.Proof.Lin.W2
public import proofs.«01_k».proof.Proof.Lin.WIn
public import proofs.«01_k».proof.Proof.Lin.WOutDx
public import proofs.«01_k».proof.Proof.Lin.WOutDw
public import proofs.«01_k».proof.Proof.Lin.WOut
public import proofs.«01_k».proof.Proof.Lin.WGluDx
public import proofs.«01_k».proof.Proof.Lin.WGluDw
public import proofs.«01_k».proof.Proof.Lin.WGlu
public import proofs.«01_k».proof.Proof.Lin.WODx
public import proofs.«01_k».proof.Proof.Lin.WODw
public import proofs.«01_k».proof.Proof.Lin.WO
public import proofs.«01_k».proof.Proof.Lin.WUqDx
public import proofs.«01_k».proof.Proof.Lin.WUqDw
public import proofs.«01_k».proof.Proof.Lin.WUq
public import proofs.«01_k».proof.Proof.Lin.WUkvDx
public import proofs.«01_k».proof.Proof.Lin.WUkvDw
public import proofs.«01_k».proof.Proof.Lin.WUkv
public import proofs.«01_k».proof.Proof.Step.UpdateW13
public import proofs.«01_k».proof.Proof.Step.Norm
public import proofs.«01_k».proof.Proof.Step.Gate
public import proofs.«01_k».proof.Proof.Step.Act
public import proofs.«01_k».proof.Proof.Fwd.Match
public import proofs.«01_k».proof.Defs
public import proofs.«01_k».proof.Proof.Printed
public import proofs.«01_k».proof.Proof.Bwd.Run
public import proofs.«01_k».proof.Proof.Ref.Terms
public import proofs.«01_k».proof.Proof.Ref.Frame
public import proofs.«01_k».proof.Proof.Match
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_finite
public import Idealize.ShloMosaic.Adequacy
public import Idealize.ShloMosaic.Init

@[expose] public section

set_option maxRecDepth 16384

noncomputable section

namespace Cert.Proof

open Idealize.ShloMosaic Idealize.SL.Sem

/-- The kernel as printed is the one over the extended reals with its numbers as printed. -/
theorem defs_eq : Cert.Kernel.defs (F := Bits) = @Cert.KernelIdeal.defs Bits _ printed _ :=
  congrArg (Pipeline.defs _) (congrArg Defs.onTc (funext fun l => funext fun a => match l, a with | 0, (_, _) => rfl))

theorem main_eq : Cert.Kernel.main (F := Bits) = Cert.KernelIdeal.main (F := Bits) := by
  unfold Cert.Kernel.main Cert.KernelIdeal.main
  rfl

/-- The kernel as printed ends with its arguments as they were and every semaphore at nought. -/
theorem frame_P : quiescent_Kernel := fun m g _ => by
  rw [defs_eq, main_eq]
  exact (θ_run (@Cert.KernelIdeal.defs Bits _ printed _) _ _).mono (fun _ h => ⟨fun c => (h.1 c).2, h.2⟩) (@Cert.KernelIdeal.Bwd.run_values Bits _ printed m g)

/-- So does the kernel over the extended reals. -/
theorem frame_PI : quiescent_KernelIdeal := fun m g _ =>
  (θ_run Cert.KernelIdeal.defs _ _).mono (fun _ h => ⟨fun c => (h.1 c).2, h.2⟩) (Cert.KernelIdeal.Bwd.run_values m g)

/-- And under the precondition. -/
theorem frame_PI_finite : quiescent_KernelIdeal_pre_finite := fun m g _ => frame_PI m g trivial

/-- The two scalars given names are the ones the names stand for. -/
theorem named : preserves_Kernel_KernelIdeal :=
  ⟨IdealRules.named_const.statement Cert.KernelIdeal.κ "q_factor" .f32 0x3E16C740#32 (((3424635 / 33554432) * (Real.log 2)⁻¹ : ℝ) : EReal) rfl,
    IdealRules.named_const.statement Cert.KernelIdeal.κ "ln2" .f32 0x3F317218#32 ((Real.log 2 : ℝ) : EReal) rfl⟩

/-- Where every argument is finite the kernel's five gradients are the reference's. -/
theorem equal : algebraic_KernelIdeal_ReferenceIdeal_pre_finite := by
  intro m g m' g' hm agree
  refine ⟨Cert.KernelIdeal.Bwd.GD m, Cert.KernelIdeal.Bwd.GK m, Cert.KernelIdeal.Bwd.GV m, Cert.KernelIdeal.Bwd.GKc m, Cert.KernelIdeal.Bwd.GVc m,
    (θ_run Cert.KernelIdeal.defs _ _).mono (fun r h c => ?_) (Cert.KernelIdeal.Bwd.run_values m g),
    (θ_run Cert.ReferenceIdeal.defs _ _).mono (fun r h c => ?_) (Cert.ReferenceIdeal.Attn.run_terms m' g')⟩
  · exact ⟨(h.1 c).1.1, (h.1 c).1.2.1, (h.1 c).1.2.2.1, (h.1 c).1.2.2.2.1, (h.1 c).1.2.2.2.2, (h.1 c).2⟩
  · obtain ⟨e0, e1, e2, e3, e4, args⟩ := h c
    obtain ⟨a0, a1, a2, a3, a4, a5⟩ := agree c
    simp only [Cert.ReferenceIdeal.Attn.DS, Cert.ReferenceIdeal.Attn.EE, Cert.ReferenceIdeal.Attn.KK, Cert.ReferenceIdeal.Attn.VV, a0, a1, a2, a3, a4, a5] at e0 e1 e2 e3 e4
    exact ⟨e0.trans (match_dq c hm), e1.trans (match_dk c hm), e2.trans (match_dv c hm), e3.trans (match_dkc c hm),
      e4.trans (match_dvc c hm), args⟩

/-- Every claim. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Pre_finite.Gen.facts, Cert.Pre_finite_forward.Gen.facts,
  frame_P, frame_PI, frame_PI_finite, frame_RI, frame_RI_finite, frame_R,
  Cert.Kernel2Ideal.Lin.frame_P, Cert.Kernel2Ideal.Lin.frame_PI, Cert.Kernel2Ideal.Lin.frame_RI,
  Cert.Kernel3Ideal.Lin.frame_P, Cert.Kernel3Ideal.Lin.frame_PI, Cert.Kernel3Ideal.Lin.frame_RI,
  Cert.Kernel4Ideal.Lin.frame_P, Cert.Kernel4Ideal.Lin.frame_PI, Cert.Kernel4Ideal.Lin.frame_RI,
  Cert.Kernel5Ideal.Lin.frame_P, Cert.Kernel5Ideal.Lin.frame_PI, Cert.Kernel5Ideal.Lin.frame_RI,
  Cert.Kernel6Ideal.Lin.frame_P, Cert.Kernel6Ideal.Lin.frame_PI, Cert.Kernel6Ideal.Lin.frame_RI,
  Cert.Kernel7Ideal.Lin.frame_P, Cert.Kernel7Ideal.Lin.frame_PI, Cert.Kernel7Ideal.Lin.frame_RI,
  Cert.Kernel8Ideal.Lin.frame_P, Cert.Kernel8Ideal.Lin.frame_PI, Cert.Kernel8Ideal.Lin.frame_RI,
  Cert.Kernel9Ideal.Lin.frame_P, Cert.Kernel9Ideal.Lin.frame_PI, Cert.Kernel9Ideal.Lin.frame_RI,
  Cert.Kernel10Ideal.Lin.frame_P, Cert.Kernel10Ideal.Lin.frame_PI, Cert.Kernel10Ideal.Lin.frame_RI,
  Cert.Kernel11Ideal.Fwd.frame_P, Cert.Kernel11Ideal.Fwd.frame_PI, Cert.Kernel11Ideal.Fwd.frame_PI_finite, Cert.Kernel11Ideal.Fwd.frame_RI, Cert.Kernel11Ideal.Fwd.frame_RI_finite,
  Cert.Kernel12Ideal.Lin.frame_P, Cert.Kernel12Ideal.Lin.frame_PI, Cert.Kernel12Ideal.Lin.frame_RI,
  Cert.Kernel13Ideal.Lin.frame_P, Cert.Kernel13Ideal.Lin.frame_PI, Cert.Kernel13Ideal.Lin.frame_RI,
  Cert.Kernel14Ideal.Lin.frame_P, Cert.Kernel14Ideal.Lin.frame_PI, Cert.Kernel14Ideal.Lin.frame_RI,
  Cert.Kernel15Ideal.Lin.frame_P, Cert.Kernel15Ideal.Lin.frame_PI, Cert.Kernel15Ideal.Lin.frame_RI,
  Cert.Kernel16Ideal.Lin.frame_P, Cert.Kernel16Ideal.Lin.frame_PI, Cert.Kernel16Ideal.Lin.frame_RI,
  Cert.Kernel17Ideal.Lin.frame_P, Cert.Kernel17Ideal.Lin.frame_PI, Cert.Kernel17Ideal.Lin.frame_RI,
  Cert.Kernel18Ideal.Lin.frame_P, Cert.Kernel18Ideal.Lin.frame_PI, Cert.Kernel18Ideal.Lin.frame_RI,
  Cert.Kernel19Ideal.Lin.frame_P, Cert.Kernel19Ideal.Lin.frame_PI, Cert.Kernel19Ideal.Lin.frame_RI,
  Cert.Kernel20Ideal.Lin.frame_P, Cert.Kernel20Ideal.Lin.frame_PI, Cert.Kernel20Ideal.Lin.frame_RI,
  Cert.Kernel21Ideal.Lin.frame_P, Cert.Kernel21Ideal.Lin.frame_PI, Cert.Kernel21Ideal.Lin.frame_RI,
  Cert.Kernel22Ideal.Lin.frame_P, Cert.Kernel22Ideal.Lin.frame_PI, Cert.Kernel22Ideal.Lin.frame_RI,
  Cert.Kernel23Ideal.Lin.frame_P, Cert.Kernel23Ideal.Lin.frame_PI, Cert.Kernel23Ideal.Lin.frame_RI,
  Cert.Kernel24Ideal.Lin.frame_P, Cert.Kernel24Ideal.Lin.frame_PI, Cert.Kernel24Ideal.Lin.frame_RI,
  Cert.Kernel25Ideal.Lin.frame_P, Cert.Kernel25Ideal.Lin.frame_PI, Cert.Kernel25Ideal.Lin.frame_RI,
  Cert.Kernel26Ideal.Lin.frame_P, Cert.Kernel26Ideal.Lin.frame_PI, Cert.Kernel26Ideal.Lin.frame_RI,
  Cert.Kernel27Ideal.Step.frame_P, Cert.Kernel27Ideal.Step.frame_PI, Cert.Kernel27Ideal.Step.frame_RI,
  Cert.Kernel28Ideal.Step.frame_P, Cert.Kernel28Ideal.Step.frame_PI, Cert.Kernel28Ideal.Step.frame_RI,
  Cert.Kernel29Ideal.Step.frame_P, Cert.Kernel29Ideal.Step.frame_PI, Cert.Kernel29Ideal.Step.frame_RI,
  Cert.Kernel30Ideal.Step.frame_P, Cert.Kernel30Ideal.Step.frame_PI, Cert.Kernel30Ideal.Step.frame_RI,
  named, trivial, equal,
  trivial, Cert.Kernel2Ideal.Lin.equal,
  trivial, Cert.Kernel3Ideal.Lin.equal,
  trivial, Cert.Kernel4Ideal.Lin.equal,
  trivial, Cert.Kernel5Ideal.Lin.equal,
  trivial, Cert.Kernel6Ideal.Lin.equal,
  trivial, Cert.Kernel7Ideal.Lin.equal,
  trivial, Cert.Kernel8Ideal.Lin.equal,
  trivial, Cert.Kernel9Ideal.Lin.equal,
  trivial, Cert.Kernel10Ideal.Lin.equal,
  Cert.Kernel11Ideal.Fwd.named, Cert.Kernel11Ideal.Fwd.equal,
  trivial, Cert.Kernel12Ideal.Lin.equal,
  trivial, Cert.Kernel13Ideal.Lin.equal,
  trivial, Cert.Kernel14Ideal.Lin.equal,
  trivial, Cert.Kernel15Ideal.Lin.equal,
  trivial, Cert.Kernel16Ideal.Lin.equal,
  trivial, Cert.Kernel17Ideal.Lin.equal,
  trivial, Cert.Kernel18Ideal.Lin.equal,
  trivial, Cert.Kernel19Ideal.Lin.equal,
  trivial, Cert.Kernel20Ideal.Lin.equal,
  trivial, Cert.Kernel21Ideal.Lin.equal,
  trivial, Cert.Kernel22Ideal.Lin.equal,
  trivial, Cert.Kernel23Ideal.Lin.equal,
  trivial, Cert.Kernel24Ideal.Lin.equal,
  trivial, Cert.Kernel25Ideal.Lin.equal,
  trivial, Cert.Kernel26Ideal.Lin.equal,
  trivial, Cert.Kernel27Ideal.Step.equal,
  trivial, Cert.Kernel28Ideal.Step.equal,
  trivial, Cert.Kernel29Ideal.Step.equal,
  trivial, Cert.Kernel30Ideal.Step.equal⟩

end Cert.Proof

end
